-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_KernelIdeal_real_router [hPre_real_router : Cert.Pre_real_router.Facts] (m : (ℓ : Loc Cert.KernelIdeal.nD Cert.KernelIdeal.τ Cert.KernelIdeal.sig) → Buf (Elt Ideal) ℓ) : Prop :=
  ∀ c : Dev Cert.KernelIdeal.nD,
    (Cert.Pre_real_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def Pre_ReferenceIdeal_real_router [hPre_real_router : Cert.Pre_real_router.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_real_router [hKernelIdeal : Cert.KernelIdeal.Facts] [hPre_real_router : Cert.Pre_real_router.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_router m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_real_router [hReferenceIdeal : Cert.ReferenceIdeal.Facts] [hPre_real_router : Cert.Pre_real_router.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_router m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_real_router [hKernelIdeal : Cert.KernelIdeal.Facts] [hReferenceIdeal : Cert.ReferenceIdeal.Facts] [hPre_real_router : Cert.Pre_real_router.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_router m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_in_range : Cert.Pre_in_range.Facts) (hPre_real_router : Cert.Pre_real_router.Facts),
    quiescent_Kernel (hKernel := hKernel) (hPre_in_range := hPre_in_range)
    ∧ quiescent_KernelIdeal (hKernelIdeal := hKernelIdeal) (hPre_in_range := hPre_in_range)
    ∧ quiescent_KernelIdeal_pre_real_router (hKernelIdeal := hKernelIdeal) (hPre_real_router := hPre_real_router)
    ∧ quiescent_ReferenceIdeal (hReferenceIdeal := hReferenceIdeal) (hPre_in_range := hPre_in_range)
    ∧ quiescent_ReferenceIdeal_pre_real_router (hReferenceIdeal := hReferenceIdeal) (hPre_real_router := hPre_real_router)
    ∧ preserves_Kernel_KernelIdeal
    ∧ algebraic_KernelIdeal_ReferenceIdeal_pre_real_router (hKernelIdeal := hKernelIdeal) (hReferenceIdeal := hReferenceIdeal) (hPre_real_router := hPre_real_router)
-- ==== Pre_in_range.lean ====
abbrev S1x2048 : Shape := ⟨2, ![1, 2048]⟩
abbrev S32000x128 : Shape := ⟨2, ![32000, 128]⟩
abbrev S2048x128 : Shape := ⟨2, ![2048, 128]⟩
abbrev S128 : Shape := ⟨1, ![128]⟩
abbrev S128x8 : Shape := ⟨2, ![128, 8]⟩
abbrev S8 : Shape := ⟨1, ![8]⟩
abbrev S8x128x512 : Shape := ⟨3, ![8, 128, 512]⟩
abbrev S8x512 : Shape := ⟨2, ![8, 512]⟩
abbrev S8x512x128 : Shape := ⟨3, ![8, 512, 128]⟩
abbrev S8x128 : Shape := ⟨2, ![8, 128]⟩
abbrev S128x32000 : Shape := ⟨2, ![128, 32000]⟩
abbrev S32000 : Shape := ⟨1, ![32000]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel

variable [Facts]

def fn {F : FTy → Type} [FloatOps F] (main_arg0 : IVec S1x2048 32) (main_arg1 : FVec F S32000x128 .f32) (main_arg2 : FVec F S2048x128 .f32) (main_arg3 : FVec F S128 .f32) (main_arg4 : FVec F S128 .f32) (main_arg5 : FVec F S128x8 .f32) (main_arg6 : FVec F S8 .f32) (main_arg7 : FVec F S8x128x512 .f32) (main_arg8 : FVec F S8x512 .f32) (main_arg9 : FVec F S8x512x128 .f32) (main_arg10 : FVec F S8x128 .f32) (main_arg11 : FVec F S128 .f32) (main_arg12 : FVec F S128 .f32) (main_arg13 : FVec F S128x32000 .f32) (main_arg14 : FVec F S32000 .f32) : IVec S_ 1 :=
  let main_c : IVec S_ 32 := constantI S_ 32 0#32
  let main_v0 : IVec S1x2048 32 := broadcastInDim S1x2048 ![] bcast_S_S1x2048 main_c
  let main_v1 : IVec S1x2048 1 := cmpi .sge main_arg0 main_v0
  let main_c_0 : IVec S_ 1 := constantI S_ 1 1#1
  let main_v2 : IVec S_ 1 := (fun x v => Host.reduce IntOp.andi x v reducesTo_S1x2048_S_d0_1 h_S_) main_v1 main_c_0
  let main_c_1 : IVec S_ 32 := constantI S_ 32 32000#32
  let main_v3 : IVec S1x2048 32 := broadcastInDim S1x2048 ![] bcast_S_S1x2048 main_c_1
  let main_v4 : IVec S1x2048 1 := cmpi .slt main_arg0 main_v3
  let main_c_2 : IVec S_ 1 := constantI S_ 1 1#1
  let main_v5 : IVec S_ 1 := (fun x v => Host.reduce IntOp.andi x v reducesTo_S1x2048_S_d0_1 h_S_) main_v4 main_c_2
  let main_v6 : IVec S_ 1 := andi main_v2 main_v5
  main_v6
-- ==== Pre_real_router.lean ====
abbrev S1x2048 : Shape := ⟨2, ![1, 2048]⟩
abbrev S32000x128 : Shape := ⟨2, ![32000, 128]⟩
abbrev S2048x128 : Shape := ⟨2, ![2048, 128]⟩
abbrev S128 : Shape := ⟨1, ![128]⟩
abbrev S128x8 : Shape := ⟨2, ![128, 8]⟩
abbrev S8 : Shape := ⟨1, ![8]⟩
abbrev S8x128x512 : Shape := ⟨3, ![8, 128, 512]⟩
abbrev S8x512 : Shape := ⟨2, ![8, 512]⟩
abbrev S8x512x128 : Shape := ⟨3, ![8, 512, 128]⟩
abbrev S8x128 : Shape := ⟨2, ![8, 128]⟩
abbrev S128x32000 : Shape := ⟨2, ![128, 32000]⟩
abbrev S32000 : Shape := ⟨1, ![32000]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S128x8 .f32) (main_arg6 : FVec F S8 .f32) (main_v6 : IVec S_ 1) (main_v15 : IVec S_ 1) : IVec S_ 1 :=
  let main_v16 : FVec F S128x8 .f32 := Host.absf main_arg5
  let main_cst_6 : FVec F S_ .f32 := constant S_ .f32 0x7F800000#32
  let main_v17 : FVec F S128x8 .f32 := broadcastInDim S128x8 ![] bcast_S_S128x8 main_cst_6
  let main_v18 : IVec S128x8 1 := cmpf .olt main_v16 main_v17
  let main_c_7 : IVec S_ 1 := constantI S_ 1 1#1
  let main_v19 : IVec S_ 1 := (fun x v => Host.reduce IntOp.andi x v reducesTo_S128x8_S_d0_1 h_S_) main_v18 main_c_7
  let main_v20 : FVec F S8 .f32 := Host.absf main_arg6
  let main_cst_8 : FVec F S_ .f32 := constant S_ .f32 0x7F800000#32
  let main_v21 : FVec F S8 .f32 := broadcastInDim S8 ![] bcast_S_S8 main_cst_8
  let main_v22 : IVec S8 1 := cmpf .olt main_v20 main_v21
  let main_c_9 : IVec S_ 1 := constantI S_ 1 1#1
  let main_v23 : IVec S_ 1 := (fun x v => Host.reduce IntOp.andi x v reducesTo_S8_S_d0 h_S_) main_v22 main_c_9
  let main_v24 : IVec S_ 1 := andi main_v19 main_v23
  let main_v25 : IVec S_ 1 := andi main_v15 main_v24
  let main_v26 : IVec S_ 1 := andi main_v6 main_v25
  main_v26

def fn {F : FTy → Type} [FloatOps F] (main_arg0 : IVec S1x2048 32) (main_arg1 : FVec F S32000x128 .f32) (main_arg2 : FVec F S2048x128 .f32) (main_arg3 : FVec F S128 .f32) (main_arg4 : FVec F S128 .f32) (main_arg5 : FVec F S128x8 .f32) (main_arg6 : FVec F S8 .f32) (main_arg7 : FVec F S8x128x512 .f32) (main_arg8 : FVec F S8x512 .f32) (main_arg9 : FVec F S8x512x128 .f32) (main_arg10 : FVec F S8x128 .f32) (main_arg11 : FVec F S128 .f32) (main_arg12 : FVec F S128 .f32) (main_arg13 : FVec F S128x32000 .f32) (main_arg14 : FVec F S32000 .f32) : IVec S_ 1 :=
  let main_c : IVec S_ 32 := constantI S_ 32 0#32
  let main_v0 : IVec S1x2048 32 := broadcastInDim S1x2048 ![] bcast_S_S1x2048 main_c
  let main_v1 : IVec S1x2048 1 := cmpi .sge main_arg0 main_v0
  let main_c_0 : IVec S_ 1 := constantI S_ 1 1#1
  let main_v2 : IVec S_ 1 := (fun x v => Host.reduce IntOp.andi x v reducesTo_S1x2048_S_d0_1 h_S_) main_v1 main_c_0
  let main_c_1 : IVec S_ 32 := constantI S_ 32 32000#32
  let main_v3 : IVec S1x2048 32 := broadcastInDim S1x2048 ![] bcast_S_S1x2048 main_c_1
  let main_v4 : IVec S1x2048 1 := cmpi .slt main_arg0 main_v3
  let main_c_2 : IVec S_ 1 := constantI S_ 1 1#1
  let main_v5 : IVec S_ 1 := (fun x v => Host.reduce IntOp.andi x v reducesTo_S1x2048_S_d0_1 h_S_) main_v4 main_c_2
  let main_v6 : IVec S_ 1 := andi main_v2 main_v5
  let main_v7 : FVec F S128 .f32 := Host.absf main_arg3
  let main_cst : FVec F S_ .f32 := constant S_ .f32 0x7F800000#32
  let main_v8 : FVec F S128 .f32 := broadcastInDim S128 ![] bcast_S_S128 main_cst
  let main_v9 : IVec S128 1 := cmpf .olt main_v7 main_v8
  let main_c_3 : IVec S_ 1 := constantI S_ 1 1#1
  let main_v10 : IVec S_ 1 := (fun x v => Host.reduce IntOp.andi x v reducesTo_S128_S_d0 h_S_) main_v9 main_c_3
  let main_v11 : FVec F S128 .f32 := Host.absf main_arg4
  let main_cst_4 : FVec F S_ .f32 := constant S_ .f32 0x7F800000#32
  let main_v12 : FVec F S128 .f32 := broadcastInDim S128 ![] bcast_S_S128 main_cst_4
  let main_v13 : IVec S128 1 := cmpf .olt main_v11 main_v12
  let main_c_5 : IVec S_ 1 := constantI S_ 1 1#1
  let main_v14 : IVec S_ 1 := (fun x v => Host.reduce IntOp.andi x v reducesTo_S128_S_d0 h_S_) main_v13 main_c_5
  let main_v15 : IVec S_ 1 := andi main_v10 main_v14
  fn_part1 (F := F) main_arg5 main_arg6 main_v6 main_v15
-- ==== Kernel.lean ====
abbrev S1x2048 : Shape := ⟨2, ![1, 2048]⟩
abbrev S32000x128 : Shape := ⟨2, ![32000, 128]⟩
abbrev S2048x128 : Shape := ⟨2, ![2048, 128]⟩
abbrev S128 : Shape := ⟨1, ![128]⟩
abbrev S128x8 : Shape := ⟨2, ![128, 8]⟩
abbrev S8 : Shape := ⟨1, ![8]⟩
abbrev S8x128x512 : Shape := ⟨3, ![8, 128, 512]⟩
abbrev S8x512 : Shape := ⟨2, ![8, 512]⟩
abbrev S8x512x128 : Shape := ⟨3, ![8, 512, 128]⟩
abbrev S8x128 : Shape := ⟨2, ![8, 128]⟩
abbrev S128x32000 : Shape := ⟨2, ![128, 32000]⟩
abbrev S32000 : Shape := ⟨1, ![32000]⟩
abbrev S2048 : Shape := ⟨1, ![2048]⟩
abbrev S64 : Shape := ⟨1, ![64]⟩
abbrev S64x128 : Shape := ⟨2, ![64, 128]⟩
abbrev S_ : Shape := ⟨0, ![]⟩
abbrev S1x32000 : Shape := ⟨2, ![1, 32000]⟩
abbrev S2048x32000 : Shape := ⟨2, ![2048, 32000]⟩
abbrev S2048x8 : Shape := ⟨2, ![2048, 8]⟩
abbrev S2048x2 : Shape := ⟨2, ![2048, 2]⟩
abbrev S1024x128 : Shape := ⟨2, ![1024, 128]⟩
abbrev S128x3200 : Shape := ⟨2, ![128, 3200]⟩
abbrev S1x3200 : Shape := ⟨2, ![1, 3200]⟩
abbrev S1024x3200 : Shape := ⟨2, ![1024, 3200]⟩
abbrev S1024x8 : Shape := ⟨2, ![1024, 8]⟩
abbrev S1024x2 : Shape := ⟨2, ![1024, 2]⟩
abbrev S2x1024x128 : Shape := ⟨3, ![2, 1024, 128]⟩
abbrev S2x1024x8 : Shape := ⟨3, ![2, 1024, 8]⟩
abbrev S2x1024x2 : Shape := ⟨3, ![2, 1024, 2]⟩
abbrev S10x128x3200 : Shape := ⟨3, ![10, 128, 3200]⟩
abbrev S1024 : Shape := ⟨1, ![1024]⟩
abbrev S1024x1 : Shape := ⟨2, ![1024, 1]⟩
abbrev S1x128 : Shape := ⟨2, ![1, 128]⟩
abbrev S1x8 : Shape := ⟨2, ![1, 8]⟩
abbrev S1x1024x8 : Shape := ⟨3, ![1, 1024, 8]⟩
abbrev S1x1024x2 : Shape := ⟨3, ![1, 1024, 2]⟩
abbrev S1x128x256 : Shape := ⟨3, ![1, 128, 256]⟩
abbrev S128x256 : Shape := ⟨2, ![128, 256]⟩
abbrev S1024x256 : Shape := ⟨2, ![1024, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S1x1024x128 : Shape := ⟨3, ![1, 1024, 128]⟩
abbrev S1x128x3200 : Shape := ⟨3, ![1, 128, 3200]⟩
abbrev S1x2048x32000 : Shape := ⟨3, ![1, 2048, 32000]⟩
abbrev S1x2048x8 : Shape := ⟨3, ![1, 2048, 8]⟩
abbrev S1x2048x2 : Shape := ⟨3, ![1, 2048, 2]⟩

abbrev nBuf : Table → Nat
  | .hbm => 24
  | .local .tc .vmem => 34
  | .local .scVector .vmem => 2
  | _ => 0

abbrev bufTy : (tb : Table) → Fin (nBuf tb) → BufTy
  | .hbm, ⟨0, _⟩ => ⟨S1x2048, .i32⟩
  | .hbm, ⟨1, _⟩ => ⟨S32000x128, .f32⟩
  | .hbm, ⟨2, _⟩ => ⟨S2048x128, .f32⟩
  | .hbm, ⟨3, _⟩ => ⟨S128, .f32⟩
  | .hbm, ⟨4, _⟩ => ⟨S128, .f32⟩
  | .hbm, ⟨5, _⟩ => ⟨S128x8, .f32⟩
  | .hbm, ⟨6, _⟩ => ⟨S8, .f32⟩
  | .hbm, ⟨7, _⟩ => ⟨S8x128x512, .f32⟩
  | .hbm, ⟨8, _⟩ => ⟨S8x512, .f32⟩
  | .hbm, ⟨9, _⟩ => ⟨S8x512x128, .f32⟩
  | .hbm, ⟨10, _⟩ => ⟨S8x128, .f32⟩
  | .hbm, ⟨11, _⟩ => ⟨S128, .f32⟩
  | .hbm, ⟨12, _⟩ => ⟨S128, .f32⟩
  | .hbm, ⟨13, _⟩ => ⟨S128x32000, .f32⟩
  | .hbm, ⟨14, _⟩ => ⟨S32000, .f32⟩
  | .hbm, ⟨15, _⟩ => ⟨S2048, .i32⟩
  | .hbm, ⟨16, _⟩ => ⟨S2048x128, .f32⟩
  | .hbm, ⟨17, _⟩ => ⟨S1x32000, .f32⟩
  | .hbm, ⟨18, _⟩ => ⟨S2048x32000, .f32⟩
  | .hbm, ⟨19, _⟩ => ⟨S2048x8, .f32⟩
  | .hbm, ⟨20, _⟩ => ⟨S2048x2, .i32⟩
  | .hbm, ⟨21, _⟩ => ⟨S1x2048x32000, .f32⟩
  | .hbm, ⟨22, _⟩ => ⟨S1x2048x8, .f32⟩
  | .hbm, ⟨23, _⟩ => ⟨S1x2048x2, .i32⟩
  | .local .tc .vmem, ⟨0, _⟩ => ⟨S1024x128, .f32⟩
  | .local .tc .vmem, ⟨1, _⟩ => ⟨S1024x128, .f32⟩
  | .local .tc .vmem, ⟨2, _⟩ => ⟨S1024x128, .f32⟩
  | .local .tc .vmem, ⟨3, _⟩ => ⟨S1024x128, .f32⟩
  | .local .tc .vmem, ⟨4, _⟩ => ⟨S1024x128, .f32⟩
  | .local .tc .vmem, ⟨5, _⟩ => ⟨S1024x128, .f32⟩
  | .local .tc .vmem, ⟨6, _⟩ => ⟨S1024x128, .f32⟩
  | .local .tc .vmem, ⟨7, _⟩ => ⟨S1024x128, .f32⟩
  | .local .tc .vmem, ⟨8, _⟩ => ⟨S128, .f32⟩
  | .local .tc .vmem, ⟨9, _⟩ => ⟨S128, .f32⟩
  | .local .tc .vmem, ⟨10, _⟩ => ⟨S128x8, .f32⟩
  | .local .tc .vmem, ⟨11, _⟩ => ⟨S8, .f32⟩
  | .local .tc .vmem, ⟨12, _⟩ => ⟨S8x128x512, .f32⟩
  | .local .tc .vmem, ⟨13, _⟩ => ⟨S8x512, .f32⟩
  | .local .tc .vmem, ⟨14, _⟩ => ⟨S8x512x128, .f32⟩
  | .local .tc .vmem, ⟨15, _⟩ => ⟨S8x128, .f32⟩
  | .local .tc .vmem, ⟨16, _⟩ => ⟨S128, .f32⟩
  | .local .tc .vmem, ⟨17, _⟩ => ⟨S128, .f32⟩
  | .local .tc .vmem, ⟨18, _⟩ => ⟨S128x3200, .f32⟩
  | .local .tc .vmem, ⟨19, _⟩ => ⟨S128x3200, .f32⟩
  | .local .tc .vmem, ⟨20, _⟩ => ⟨S1x3200, .f32⟩
  | .local .tc .vmem, ⟨21, _⟩ => ⟨S1x3200, .f32⟩
  | .local .tc .vmem, ⟨22, _⟩ => ⟨S1024x3200, .f32⟩
  | .local .tc .vmem, ⟨23, _⟩ => ⟨S1024x3200, .f32⟩
  | .local .tc .vmem, ⟨24, _⟩ => ⟨S1024x8, .f32⟩
  | .local .tc .vmem, ⟨25, _⟩ => ⟨S1024x8, .f32⟩
  | .local .tc .vmem, ⟨26, _⟩ => ⟨S1024x2, .i32⟩
  | .local .tc .vmem, ⟨27, _⟩ => ⟨S1024x2, .i32⟩
  | .local .tc .vmem, ⟨28, _⟩ => ⟨S2x1024x128, .bf16⟩
  | .local .tc .vmem, ⟨29, _⟩ => ⟨S1024x128, .f32⟩
  | .local .tc .vmem, ⟨30, _⟩ => ⟨S1024x128, .f32⟩
  | .local .tc .vmem, ⟨31, _⟩ => ⟨S2x1024x8, .f32⟩
  | .local .tc .vmem, ⟨32, _⟩ => ⟨S2x1024x2, .i32⟩
  | .local .tc .vmem, ⟨33, _⟩ => ⟨S10x128x3200, .bf16⟩
  | .local .scVector .vmem, ⟨0, _⟩ => ⟨S64, .i32⟩
  | .local .scVector .vmem, ⟨1, _⟩ => ⟨S64x128, .f32⟩
  | _, _ => ⟨S1x2048, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 31 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTables nBuf rfl bufTy 4 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3_0 : Ref sig .tc := ⟨.hbm, 18, rfl⟩
abbrev main_v3_1 : Ref sig .tc := ⟨.hbm, 19, rfl⟩
abbrev main_v3_2 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_arg1_scv : Ref sig .scVector := ⟨.hbm, 1, rfl⟩
abbrev main_v0_scv : Ref sig .scVector := ⟨.hbm, 15, rfl⟩
abbrev main_v1_scv : Ref sig .scVector := ⟨.hbm, 16, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc1_stg10_0 : Ref sig .tc := ⟨.vmem, 14, rfl⟩
abbrev cc1_stg11_0 : Ref sig .tc := ⟨.vmem, 15, rfl⟩
abbrev cc1_stg12_0 : Ref sig .tc := ⟨.vmem, 16, rfl⟩
abbrev cc1_stg13_0 : Ref sig .tc := ⟨.vmem, 17, rfl⟩
abbrev cc1_stg14_0 : Ref sig .tc := ⟨.vmem, 18, rfl⟩
abbrev cc1_stg14_1 : Ref sig .tc := ⟨.vmem, 19, rfl⟩
abbrev cc1_stg15_0 : Ref sig .tc := ⟨.vmem, 20, rfl⟩
abbrev cc1_stg15_1 : Ref sig .tc := ⟨.vmem, 21, rfl⟩
abbrev cc1_stg16_0 : Ref sig .tc := ⟨.vmem, 22, rfl⟩
abbrev cc1_stg16_1 : Ref sig .tc := ⟨.vmem, 23, rfl⟩
abbrev cc1_stg17_0 : Ref sig .tc := ⟨.vmem, 24, rfl⟩
abbrev cc1_stg17_1 : Ref sig .tc := ⟨.vmem, 25, rfl⟩
abbrev cc1_stg18_0 : Ref sig .tc := ⟨.vmem, 26, rfl⟩
abbrev cc1_stg18_1 : Ref sig .tc := ⟨.vmem, 27, rfl⟩
abbrev cc1_scratch0 : Ref sig .tc := ⟨.vmem, 28, rfl⟩
abbrev cc1_scratch1 : Ref sig .tc := ⟨.vmem, 29, rfl⟩
abbrev cc1_scratch2 : Ref sig .tc := ⟨.vmem, 30, rfl⟩
abbrev cc1_scratch3 : Ref sig .tc := ⟨.vmem, 31, rfl⟩
abbrev cc1_scratch4 : Ref sig .tc := ⟨.vmem, 32, rfl⟩
abbrev cc1_scratch5 : Ref sig .tc := ⟨.vmem, 33, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev cc1_sem14_0 : DmaSem sig := 21
abbrev cc1_sem14_1 : DmaSem sig := 22
abbrev cc1_sem15_0 : DmaSem sig := 23
abbrev cc1_sem15_1 : DmaSem sig := 24
abbrev cc1_sem16_0 : DmaSem sig := 25
abbrev cc1_sem16_1 : DmaSem sig := 26
abbrev cc1_sem17_0 : DmaSem sig := 27
abbrev cc1_sem17_1 : DmaSem sig := 28
abbrev cc1_sem18_0 : DmaSem sig := 29
abbrev cc1_sem18_1 : DmaSem sig := 30
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_3_r1 : BitVec 32 := 0#32
  ![v2.toNat, 0]
abbrev grid1 : Pipeline.Grid := ⟨2, ![2, 10], ![false, false]⟩

def k1_cond2 (i : grid1.Coords) : BitVec 1 :=
  let arg0 : BitVec 32 := BitVec.ofNat 32 (i 0).val
  let c1_i32_13 : BitVec 32 := 1#32
  let v26 : BitVec 1 := Scalar.cmpi .slt arg0 c1_i32_13
  let arg1 : BitVec 32 := BitVec.ofNat 32 (i 1).val
  let c0_i32_14 : BitVec 32 := 0#32
  let v27 : BitVec 1 := Scalar.cmpi .eq arg1 c0_i32_14
  let v28 : BitVec 1 := Scalar.andi v26 v27
  let v29 : BitVec 32 := Scalar.extui v28
  let c0_i32_15 : BitVec 32 := 0#32
  let v30 : BitVec 1 := Scalar.cmpi .ne v29 c0_i32_15
  v30

def k1_off1 (i : grid1.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v148 : Index := Scalar.indexCast v20
  let c0_58 : Index := 0#32
  let c0_59 : Index := 0#32
  ![v148.toNat, 0, 0]
def k1_off2 (i : grid1.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v152 : Index := Scalar.indexCast v20
  let c0_60 : Index := 0#32
  let c0_61 : Index := 0#32
  ![v152.toNat, 0, 0]
def k1_cond3 (i : grid1.Coords) : BitVec 1 :=
  let arg0 : BitVec 32 := BitVec.ofNat 32 (i 0).val
  let c1_i32_13 : BitVec 32 := 1#32
  let v26 : BitVec 1 := Scalar.cmpi .slt arg0 c1_i32_13
  let arg1 : BitVec 32 := BitVec.ofNat 32 (i 1).val
  let c1_i32_16 : BitVec 32 := 1#32
  let v31 : BitVec 1 := Scalar.cmpi .eq arg1 c1_i32_16
  let v32 : BitVec 1 := Scalar.andi v26 v31
  let v33 : BitVec 32 := Scalar.extui v32
  let c0_i32_17 : BitVec 32 := 0#32
  let v34 : BitVec 1 := Scalar.cmpi .ne v33 c0_i32_17
  v34

def k1_off3 (i : grid1.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v79 : Index := Scalar.indexCast v20
  let c0_36 : Index := 0#32
  let c0_37 : Index := 0#32
  ![v79.toNat, 0, 0]
def k1_cond4 (i : grid1.Coords) : BitVec 1 :=
  let arg0 : BitVec 32 := BitVec.ofNat 32 (i 0).val
  let c1_i32_13 : BitVec 32 := 1#32
  let v26 : BitVec 1 := Scalar.cmpi .slt arg0 c1_i32_13
  let arg1 : BitVec 32 := BitVec.ofNat 32 (i 1).val
  let c2_i32_18 : BitVec 32 := 2#32
  let v35 : BitVec 1 := Scalar.cmpi .eq arg1 c2_i32_18
  let v36 : BitVec 1 := Scalar.andi v26 v35
  let v37 : BitVec 32 := Scalar.extui v36
  let c0_i32_19 : BitVec 32 := 0#32
  let v38 : BitVec 1 := Scalar.cmpi .ne v37 c0_i32_19
  v38

def k1_off4 (i : grid1.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v79 : Index := Scalar.indexCast v20
  let c0_36 : Index := 0#32
  let c0_37 : Index := 0#32
  ![v79.toNat, 0, 0]
def k1_cond5 (i : grid1.Coords) : BitVec 1 :=
  let arg0 : BitVec 32 := BitVec.ofNat 32 (i 0).val
  let c1_i32_13 : BitVec 32 := 1#32
  let v26 : BitVec 1 := Scalar.cmpi .slt arg0 c1_i32_13
  let arg1 : BitVec 32 := BitVec.ofNat 32 (i 1).val
  let c3_i32 : BitVec 32 := 3#32
  let v39 : BitVec 1 := Scalar.cmpi .eq arg1 c3_i32
  let v40 : BitVec 1 := Scalar.andi v26 v39
  let v41 : BitVec 32 := Scalar.extui v40
  let c0_i32_20 : BitVec 32 := 0#32
  let v42 : BitVec 1 := Scalar.cmpi .ne v41 c0_i32_20
  v42

def k1_off5 (i : grid1.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v79 : Index := Scalar.indexCast v20
  let c0_36 : Index := 0#32
  let c0_37 : Index := 0#32
  ![v79.toNat, 0, 0]
def k1_cond6 (i : grid1.Coords) : BitVec 1 :=
  let arg0 : BitVec 32 := BitVec.ofNat 32 (i 0).val
  let c1_i32_13 : BitVec 32 := 1#32
  let v26 : BitVec 1 := Scalar.cmpi .slt arg0 c1_i32_13
  let arg1 : BitVec 32 := BitVec.ofNat 32 (i 1).val
  let c4_i32 : BitVec 32 := 4#32
  let v43 : BitVec 1 := Scalar.cmpi .eq arg1 c4_i32
  let v44 : BitVec 1 := Scalar.andi v26 v43
  let v45 : BitVec 32 := Scalar.extui v44
  let c0_i32_21 : BitVec 32 := 0#32
  let v46 : BitVec 1 := Scalar.cmpi .ne v45 c0_i32_21
  v46

def k1_off6 (i : grid1.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v79 : Index := Scalar.indexCast v20
  let c0_36 : Index := 0#32
  let c0_37 : Index := 0#32
  ![v79.toNat, 0, 0]
def k1_cond7 (i : grid1.Coords) : BitVec 1 :=
  let arg0 : BitVec 32 := BitVec.ofNat 32 (i 0).val
  let c1_i32_13 : BitVec 32 := 1#32
  let v26 : BitVec 1 := Scalar.cmpi .slt arg0 c1_i32_13
  let arg1 : BitVec 32 := BitVec.ofNat 32 (i 1).val
  let c5_i32 : BitVec 32 := 5#32
  let v47 : BitVec 1 := Scalar.cmpi .eq arg1 c5_i32
  let v48 : BitVec 1 := Scalar.andi v26 v47
  let v49 : BitVec 32 := Scalar.extui v48
  let c0_i32_22 : BitVec 32 := 0#32
  let v50 : BitVec 1 := Scalar.cmpi .ne v49 c0_i32_22
  v50

def k1_off7 (i : grid1.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v79 : Index := Scalar.indexCast v20
  let c0_36 : Index := 0#32
  let c0_37 : Index := 0#32
  ![v79.toNat, 0, 0]
def k1_cond8 (i : grid1.Coords) : BitVec 1 :=
  let arg0 : BitVec 32 := BitVec.ofNat 32 (i 0).val
  let c1_i32_13 : BitVec 32 := 1#32
  let v26 : BitVec 1 := Scalar.cmpi .slt arg0 c1_i32_13
  let arg1 : BitVec 32 := BitVec.ofNat 32 (i 1).val
  let c6_i32 : BitVec 32 := 6#32
  let v51 : BitVec 1 := Scalar.cmpi .eq arg1 c6_i32
  let v52 : BitVec 1 := Scalar.andi v26 v51
  let v53 : BitVec 32 := Scalar.extui v52
  let c0_i32_23 : BitVec 32 := 0#32
  let v54 : BitVec 1 := Scalar.cmpi .ne v53 c0_i32_23
  v54

def k1_off8 (i : grid1.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v79 : Index := Scalar.indexCast v20
  let c0_36 : Index := 0#32
  let c0_37 : Index := 0#32
  ![v79.toNat, 0, 0]
def k1_cond9 (i : grid1.Coords) : BitVec 1 :=
  let arg0 : BitVec 32 := BitVec.ofNat 32 (i 0).val
  let c1_i32_13 : BitVec 32 := 1#32
  let v26 : BitVec 1 := Scalar.cmpi .slt arg0 c1_i32_13
  let arg1 : BitVec 32 := BitVec.ofNat 32 (i 1).val
  let c7_i32 : BitVec 32 := 7#32
  let v55 : BitVec 1 := Scalar.cmpi .eq arg1 c7_i32
  let v56 : BitVec 1 := Scalar.andi v26 v55
  let v57 : BitVec 32 := Scalar.extui v56
  let c0_i32_24 : BitVec 32 := 0#32
  let v58 : BitVec 1 := Scalar.cmpi .ne v57 c0_i32_24
  v58

def k1_off9 (i : grid1.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v79 : Index := Scalar.indexCast v20
  let c0_36 : Index := 0#32
  let c0_37 : Index := 0#32
  ![v79.toNat, 0, 0]
def k1_cond10 (i : grid1.Coords) : BitVec 1 :=
  let arg0 : BitVec 32 := BitVec.ofNat 32 (i 0).val
  let c1_i32_13 : BitVec 32 := 1#32
  let v26 : BitVec 1 := Scalar.cmpi .slt arg0 c1_i32_13
  let arg1 : BitVec 32 := BitVec.ofNat 32 (i 1).val
  let c8_i32 : BitVec 32 := 8#32
  let v59 : BitVec 1 := Scalar.cmpi .eq arg1 c8_i32
  let v60 : BitVec 1 := Scalar.andi v26 v59
  let v61 : BitVec 32 := Scalar.extui v60
  let c0_i32_25 : BitVec 32 := 0#32
  let v62 : BitVec 1 := Scalar.cmpi .ne v61 c0_i32_25
  v62

def k1_off10 (i : grid1.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v79 : Index := Scalar.indexCast v20
  let c0_36 : Index := 0#32
  let c0_37 : Index := 0#32
  ![v79.toNat, 0, 0]
def k1_cond11 (i : grid1.Coords) : BitVec 1 :=
  let arg0 : BitVec 32 := BitVec.ofNat 32 (i 0).val
  let c1_i32_13 : BitVec 32 := 1#32
  let v26 : BitVec 1 := Scalar.cmpi .slt arg0 c1_i32_13
  let arg1 : BitVec 32 := BitVec.ofNat 32 (i 1).val
  let c9_i32 : BitVec 32 := 9#32
  let v63 : BitVec 1 := Scalar.cmpi .eq arg1 c9_i32
  let v64 : BitVec 1 := Scalar.andi v26 v63
  let v65 : BitVec 32 := Scalar.extui v64
  let c0_i32_26 : BitVec 32 := 0#32
  let v66 : BitVec 1 := Scalar.cmpi .ne v65 c0_i32_26
  v66

def k1_off11 (i : grid1.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v104 : Index := Scalar.indexCast v20
  let c0_40 : Index := 0#32
  let c0_41 : Index := 0#32
  ![v104.toNat, 0, 0]
def k1_cond12 (i : grid1.Coords) : BitVec 1 :=
  let arg1 : BitVec 32 := BitVec.ofNat 32 (i 1).val
  let c0_i32_27 : BitVec 32 := 0#32
  let v67 : BitVec 1 := Scalar.cmpi .eq arg1 c0_i32_27
  let v68 : BitVec 32 := Scalar.extui v67
  let c0_i32_28 : BitVec 32 := 0#32
  let v69 : BitVec 1 := Scalar.cmpi .ne v68 c0_i32_28
  v69

def k1_off12 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v76 : Index := Scalar.indexCast v9
  let c0 : Index := 0#32
  let c0_33 : Index := 0#32
  ![v76.toNat, 0, 0]
def k1_off13 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v80 : Index := Scalar.indexCast v9
  let c0_36 : Index := 0#32
  let c0_37 : Index := 0#32
  ![v80.toNat, 0, 0]
def k1_cond13 (i : grid1.Coords) : BitVec 1 :=
  let arg0 : BitVec 32 := BitVec.ofNat 32 (i 0).val
  let c0_i32_29 : BitVec 32 := 0#32
  let v70 : BitVec 1 := Scalar.cmpi .eq arg0 c0_i32_29
  let v71 : BitVec 32 := Scalar.extui v70
  let c0_i32_30 : BitVec 32 := 0#32
  let v72 : BitVec 1 := Scalar.cmpi .ne v71 c0_i32_30
  v72

def k1_off14 (i : grid1.Coords) : Fin 3 → Nat :=
  let arg1 : BitVec 32 := BitVec.ofNat 32 (i 1).val
  let v78 : Index := Scalar.indexCast arg1
  let c0_34 : Index := 0#32
  let c0_35 : Index := 0#32
  ![v78.toNat, 0, 0]
def k1_cond14 (i : grid1.Coords) : BitVec 1 :=
  let arg0 : BitVec 32 := BitVec.ofNat 32 (i 0).val
  let c0_i32_31 : BitVec 32 := 0#32
  let v73 : BitVec 1 := Scalar.cmpi .sgt arg0 c0_i32_31
  let v74 : BitVec 32 := Scalar.extui v73
  let c0_i32_32 : BitVec 32 := 0#32
  let v75 : BitVec 1 := Scalar.cmpi .ne v74 c0_i32_32
  v75

def k1_off15 (i : grid1.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v76 : Index := Scalar.indexCast v9
  let c0 : Index := 0#32
  let c0_33 : Index := 0#32
  ![v76.toNat, 0, 0]
def k1_off16 (i : grid1.Coords) : Fin 3 → Nat :=
  let arg1 : BitVec 32 := BitVec.ofNat 32 (i 1).val
  let v79 : Index := Scalar.indexCast arg1
  let c0_34 : Index := 0#32
  let c0_35 : Index := 0#32
  ![v79.toNat, 0, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c1_i32_0 : BitVec 32 := 1#32
  let v1 : BitVec 32 := Scalar.minsi v0 c1_i32_0
  let c0_i32 : BitVec 32 := 0#32
  let c0_i32_1 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c1_i32_0 : BitVec 32 := 1#32
  let v1 : BitVec 32 := Scalar.minsi v0 c1_i32_0
  let c0_i32 : BitVec 32 := 0#32
  let c0_i32_1 : BitVec 32 := 0#32
  ![v1.toNat, c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_13 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c9_i32 : BitVec 32 := 9#32
  let v1 : BitVec 32 := Scalar.select v0 arg1 c9_i32
  let c0_i32_0 : BitVec 32 := 0#32
  let c0_i32_1 : BitVec 32 := 0#32
  ![c0_i32_0.toNat, v1.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_16 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_17 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_18 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S8x128x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S8x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S8x512x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S8x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 2 → Memref sig .tc .vmem S128x3200 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev stage1_15 : Fin 2 → Memref sig .tc .vmem S1x3200 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![false, true]

abbrev stage1_16 : Fin 2 → Memref sig .tc .vmem S1024x3200 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true]

abbrev stage1_17 : Fin 2 → Memref sig .tc .vmem S1024x8 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true, false]

abbrev stage1_18 : Fin 2 → Memref sig .tc .vmem S1024x2 .i32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x2048 : Shape := ⟨2, ![1, 2048]⟩
abbrev S32000x128 : Shape := ⟨2, ![32000, 128]⟩
abbrev S2048x128 : Shape := ⟨2, ![2048, 128]⟩
abbrev S128 : Shape := ⟨1, ![128]⟩
abbrev S128x8 : Shape := ⟨2, ![128, 8]⟩
abbrev S8 : Shape := ⟨1, ![8]⟩
abbrev S8x128x512 : Shape := ⟨3, ![8, 128, 512]⟩
abbrev S8x512 : Shape := ⟨2, ![8, 512]⟩
abbrev S8x512x128 : Shape := ⟨3, ![8, 512, 128]⟩
abbrev S8x128 : Shape := ⟨2, ![8, 128]⟩
abbrev S128x32000 : Shape := ⟨2, ![128, 32000]⟩
abbrev S32000 : Shape := ⟨1, ![32000]⟩
abbrev S_ : Shape := ⟨0, ![]⟩
abbrev S1x2048x1 : Shape := ⟨3, ![1, 2048, 1]⟩
abbrev S1 : Shape := ⟨1, ![1]⟩
abbrev S1x1x1 : Shape := ⟨3, ![1, 1, 1]⟩
abbrev S1x2048x128 : Shape := ⟨3, ![1, 2048, 128]⟩
abbrev S2048 : Shape := ⟨1, ![2048]⟩
abbrev S2048x1 : Shape := ⟨2, ![2048, 1]⟩
abbrev S1x1x128 : Shape := ⟨3, ![1, 1, 128]⟩
abbrev S1x2048x8 : Shape := ⟨3, ![1, 2048, 8]⟩
abbrev S1x1x8 : Shape := ⟨3, ![1, 1, 8]⟩
abbrev S1x2048x2 : Shape := ⟨3, ![1, 2048, 2]⟩
abbrev S1x2048x8x512 : Shape := ⟨4, ![1, 2048, 8, 512]⟩
abbrev S1x1x8x512 : Shape := ⟨4, ![1, 1, 8, 512]⟩
abbrev S8x128x1x2048 : Shape := ⟨4, ![8, 128, 1, 2048]⟩
abbrev S1x2048x8x128 : Shape := ⟨4, ![1, 2048, 8, 128]⟩
abbrev S1x1x8x128 : Shape := ⟨4, ![1, 1, 8, 128]⟩
abbrev S1x2048x32000 : Shape := ⟨3, ![1, 2048, 32000]⟩
abbrev S1x1x32000 : Shape := ⟨3, ![1, 1, 32000]⟩

abbrev nBuf : Space → Nat
  | .hbm => 192
  | .vmem => 0
  | .smem => 0
  | _ => 0

abbrev hbmTy0_0 (i : Nat) : BufTy := match i % 128 with
  | 0 => ⟨S1x2048, .i32⟩
  | 1 => ⟨S32000x128, .f32⟩
  | 2 => ⟨S2048x128, .f32⟩
  | 3 => ⟨S128, .f32⟩
  | 4 => ⟨S128, .f32⟩
  | 5 => ⟨S128x8, .f32⟩
  | 6 => ⟨S8, .f32⟩
  | 7 => ⟨S8x128x512, .f32⟩
  | 8 => ⟨S8x512, .f32⟩
  | 9 => ⟨S8x512x128, .f32⟩
  | 10 => ⟨S8x128, .f32⟩
  | 11 => ⟨S128, .f32⟩
  | 12 => ⟨S128, .f32⟩
  | 13 => ⟨S128x32000, .f32⟩
  | 14 => ⟨S32000, .f32⟩
  | 15 => ⟨S_, .i32⟩
  | 16 => ⟨S1x2048, .i32⟩
  | 17 => ⟨S1x2048, .i1⟩
  | 18 => ⟨S_, .i32⟩
  | 19 => ⟨S1x2048, .i32⟩
  | 20 => ⟨S1x2048, .i32⟩
  | 21 => ⟨S1x2048, .i32⟩
  | 22 => ⟨S1x2048x1, .i32⟩
  | 23 => ⟨S1, .i32⟩
  | 24 => ⟨S_, .i32⟩
  | 25 => ⟨S1x2048x1, .i32⟩
  | 26 => ⟨S1x2048x1, .i1⟩
  | 27 => ⟨S1x1x1, .i32⟩
  | 28 => ⟨S1x2048x1, .i32⟩
  | 29 => ⟨S1x2048x1, .i1⟩
  | 30 => ⟨S1x2048x1, .i1⟩
  | 31 => ⟨S_, .i1⟩
  | 32 => ⟨S1x2048, .i1⟩
  | 33 => ⟨S1x2048x128, .f32⟩
  | 34 => ⟨S1x2048x128, .i1⟩
  | 35 => ⟨S_, .f32⟩
  | 36 => ⟨S1x2048x128, .f32⟩
  | 37 => ⟨S1x2048x128, .f32⟩
  | 38 => ⟨S2048, .i32⟩
  | 39 => ⟨S_, .i32⟩
  | 40 => ⟨S2048, .i32⟩
  | 41 => ⟨S2048, .i1⟩
  | 42 => ⟨S_, .i32⟩
  | 43 => ⟨S2048, .i32⟩
  | 44 => ⟨S2048, .i32⟩
  | 45 => ⟨S2048, .i32⟩
  | 46 => ⟨S2048x1, .i32⟩
  | 47 => ⟨S2048x128, .f32⟩
  | 48 => ⟨S1x2048x128, .f32⟩
  | 49 => ⟨S1x2048x128, .f32⟩
  | 50 => ⟨S_, .f32⟩
  | 51 => ⟨S1x2048, .f32⟩
  | 52 => ⟨S1x2048x1, .f32⟩
  | 53 => ⟨S_, .f32⟩
  | 54 => ⟨S1x2048x1, .f32⟩
  | 55 => ⟨S1x2048x1, .f32⟩
  | 56 => ⟨S_, .i32⟩
  | 57 => ⟨S_, .f32⟩
  | 58 => ⟨S1x2048, .f32⟩
  | 59 => ⟨S1x2048x1, .f32⟩
  | 60 => ⟨S_, .f32⟩
  | 61 => ⟨S1x2048x1, .f32⟩
  | 62 => ⟨S1x2048x1, .f32⟩
  | 63 => ⟨S1x2048x128, .f32⟩
  | 64 => ⟨S1x2048x128, .f32⟩
  | 65 => ⟨S1x2048x128, .f32⟩
  | 66 => ⟨S_, .f32⟩
  | 67 => ⟨S_, .f32⟩
  | 68 => ⟨S_, .f32⟩
  | 69 => ⟨S_, .f32⟩
  | 70 => ⟨S1x2048, .f32⟩
  | 71 => ⟨S1x2048x1, .f32⟩
  | 72 => ⟨S1x2048x1, .f32⟩
  | 73 => ⟨S1x2048x1, .f32⟩
  | 74 => ⟨S_, .f32⟩
  | 75 => ⟨S_, .i1⟩
  | 76 => ⟨S_, .f32⟩
  | 77 => ⟨S_, .f32⟩
  | 78 => ⟨S1x2048x1, .f32⟩
  | 79 => ⟨S1x2048x1, .f32⟩
  | 80 => ⟨S1x2048x128, .f32⟩
  | 81 => ⟨S1x2048x128, .f32⟩
  | 82 => ⟨S_, .f32⟩
  | 83 => ⟨S1x2048x1, .f32⟩
  | 84 => ⟨S1x2048x1, .f32⟩
  | 85 => ⟨S1x2048x1, .f32⟩
  | 86 => ⟨S1x2048x128, .f32⟩
  | 87 => ⟨S1x2048x128, .f32⟩
  | 88 => ⟨S1x1x128, .f32⟩
  | 89 => ⟨S1x2048x128, .f32⟩
  | 90 => ⟨S1x2048x128, .f32⟩
  | 91 => ⟨S1x1x128, .f32⟩
  | 92 => ⟨S1x2048x128, .f32⟩
  | 93 => ⟨S1x2048x128, .f32⟩
  | 94 => ⟨S1x2048x8, .f32⟩
  | 95 => ⟨S1x1x8, .f32⟩
  | 96 => ⟨S1x2048x8, .f32⟩
  | 97 => ⟨S1x2048x8, .f32⟩
  | 98 => ⟨S_, .f32⟩
  | 99 => ⟨S1x2048x8, .f32⟩
  | 100 => ⟨S1x2048x8, .f32⟩
  | 101 => ⟨S_, .f32⟩
  | 102 => ⟨S1x2048, .f32⟩
  | 103 => ⟨S_, .f32⟩
  | 104 => ⟨S1x2048, .f32⟩
  | 105 => ⟨S1x2048, .f32⟩
  | 106 => ⟨S1x2048x1, .f32⟩
  | 107 => ⟨S1x2048x8, .f32⟩
  | 108 => ⟨S1x2048x8, .f32⟩
  | 109 => ⟨S1x2048x8, .f32⟩
  | 110 => ⟨S_, .f32⟩
  | 111 => ⟨S1x2048, .f32⟩
  | 112 => ⟨S1x2048x1, .f32⟩
  | 113 => ⟨S1x2048x8, .f32⟩
  | 114 => ⟨S1x2048x8, .f32⟩
  | 115 => ⟨S1x2048x2, .f32⟩
  | 116 => ⟨S1x2048x2, .i32⟩
  | 117 => ⟨S1x2048x8x512, .f32⟩
  | 118 => ⟨S1x1x8x512, .f32⟩
  | 119 => ⟨S1x2048x8x512, .f32⟩
  | 120 => ⟨S1x2048x8x512, .f32⟩
  | 121 => ⟨S1x2048x8x512, .f32⟩
  | 122 => ⟨S1x2048x8x512, .f32⟩
  | 123 => ⟨S_, .f32⟩
  | 124 => ⟨S1x2048x8x512, .f32⟩
  | 125 => ⟨S1x2048x8x512, .f32⟩
  | 126 => ⟨S1x2048x8x512, .f32⟩
  | 127 => ⟨S_, .f32⟩
  | _ => ⟨S1x2048, .i32⟩

abbrev hbmTy0_1 (i : Nat) : BufTy := match i % 128 with
  | 0 => ⟨S1x2048x8x512, .f32⟩
  | 1 => ⟨S1x2048x8x512, .f32⟩
  | 2 => ⟨S1x2048x8x512, .f32⟩
  | 3 => ⟨S_, .f32⟩
  | 4 => ⟨S1x2048x8x512, .f32⟩
  | 5 => ⟨S1x2048x8x512, .f32⟩
  | 6 => ⟨S_, .f32⟩
  | 7 => ⟨S1x2048x8x512, .f32⟩
  | 8 => ⟨S1x2048x8x512, .f32⟩
  | 9 => ⟨S1x2048x8x512, .f32⟩
  | 10 => ⟨S8x128x1x2048, .f32⟩
  | 11 => ⟨S1x2048x8x128, .f32⟩
  | 12 => ⟨S1x1x8x128, .f32⟩
  | 13 => ⟨S1x2048x8x128, .f32⟩
  | 14 => ⟨S1x2048x8x128, .f32⟩
  | 15 => ⟨S1x2048x128, .f32⟩
  | 16 => ⟨S_, .f32⟩
  | 17 => ⟨S1x2048, .f32⟩
  | 18 => ⟨S1x2048x1, .f32⟩
  | 19 => ⟨S_, .f32⟩
  | 20 => ⟨S1x2048x1, .f32⟩
  | 21 => ⟨S1x2048x1, .f32⟩
  | 22 => ⟨S_, .i32⟩
  | 23 => ⟨S_, .f32⟩
  | 24 => ⟨S1x2048, .f32⟩
  | 25 => ⟨S1x2048x1, .f32⟩
  | 26 => ⟨S_, .f32⟩
  | 27 => ⟨S1x2048x1, .f32⟩
  | 28 => ⟨S1x2048x1, .f32⟩
  | 29 => ⟨S1x2048x128, .f32⟩
  | 30 => ⟨S1x2048x128, .f32⟩
  | 31 => ⟨S1x2048x128, .f32⟩
  | 32 => ⟨S_, .f32⟩
  | 33 => ⟨S_, .f32⟩
  | 34 => ⟨S_, .f32⟩
  | 35 => ⟨S_, .f32⟩
  | 36 => ⟨S1x2048, .f32⟩
  | 37 => ⟨S1x2048x1, .f32⟩
  | 38 => ⟨S1x2048x1, .f32⟩
  | 39 => ⟨S1x2048x1, .f32⟩
  | 40 => ⟨S_, .f32⟩
  | 41 => ⟨S_, .i1⟩
  | 42 => ⟨S_, .f32⟩
  | 43 => ⟨S_, .f32⟩
  | 44 => ⟨S1x2048x1, .f32⟩
  | 45 => ⟨S1x2048x1, .f32⟩
  | 46 => ⟨S1x2048x128, .f32⟩
  | 47 => ⟨S1x2048x128, .f32⟩
  | 48 => ⟨S_, .f32⟩
  | 49 => ⟨S1x2048x1, .f32⟩
  | 50 => ⟨S1x2048x1, .f32⟩
  | 51 => ⟨S1x2048x1, .f32⟩
  | 52 => ⟨S1x2048x128, .f32⟩
  | 53 => ⟨S1x2048x128, .f32⟩
  | 54 => ⟨S1x1x128, .f32⟩
  | 55 => ⟨S1x2048x128, .f32⟩
  | 56 => ⟨S1x2048x128, .f32⟩
  | 57 => ⟨S1x1x128, .f32⟩
  | 58 => ⟨S1x2048x128, .f32⟩
  | 59 => ⟨S1x2048x128, .f32⟩
  | 60 => ⟨S1x2048x32000, .f32⟩
  | 61 => ⟨S1x1x32000, .f32⟩
  | 62 => ⟨S1x2048x32000, .f32⟩
  | 63 => ⟨S1x2048x32000, .f32⟩
  | _ => ⟨S1x2048, .i32⟩

abbrev hbmTy (i : Nat) : BufTy := match i / 128 with
  | 0 => hbmTy0_0 i
  | 1 => hbmTy0_1 i
  | _ => ⟨S1x2048, .i32⟩

abbrev bufTy : (tb : Table) → Fin (tcTables nBuf tb) → BufTy
  | .hbm, ⟨i, _⟩ => hbmTy i
  | _, _ => ⟨S1x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v0 : Ref sig .tc := ⟨.hbm, 37, rfl⟩
abbrev main_v1 : Ref sig .tc := ⟨.hbm, 38, rfl⟩
abbrev main_c : Ref sig .tc := ⟨.hbm, 39, rfl⟩
abbrev main_v2 : Ref sig .tc := ⟨.hbm, 40, rfl⟩
abbrev main_v3 : Ref sig .tc := ⟨.hbm, 41, rfl⟩
abbrev main_c_0 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_cst : Ref sig .tc := ⟨.hbm, 50, rfl⟩
abbrev main_v11 : Ref sig .tc := ⟨.hbm, 51, rfl⟩
abbrev main_v12 : Ref sig .tc := ⟨.hbm, 52, rfl⟩
abbrev main_cst_1 : Ref sig .tc := ⟨.hbm, 53, rfl⟩
abbrev main_v13 : Ref sig .tc := ⟨.hbm, 54, rfl⟩
abbrev main_v14 : Ref sig .tc := ⟨.hbm, 55, rfl⟩
abbrev main_c_2 : Ref sig .tc := ⟨.hbm, 56, rfl⟩
abbrev main_call1_cst : Ref sig .tc := ⟨.hbm, 57, rfl⟩
abbrev main_call1_v0 : Ref sig .tc := ⟨.hbm, 58, rfl⟩
abbrev main_call1_v1 : Ref sig .tc := ⟨.hbm, 59, rfl⟩
abbrev main_call1_cst_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_v6 : Ref sig .tc := ⟨.hbm, 65, rfl⟩
abbrev main_call1_v7 : Ref sig .tc := ⟨.hbm, 66, rfl⟩
abbrev main_call1_cst_1 : Ref sig .tc := ⟨.hbm, 67, rfl⟩
abbrev main_call1_v8 : Ref sig .tc := ⟨.hbm, 68, rfl⟩
abbrev main_call1_cst_2 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_v12 : Ref sig .tc := ⟨.hbm, 73, rfl⟩
abbrev main_call1_cst_3 : Ref sig .tc := ⟨.hbm, 74, rfl⟩
abbrev main_call1_v13 : Ref sig .tc := ⟨.hbm, 75, rfl⟩
abbrev main_call1_cst_4 : Ref sig .tc := ⟨.hbm, 76, rfl⟩
abbrev main_call1_call0_v0 : Ref sig .tc := ⟨.hbm, 77, rfl⟩
abbrev main_call1_call0_v1 : Ref sig .tc := ⟨.hbm, 78, rfl⟩
abbrev main_v15 : Ref sig .tc := ⟨.hbm, 79, rfl⟩
abbrev main_v16 : Ref sig .tc := ⟨.hbm, 80, rfl⟩
abbrev main_v17 : Ref sig .tc := ⟨.hbm, 81, rfl⟩
abbrev main_cst_3 : Ref sig .tc := ⟨.hbm, 82, rfl⟩
abbrev main_v18 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_cst_4 : Ref sig .tc := ⟨.hbm, 98, rfl⟩
abbrev main_v33 : Ref sig .tc := ⟨.hbm, 99, rfl⟩
abbrev main_v34 : Ref sig .tc := ⟨.hbm, 100, rfl⟩
abbrev main_cst_5 : Ref sig .tc := ⟨.hbm, 101, rfl⟩
abbrev main_v35 : Ref sig .tc := ⟨.hbm, 102, rfl⟩
abbrev main_cst_6 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_cst_7 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_values : Ref sig .tc := ⟨.hbm, 115, rfl⟩
abbrev main_indices : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_cst_8 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_cst_9 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_cst_10 : Ref sig .tc := ⟨.hbm, 131, rfl⟩
abbrev main_v58 : Ref sig .tc := ⟨.hbm, 132, rfl⟩
abbrev main_v59 : Ref sig .tc := ⟨.hbm, 133, rfl⟩
abbrev main_cst_11 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_cst_12 : Ref sig .tc := ⟨.hbm, 144, rfl⟩
abbrev main_v69 : Ref sig .tc := ⟨.hbm, 145, rfl⟩
abbrev main_v70 : Ref sig .tc := ⟨.hbm, 146, rfl⟩
abbrev main_cst_13 : Ref sig .tc := ⟨.hbm, 147, rfl⟩
abbrev main_v71 : Ref sig .tc := ⟨.hbm, 148, rfl⟩
abbrev main_v72 : Ref sig .tc := ⟨.hbm, 149, rfl⟩
abbrev main_c_14 : Ref sig .tc := ⟨.hbm, 150, rfl⟩
abbrev main_call2_cst : Ref sig .tc := ⟨.hbm, 151, rfl⟩
abbrev main_call2_v0 : Ref sig .tc := ⟨.hbm, 152, rfl⟩
abbrev main_call2_v1 : Ref sig .tc := ⟨.hbm, 153, rfl⟩
abbrev main_call2_cst_0 : Ref sig .tc := ⟨.hbm, 154, rfl⟩
abbrev main_call2_v2 : Ref sig .tc := ⟨.hbm, 155, rfl⟩
abbrev main_call2_v3 : Ref sig .tc := ⟨.hbm, 156, rfl⟩
abbrev main_call2_v4 : Ref sig .tc := ⟨.hbm, 157, rfl⟩
abbrev main_call2_v5 : Ref sig .tc := ⟨.hbm, 158, rfl⟩
abbrev main_call2_v6 : Ref sig .tc := ⟨.hbm, 159, rfl⟩
abbrev main_call2_v7 : Ref sig .tc := ⟨.hbm, 160, rfl⟩
abbrev main_call2_cst_1 : Ref sig .tc := ⟨.hbm, 161, rfl⟩
abbrev main_call2_v8 : Ref sig .tc := ⟨.hbm, 162, rfl⟩
abbrev main_call2_cst_2 : Ref sig .tc := ⟨.hbm, 163, rfl⟩
abbrev main_call2_v9 : Ref sig .tc := ⟨.hbm, 164, rfl⟩
abbrev main_call2_v10 : Ref sig .tc := ⟨.hbm, 165, rfl⟩
abbrev main_call2_v11 : Ref sig .tc := ⟨.hbm, 166, rfl⟩
abbrev main_call2_v12 : Ref sig .tc := ⟨.hbm, 167, rfl⟩
abbrev main_call2_cst_3 : Ref sig .tc := ⟨.hbm, 168, rfl⟩
abbrev main_call2_v13 : Ref sig .tc := ⟨.hbm, 169, rfl⟩
abbrev main_call2_cst_4 : Ref sig .tc := ⟨.hbm, 170, rfl⟩
abbrev main_call2_call0_v0 : Ref sig .tc := ⟨.hbm, 171, rfl⟩
abbrev main_call2_call0_v1 : Ref sig .tc := ⟨.hbm, 172, rfl⟩
abbrev main_v73 : Ref sig .tc := ⟨.hbm, 173, rfl⟩
abbrev main_v74 : Ref sig .tc := ⟨.hbm, 174, rfl⟩
abbrev main_v75 : Ref sig .tc := ⟨.hbm, 175, rfl⟩
abbrev main_cst_15 : Ref sig .tc := ⟨.hbm, 176, rfl⟩
abbrev main_v76 : Ref sig .tc := ⟨.hbm, 177, rfl⟩
abbrev main_v77 : Ref sig .tc := ⟨.hbm, 178, rfl⟩
abbrev main_v78 : Ref sig .tc := ⟨.hbm, 179, rfl⟩
abbrev main_v79 : Ref sig .tc := ⟨.hbm, 180, rfl⟩
abbrev main_v80 : Ref sig .tc := ⟨.hbm, 181, rfl⟩
abbrev main_v81 : Ref sig .tc := ⟨.hbm, 182, rfl⟩
abbrev main_v82 : Ref sig .tc := ⟨.hbm, 183, rfl⟩
abbrev main_v83 : Ref sig .tc := ⟨.hbm, 184, rfl⟩
abbrev main_v84 : Ref sig .tc := ⟨.hbm, 185, rfl⟩
abbrev main_v85 : Ref sig .tc := ⟨.hbm, 186, rfl⟩
abbrev main_v86 : Ref sig .tc := ⟨.hbm, 187, rfl⟩
abbrev main_v87 : Ref sig .tc := ⟨.hbm, 188, rfl⟩
abbrev main_v88 : Ref sig .tc := ⟨.hbm, 189, rfl⟩
abbrev main_v89 : Ref sig .tc := ⟨.hbm, 190, rfl⟩
abbrev main_v90 : Ref sig .tc := ⟨.hbm, 191, rfl⟩

abbrev nD : Nat := 1
abbrev τ : Topo := Topo.v7x

variable {F : FTy → Type} [FloatOps F]
-- ==== Proof.Setup.lean ====
/-
  What the parts of the proof about the kernel program share: the program as the SparseCore launch theorem and the
  pipeline library see it, and the resource algebra (the launch handshakes' rounds, the TensorCore pipeline's rounds,
  the transfers' counters).

  Everything is stated of the program `KernelIdeal` over ANY float values `F`: the program `Kernel` has the same text,
  so its run is the same theorem at the bit patterns.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.Frame
public import Idealize.ShloMosaic.Lib.Pipeline.FrameBody
public import Idealize.ShloMosaic.Lib.Writes
public import Idealize.ShloMosaic.Lib.Tactic

@[expose] public section

set_option maxRecDepth 16384

noncomputable section

namespace Cert.Proof.Moe

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the TensorCore's pipeline over the kernels' own. -/
abbrev ΛP : Labels := Pipeline.Sig Λ₀ (Fin 1) fun p => (pcfgs (F := F) p).Adm
/-- The program's one SparseCore call. -/
abbrev K : SparseCore.Cfg τ sig (ΛP (F := F)) 1 := sc (F := F)
/-- The bodies the SparseCore layer runs over. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

/-- The launch semaphores are distinct, none of them any processor's scoped one, and no buffer is shared by tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

/-- The launch handshakes' rounds; -/
abbrev UH : Type := URounds (GSem nD τ sig) ℕ
/-- the pipeline's rounds beside the transfers' counters; -/
abbrev UPC : Type := UR sig nD τ × Counters
/-- and the three together. -/
abbrev UU : Type := UH × UPC

/-- The model the whole proof lives in. -/
abbrev 𝕄 (F : FTy → Type) : Type := MT nD τ sig (SparseCore.Cfg.HIx 1) (Elt F) ℕ UU ℕ

/-- Where the handshakes' rounds sit. -/
abbrev EH : Emb UH (𝕄 F) := embL
/-- Where the pipeline's rounds sit. -/
def EP : Emb (UR sig nD τ) (𝕄 F) := (Emb.inl : Emb (UR sig nD τ) UPC).trans embR

instance EP_landsIn : (EP : Emb (UR sig nD τ) (𝕄 F)).LandsIn (upEmb : UEmb _ (𝕄 F)) := by unfold EP; infer_instance

end Cert.Proof.Moe

end
-- ==== Proof.Rows.lean ====
/-
  What the TensorCore body computes, as plain functions of whole arrays, over any float values: the layer norm of a block
  of rows, the router's weights and its two picks, one half of an expert, the experts' weighted sum, the projection.
  Each is the text the kernel's loads and stores are filled with, cut where the mathematics cuts it.
-/
module

public import proofs.«01_k».proof.Proof.Setup
public import Idealize.ShloMosaic.Lib.VecWindow

@[expose] public section

set_option maxRecDepth 16384

noncomputable section

namespace Cert.Proof.Moe

open Cert.KernelIdeal Cert.KernelIdeal.Gen
open Idealize.ShloMosaic Idealize.ShloMosaic.TcCoe

variable {F : FTy → Type} [FloatOps F]

/-! ## Windows of arrays -/

/-- The part of `x` under the rectangle `r`. -/
abbrev part {α : Type} {S : Shape} (x : S.Idx → α) (r : Rect S) : r.shape.Idx → α := fun j => x (r.idx j)

/-- A load of all of a vector reads the vector, -/
theorem load1 {sig : RefSig} {κ : Kind} {sp : Space} {e : EltTy} {Val : EltTy → Type} {n : ℕ} (v : View sig κ sp ⟨1, ![n]⟩ e)
    (f : v.ty.Contents Val) (h : ∀ a, (![0] : Fin 1 → ℕ) a + (![n] : Fin 1 → ℕ) a ≤ (⟨1, ![n]⟩ : Shape).size a) :
    v.readAt Val (Rect.unit (s := ⟨1, ![n]⟩) ![0] ![n] h).toLoadRect f = v.read Val f := by
  exact View.readAt_full v f h

/-- and of all of a matrix the matrix. -/
theorem load2 {sig : RefSig} {κ : Kind} {sp : Space} {e : EltTy} {Val : EltTy → Type} {m n : ℕ} (v : View sig κ sp ⟨2, ![m, n]⟩ e)
    (f : v.ty.Contents Val) (h : ∀ a, (![0, 0] : Fin 2 → ℕ) a + (![m, n] : Fin 2 → ℕ) a ≤ (⟨2, ![m, n]⟩ : Shape).size a) :
    v.readAt Val (Rect.unit (s := ⟨2, ![m, n]⟩) ![0, 0] ![m, n] h).toLoadRect f = v.read Val f := by
  exact View.readAt_full v f h

/-- A load of all of a matrix, after a store of all of it, reads what was stored. -/
theorem cov2 {sig : RefSig} {κ : Kind} {sp : Space} {e : EltTy} {Val : EltTy → Type} [∀ e, Nonempty (Val e)] {m n : ℕ}
    (v : View sig κ sp ⟨2, ![m, n]⟩ e) (h h' : ∀ a, (![0, 0] : Fin 2 → ℕ) a + (![m, n] : Fin 2 → ℕ) a ≤ (⟨2, ![m, n]⟩ : Shape).size a)
    (w : (Rect.unit (s := ⟨2, ![m, n]⟩) ![0, 0] ![m, n] h').shape.Idx → Val e) (L : List (View.Piece Val ⟨2, ![m, n]⟩ e)) :
    v.readCov (⟨Rect.unit (s := ⟨2, ![m, n]⟩) ![0, 0] ![m, n] h', w⟩ :: L) (Rect.unit (s := ⟨2, ![m, n]⟩) ![0, 0] ![m, n] h).toLoadRect = w := by
  exact View.readCov_full v h h' w L

/-- Two unit rectangles of the same sizes at equal offsets show the same part. -/
theorem part_congr {α : Type} {S : Shape} (x : S.Idx → α) {off off' size : Fin S.rank → ℕ}
    (h : ∀ a, off a + size a ≤ S.size a) (h' : ∀ a, off' a + size a ≤ S.size a) (e : off = off') :
    part x (Rect.unit off size h) = part x (Rect.unit off' size h') := by
  subst e; rfl

/-- Two unit rectangles of the same sizes at equal offsets are overlaid alike. -/
theorem overlay_congr {α : Type} {S : Shape} (x : S.Idx → α) {off off' size : Fin S.rank → ℕ}
    (h : ∀ a, off a + size a ≤ S.size a) (h' : ∀ a, off' a + size a ≤ S.size a) (e : off = off')
    (w : (Rect.unit off size h).shape.Idx → α) :
    (Rect.unit off size h).overlay x w = (Rect.unit off' size h').overlay x w := by
  subst e; rfl

/-- The part just overlaid. -/
theorem part_overlay {α : Type} {S : Shape} (x : S.Idx → α) (r : Rect S) (w : r.shape.Idx → α) : part (r.overlay x w) r = w := by
  funext j
  exact r.overlay_emb x w j

/-- A part that misses the overlaid rectangle. -/
theorem part_overlay_of_ne {α : Type} {S : Shape} (x : S.Idx → α) (r r' : Rect S) (w : r.shape.Idx → α)
    (h : ∀ j, r'.idx j ∉ r.set) : part (r.overlay x w) r' = part x r' := by
  funext j
  exact r.overlay_of_not_mem x w (h j)

/-- Reading a buffer a rectangle was just written into. -/
theorem read_writes_overlay {sig : RefSig} {κ : Kind} {sp : Space} {S : Shape} {e : EltTy} {Val : EltTy → Type} (v : View sig κ sp S e)
    (f : v.ty.Contents Val) (r : Rect S) (w : r.shape.Idx → Val e) (L : List (View.Piece Val S e)) :
    v.read Val (v.writes Val f (⟨r, w⟩ :: L)) = r.overlay (v.read Val (v.writes Val f L)) w := by
  funext j
  by_cases h : j ∈ r.set
  · obtain ⟨x, rfl⟩ : ∃ x, r.emb x = j := r.exists_idx_of_mem h
    rw [View.read_writes_cons_emb]
    exact (r.overlay_emb _ w x).symm
  · rw [View.read_writes_cons_miss v f ⟨r, w⟩ L j h]
    exact (r.overlay_of_not_mem _ w h).symm

/-- Slot `k` of the two copies of the normalised mixture. -/
def slotH2 (k : Fin 2) : Rect S2x1024x128 :=
  Rect.unit ![k.val, 0, 0] S1x1024x128.size (by intro a; fin_cases a <;> simp [S1x1024x128, S2x1024x128] <;> omega)
/-- Slot `k` of the two copies of the router's weights. -/
def slotEw (k : Fin 2) : Rect S2x1024x8 :=
  Rect.unit ![k.val, 0, 0] S1x1024x8.size (by intro a; fin_cases a <;> simp [S1x1024x8, S2x1024x8] <;> omega)
/-- Slot `k` of the two copies of the router's picks. -/
def slotSel (k : Fin 2) : Rect S2x1024x2 :=
  Rect.unit ![k.val, 0, 0] S1x1024x2.size (by intro a; fin_cases a <;> simp [S1x1024x2, S2x1024x2] <;> omega)
/-- Column block `v` of the kept projection weights. -/
def slotPw (v : Fin 10) : Rect S10x128x3200 :=
  Rect.unit ![v.val, 0, 0] S1x128x3200.size (by intro a; fin_cases a <;> simp [S1x128x3200, S10x128x3200] <;> omega)

/-- A load of slot `k` of such a buffer reads that part of it. -/
theorem loadH2 {sig : RefSig} {κ : Kind} {sp : Space} {e : EltTy} {Val : EltTy → Type} (v : View sig κ sp S2x1024x128 e) (f : v.ty.Contents Val)
    (k : Fin 2) {off : Fin 3 → ℕ} (e : off = ![k.val, 0, 0]) (h : ∀ a, off a + (![1, 1024, 128] : Fin 3 → ℕ) a ≤ S2x1024x128.size a) :
    v.readAt Val (Rect.unit (s := S2x1024x128) off ![1, 1024, 128] h).toLoadRect f = part (v.read Val f) (slotH2 k) := by
  subst e; rfl

/-- A load of slot `k` of such a buffer reads that part of it. -/
theorem loadEw {sig : RefSig} {κ : Kind} {sp : Space} {e : EltTy} {Val : EltTy → Type} (v : View sig κ sp S2x1024x8 e) (f : v.ty.Contents Val)
    (k : Fin 2) {off : Fin 3 → ℕ} (e : off = ![k.val, 0, 0]) (h : ∀ a, off a + (![1, 1024, 8] : Fin 3 → ℕ) a ≤ S2x1024x8.size a) :
    v.readAt Val (Rect.unit (s := S2x1024x8) off ![1, 1024, 8] h).toLoadRect f = part (v.read Val f) (slotEw k) := by
  subst e; rfl

/-- A load of slot `k` of such a buffer reads that part of it. -/
theorem loadSel {sig : RefSig} {κ : Kind} {sp : Space} {e : EltTy} {Val : EltTy → Type} (v : View sig κ sp S2x1024x2 e) (f : v.ty.Contents Val)
    (k : Fin 2) {off : Fin 3 → ℕ} (e : off = ![k.val, 0, 0]) (h : ∀ a, off a + (![1, 1024, 2] : Fin 3 → ℕ) a ≤ S2x1024x2.size a) :
    v.readAt Val (Rect.unit (s := S2x1024x2) off ![1, 1024, 2] h).toLoadRect f = part (v.read Val f) (slotSel k) := by
  subst e; rfl

/-- A load of block `k` of the kept weights reads that part of them. -/
theorem loadPw {sig : RefSig} {κ : Kind} {sp : Space} {e : EltTy} {Val : EltTy → Type} (v : View sig κ sp S10x128x3200 e) (f : v.ty.Contents Val)
    (k : Fin 10) {off : Fin 3 → ℕ} (e : off = ![k.val, 0, 0]) (h : ∀ a, off a + (![1, 128, 3200] : Fin 3 → ℕ) a ≤ S10x128x3200.size a) :
    v.readAt Val (Rect.unit (s := S10x128x3200) off ![1, 128, 3200] h).toLoadRect f = part (v.read Val f) (slotPw k) := by
  subst e; rfl

/-- Unit rectangles that part along an axis: an index of the one is no index of the other. -/
theorem miss {S : Shape} {off size off' size' : Fin S.rank → ℕ} {inb : ∀ a, off a + size a ≤ S.size a}
    {inb' : ∀ a, off' a + size' a ≤ S.size a} (a : Fin S.rank) (h : off' a + size' a ≤ off a ∨ off a + size a ≤ off' a)
    (j : (Rect.unit off' size' inb').shape.Idx) : (Rect.unit off' size' inb').idx j ∉ (Rect.unit off size inb).set := by
  intro hm
  have h1 := Rect.mem_set_unit.mp hm a
  have h2 : ((Rect.unit off' size' inb').idx j a : ℕ) = off' a + 1 * (j a).val := rfl
  have h3 : (j a).val < size' a := (j a).isLt
  omega

/-- The other slot is left alone by a store into a slot: of the normalised mixture, -/
theorem slotH2_miss {k k' : Fin 2} (h : k' ≠ k) : ∀ j, (slotH2 k').idx j ∉ (slotH2 k).set := by
  have := Fin.val_ne_of_ne h
  exact miss (S := S2x1024x128) 0 (by simp [S1x1024x128]; omega)
/-- of the weights, -/
theorem slotEw_miss {k k' : Fin 2} (h : k' ≠ k) : ∀ j, (slotEw k').idx j ∉ (slotEw k).set := by
  have := Fin.val_ne_of_ne h
  exact miss (S := S2x1024x8) 0 (by simp [S1x1024x8]; omega)
/-- of the picks, -/
theorem slotSel_miss {k k' : Fin 2} (h : k' ≠ k) : ∀ j, (slotSel k').idx j ∉ (slotSel k).set := by
  have := Fin.val_ne_of_ne h
  exact miss (S := S2x1024x2) 0 (by simp [S1x1024x2]; omega)
/-- and every other block of the kept weights. -/
theorem slotPw_miss {k k' : Fin 10} (h : k' ≠ k) : ∀ j, (slotPw k').idx j ∉ (slotPw k).set := by
  have := Fin.val_ne_of_ne h
  exact miss (S := S10x128x3200) 0 (by simp [S1x128x3200]; omega)

/-- A load of slot 0 of the weights, after a store into it and one into slot 1, reads what the first stored. -/
theorem covEw {sig : RefSig} {κ : Kind} {sp : Space} {e : EltTy} {Val : EltTy → Type} [∀ e, Nonempty (Val e)] (v : View sig κ sp S2x1024x8 e)
    {off off' : Fin 3 → ℕ} (ho : off = ![1, 0, 0]) (ho' : off' = ![0, 0, 0]) (h1 : ∀ a, off a + S1x1024x8.size a ≤ S2x1024x8.size a)
    (h0 : ∀ a, (![0, 0, 0] : Fin 3 → ℕ) a + S1x1024x8.size a ≤ S2x1024x8.size a)
    (h : ∀ a, off' a + (![1, 1024, 8] : Fin 3 → ℕ) a ≤ S2x1024x8.size a) (w' w : S1x1024x8.Idx → Val e) (L : List (View.Piece Val S2x1024x8 e)) :
    v.readCov (⟨Rect.unit (s := S2x1024x8) off S1x1024x8.size h1, w'⟩ :: ⟨Rect.unit (s := S2x1024x8) ![0, 0, 0] S1x1024x8.size h0, w⟩ :: L)
      (Rect.unit (s := S2x1024x8) off' ![1, 1024, 8] h).toLoadRect = w := by
  subst ho ho'
  refine (congrArg (fun x => part x (slotEw 0)) ((read_writes_overlay _ _ _ _ _).trans (congrArg (fun z => Rect.overlay _ z _) (read_writes_overlay _ _ _ _ _)))).trans ?_
  exact (part_overlay_of_ne _ (slotEw 1) (slotEw 0) w' (slotEw_miss (by decide))).trans (part_overlay _ (slotEw 0) w)

/-- A load of slot 0 of the picks, after a store into it and one into slot 1, reads what the first stored. -/
theorem covSel {sig : RefSig} {κ : Kind} {sp : Space} {e : EltTy} {Val : EltTy → Type} [∀ e, Nonempty (Val e)] (v : View sig κ sp S2x1024x2 e)
    {off off' : Fin 3 → ℕ} (ho : off = ![1, 0, 0]) (ho' : off' = ![0, 0, 0]) (h1 : ∀ a, off a + S1x1024x2.size a ≤ S2x1024x2.size a)
    (h0 : ∀ a, (![0, 0, 0] : Fin 3 → ℕ) a + S1x1024x2.size a ≤ S2x1024x2.size a)
    (h : ∀ a, off' a + (![1, 1024, 2] : Fin 3 → ℕ) a ≤ S2x1024x2.size a) (w' w : S1x1024x2.Idx → Val e) (L : List (View.Piece Val S2x1024x2 e)) :
    v.readCov (⟨Rect.unit (s := S2x1024x2) off S1x1024x2.size h1, w'⟩ :: ⟨Rect.unit (s := S2x1024x2) ![0, 0, 0] S1x1024x2.size h0, w⟩ :: L)
      (Rect.unit (s := S2x1024x2) off' ![1, 1024, 2] h).toLoadRect = w := by
  subst ho ho'
  refine (congrArg (fun x => part x (slotSel 0)) ((read_writes_overlay _ _ _ _ _).trans (congrArg (fun z => Rect.overlay _ z _) (read_writes_overlay _ _ _ _ _)))).trans ?_
  exact (part_overlay_of_ne _ (slotSel 1) (slotSel 0) w' (slotSel_miss (by decide))).trans (part_overlay _ (slotSel 0) w)

/-- The weights' buffer after a store into slot 0 and one into slot 1. -/
theorem writesEw {sig : RefSig} {κ : Kind} {sp : Space} {e : EltTy} {Val : EltTy → Type} (v : View sig κ sp S2x1024x8 e) (f : v.ty.Contents Val)
    {off : Fin 3 → ℕ} (ho : off = ![1, 0, 0]) (h1 : ∀ a, off a + S1x1024x8.size a ≤ S2x1024x8.size a)
    (h0 : ∀ a, (![0, 0, 0] : Fin 3 → ℕ) a + S1x1024x8.size a ≤ S2x1024x8.size a) (w' w : S1x1024x8.Idx → Val e) :
    v.read Val (v.writes Val f [⟨Rect.unit (s := S2x1024x8) off S1x1024x8.size h1, w'⟩, ⟨Rect.unit (s := S2x1024x8) ![0, 0, 0] S1x1024x8.size h0, w⟩])
      = (slotEw 1).overlay ((slotEw 0).overlay (v.read Val f) w) w' := by
  subst ho
  exact (read_writes_overlay _ _ _ _ _).trans (congrArg (fun z => Rect.overlay (slotEw 1) z w') (read_writes_overlay _ _ _ _ _))

/-- The picks' buffer after a store into slot 0 and one into slot 1. -/
theorem writesSel {sig : RefSig} {κ : Kind} {sp : Space} {e : EltTy} {Val : EltTy → Type} (v : View sig κ sp S2x1024x2 e) (f : v.ty.Contents Val)
    {off : Fin 3 → ℕ} (ho : off = ![1, 0, 0]) (h1 : ∀ a, off a + S1x1024x2.size a ≤ S2x1024x2.size a)
    (h0 : ∀ a, (![0, 0, 0] : Fin 3 → ℕ) a + S1x1024x2.size a ≤ S2x1024x2.size a) (w' w : S1x1024x2.Idx → Val e) :
    v.read Val (v.writes Val f [⟨Rect.unit (s := S2x1024x2) off S1x1024x2.size h1, w'⟩, ⟨Rect.unit (s := S2x1024x2) ![0, 0, 0] S1x1024x2.size h0, w⟩])
      = (slotSel 1).overlay ((slotSel 0).overlay (v.read Val f) w) w' := by
  subst ho
  exact (read_writes_overlay _ _ _ _ _).trans (congrArg (fun z => Rect.overlay (slotSel 1) z w') (read_writes_overlay _ _ _ _ _))

/-- A load of the rectangle just stored into reads what was stored. -/
theorem covSame {sig : RefSig} {κ : Kind} {sp : Space} {S : Shape} {e : EltTy} {Val : EltTy → Type} [∀ e, Nonempty (Val e)] (v : View sig κ sp S e)
    (r : Rect S) (w : r.shape.Idx → Val e) (L : List (View.Piece Val S e)) : v.readCov (⟨r, w⟩ :: L) r.toLoadRect = w :=
  (congrArg (fun x => part x r) (read_writes_overlay _ _ _ _ _)).trans (part_overlay _ r w)

/-- Half `k` of expert `e`'s first weights. -/
def w1At (e : Fin 8) (k : Fin 2) : Rect S8x128x512 :=
  Rect.unit ![e.val, 0, 256 * k.val] S1x128x256.size (by intro a; fin_cases a <;> simp [S1x128x256, S8x128x512] <;> omega)
/-- Half `k` of expert `e`'s first bias. -/
def b1At (e : Fin 8) (k : Fin 2) : Rect S8x512 :=
  Rect.unit ![e.val, 256 * k.val] S1x256.size (by intro a; fin_cases a <;> simp [S1x256, S8x512] <;> omega)
/-- Half `k` of expert `e`'s second weights. -/
def w2At (e : Fin 8) (k : Fin 2) : Rect S8x512x128 :=
  Rect.unit ![e.val, 256 * k.val, 0] S1x256x128.size (by intro a; fin_cases a <;> simp [S1x256x128, S8x512x128] <;> omega)
/-- Expert `e`'s second bias. -/
def b2At (e : Fin 8) : Rect S8x128 :=
  Rect.unit ![e.val, 0] S1x128.size (by intro a; fin_cases a <;> simp [S1x128, S8x128] <;> omega)

/-! ## The computation on one block of 1024 rows -/

/-- The mean of every row, as a column. -/
def rowMean (x : FVec F S1024x128 .f32) : FVec F S1024x1 .f32 :=
  divf (shapeCast S1024x1 (multiReduction .add [1] S1024 x 0x00000000#32 reduces_S1024x128_S1024 (.inl rfl) rfl) shapeCasts_S1024_S1024x1)
    (broadcast S1024x1 (Scalar.ofBits .f32 0x43000000#32))

/-- The rows less their means. -/
def centred (x : FVec F S1024x128 .f32) : FVec F S1024x128 .f32 :=
  subf x (broadcastTo S1024x128 (rowMean x) broadcasts_S1024x1_S1024x128)

/-- The layer norm of a block of rows, with scale `g` and shift `b`. -/
def lnorm (x : FVec F S1024x128 .f32) (g b : Vec F S128 .f32) : FVec F S1024x128 .f32 :=
  addf
    (mulf
      (mulf (centred x)
        (broadcastTo S1024x128
          (rsqrt (addf (rowMean (mulf (centred x) (centred x))) (broadcast S1024x1 (Scalar.ofBits .f32 0x3727C5AC#32))))
          broadcasts_S1024x1_S1024x128))
      (broadcastTo S1024x128 (shapeCast S1x128 g shapeCasts_S128_S1x128) broadcasts_S1x128_S1024x128))
    (broadcastTo S1024x128 (shapeCast S1x128 b shapeCasts_S128_S1x128) broadcasts_S1x128_S1024x128)

/-- The block's input norm: token rows plus position rows, normalised. -/
def hidden (te pe : Vec F S1024x128 .f32) (g b : Vec F S128 .f32) : FVec F S1024x128 .f32 :=
  lnorm (addf (shapeCast S1024x128 te shapeCasts_S1024x128_S1024x128) pe) g b

/-- The router's scores over its temperature. -/
def scores (h : FVec F S1024x128 .f32) (rw : Vec F S128x8 .f32) (rb : Vec F S8 .f32) : FVec F S1024x8 .f32 :=
  mulf
    (addf (matmul dot_S1024x128_S128x8_S1024x8_1_0_0_1_n_n none h rw (constant S1024x8 .f32 0x00000000#32))
      (broadcastTo S1024x8 (shapeCast S1x8 rb shapeCasts_S8_S1x8) broadcasts_S1x8_S1024x8))
    (broadcast S1024x8 (Scalar.ofBits .f32 0x40000000#32))

/-- The greatest entry of every row, as a column. -/
def rowMax (x : FVec F S1024x8 .f32) : FVec F S1024x1 .f32 :=
  shapeCast S1024x1 (multiReduction .maximumf [1] S1024 x 0xFF800000#32 reduces_S1024x8_S1024 (.inl rfl) rfl) shapeCasts_S1024_S1024x1

/-- The exponentials of the scores less their row's greatest. -/
def exps (s : FVec F S1024x8 .f32) : FVec F S1024x8 .f32 :=
  exp (subf s (broadcastTo S1024x8 (rowMax s) broadcasts_S1024x1_S1024x8))

/-- The softmax of the scores: the experts' weights. -/
def weights (s : FVec F S1024x8 .f32) : FVec F S1024x8 .f32 :=
  divf (exps s)
    (broadcastTo S1024x8
      (shapeCast S1024x1 (multiReduction .add [1] S1024 (exps s) 0x00000000#32 reduces_S1024x8_S1024 (.inl rfl) rfl) shapeCasts_S1024_S1024x1)
      broadcasts_S1024x1_S1024x8)

/-- The first column at which every row has its greatest entry. -/
def firstMax (w : FVec F S1024x8 .f32) : IVec S1024x1 32 :=
  shapeCast S1024x1
    (multiReductionI .minsi [1] S1024
      (select (cmpf .oeq w (broadcastTo S1024x8 (rowMax w) broadcasts_S1024x1_S1024x8)) (iota .tc S1024x8 32 [1] iota_S1024x8_d1_w32)
        (broadcast S1024x8 8#32))
      2147483647#32 reduces_S1024x8_S1024 rfl)
    shapeCasts_S1024_S1024x1

/-- The weights with the first pick's entry struck out. -/
def struck (w : FVec F S1024x8 .f32) : FVec F S1024x8 .f32 :=
  select (cmpi .eq (iota .tc S1024x8 32 [1] iota_S1024x8_d1_w32) (broadcastTo S1024x8 (firstMax w) broadcasts_S1024x1_S1024x8))
    (broadcast S1024x8 (Scalar.ofBits .f32 0xFF800000#32)) w

/-- The two experts picked for every row. -/
def picks (w : FVec F S1024x8 .f32) : IVec S1024x2 32 :=
  concatenate S1024x2 1 [⟨S1024x1, firstMax w⟩, ⟨S1024x1, firstMax (struck w)⟩] concatenates_S1024x1_S1024x1_S1024x2_d1

/-- The activation, by the hyperbolic tangent. -/
def act (x : FVec F S1024x256 .f32) : FVec F S1024x256 .f32 :=
  mulf x
    (mulf (broadcast S1024x256 (Scalar.ofBits .f32 0x3F000000#32))
      (addf (broadcast S1024x256 (Scalar.ofBits .f32 0x3F800000#32))
        (tanh
          (mulf (broadcast S1024x256 (Scalar.ofBits .f32 0x3F4C422A#32))
            (addf x (mulf (broadcast S1024x256 (Scalar.ofBits .f32 0x3D372713#32)) (mulf x (mulf x x))))))))

/-- One half of an expert's hidden units, before its activation. -/
def preact (hb : FVec F S1024x128 .bf16) (w1 : Vec F S1x128x256 .f32) (b1 : Vec F S1x256 .f32) : FVec F S1024x256 .f32 :=
  addf
    (matmul dot_S1024x128_S128x256_S1024x256_1_0_0_1_n_n none hb
      (truncf .bf16 (shapeCast S128x256 w1 shapeCasts_S1x128x256_S128x256) bitsLt_bf16_f32) (constant S1024x256 .f32 0x00000000#32))
    (broadcastTo S1024x256 (shapeCast S1x256 (shapeCast S256 b1 shapeCasts_S1x256_S256) shapeCasts_S256_S1x256) broadcasts_S1x256_S1024x256)

/-- One half of an expert's hidden units carried to its output. -/
def halfOut (hb : FVec F S1024x128 .bf16) (w1 : Vec F S1x128x256 .f32) (b1 : Vec F S1x256 .f32) (w2 : Vec F S1x256x128 .f32) :
    FVec F S1024x128 .f32 :=
  matmul dot_S1024x256_S256x128_S1024x128_1_0_0_1_n_n none (truncf .bf16 (act (preact hb w1 b1)) bitsLt_bf16_f32)
    (truncf .bf16 (shapeCast S256x128 w2 shapeCasts_S1x256x128_S256x128) bitsLt_bf16_f32) (constant S1024x128 .f32 0x00000000#32)

/-- An expert's output bias added. -/
def biased (o : FVec F S1024x128 .f32) (b2 : Vec F S1x128 .f32) : FVec F S1024x128 .f32 :=
  addf o (broadcastTo S1024x128 (shapeCast S1x128 (shapeCast S128 b2 shapeCasts_S1x128_S128) shapeCasts_S128_S1x128) broadcasts_S1x128_S1024x128)

theorem slices_col (e : Fin 8) : Shape.Slices S1024x8 ![0, e.val] S1024x1 := by
  fin_cases e <;> decide

/-- Expert `e`'s weight, along every row. -/
def weightOf (e : Fin 8) (w : FVec F S1024x8 .f32) : FVec F S1024x128 .f32 :=
  broadcastTo S1024x128 (extractStridedSlice S1024x1 ![0, e.val] w (slices_col e)) broadcasts_S1024x1_S1024x128

/-- The parameters of the experts. -/
structure Experts (F : FTy → Type) where
  /-- the first weights, -/
  w1 : Vec F S8x128x512 .f32
  /-- the first biases, -/
  b1 : Vec F S8x512 .f32
  /-- the second weights, -/
  w2 : Vec F S8x512x128 .f32
  /-- the second biases. -/
  b2 : Vec F S8x128 .f32

/-- Half `k` of expert `e` on the rows `hb`, without its output bias. -/
def Experts.half (X : Experts F) (hb : FVec F S1024x128 .bf16) (e : Fin 8) (k : Fin 2) : FVec F S1024x128 .f32 :=
  halfOut hb (part X.w1 (w1At e k)) (part X.b1 (b1At e k)) (part X.w2 (w2At e k))

/-- The running sum with expert `e`'s first half added, its bias with it, -/
def Experts.step0 (X : Experts F) (hb : FVec F S1024x128 .bf16) (w : FVec F S1024x8 .f32) (e : Fin 8) (acc : FVec F S1024x128 .f32) :
    FVec F S1024x128 .f32 :=
  addf acc (mulf (weightOf e w) (biased (X.half hb e 0) (part X.b2 (b2At e))))

/-- and with its second half. -/
def Experts.step (X : Experts F) (hb : FVec F S1024x128 .bf16) (w : FVec F S1024x8 .f32) (e : Fin 8) (acc : FVec F S1024x128 .f32) :
    FVec F S1024x128 .f32 :=
  addf (X.step0 hb w e acc) (mulf (weightOf e w) (X.half hb e 1))

/-- The weighted sum of the first `n` experts. -/
def Experts.sum (X : Experts F) (hb : FVec F S1024x128 .bf16) (w : FVec F S1024x8 .f32) : (n : ℕ) → n ≤ 8 → FVec F S1024x128 .f32
  | 0, _ => broadcast S1024x128 (Scalar.ofBits .f32 0x00000000#32)
  | n + 1, h => X.step hb w ⟨n, h⟩ (X.sum hb w n (by omega))

/-- The projection of normalised rows on one block of columns. -/
def project (h2 : FVec F S1024x128 .bf16) (pw : FVec F S128x3200 .bf16) (pb : Vec F S1x3200 .f32) : FVec F S1024x3200 .f32 :=
  addf (matmul dot_S1024x128_S128x3200_S1024x3200_1_0_0_1_n_n none h2 pw (constant S1024x3200 .f32 0x00000000#32))
    (broadcastTo S1024x3200 (shapeCast S1x3200 pb shapeCasts_S1x3200_S1x3200) broadcasts_S1x3200_S1024x3200)

end Cert.Proof.Moe

end
-- ==== Proof.Body.lean ====
/-
  The TensorCore body at one grid point, over any buffers, and the conditions of its branches.
-/
module

public import Idealize.ShloMosaic.Lib.Pipeline.Value
public import proofs.«01_k».proof.Proof.Rows

@[expose] public section

set_option maxRecDepth 16384

noncomputable section

namespace Cert.Proof.Moe

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The buffers the TensorCore body is run on: a whole staging memref per window and the six scratch memrefs. -/
structure Args where
  a2 : Memref sig .tc .vmem S1024x128 .f32
  w2 : a2.IsWhole
  a3 : Memref sig .tc .vmem S1024x128 .f32
  w3 : a3.IsWhole
  a4 : Memref sig .tc .vmem S1024x128 .f32
  w4 : a4.IsWhole
  a5 : Memref sig .tc .vmem S1024x128 .f32
  w5 : a5.IsWhole
  a6 : Memref sig .tc .vmem S128 .f32
  w6 : a6.IsWhole
  a7 : Memref sig .tc .vmem S128 .f32
  w7 : a7.IsWhole
  a8 : Memref sig .tc .vmem S128x8 .f32
  w8 : a8.IsWhole
  a9 : Memref sig .tc .vmem S8 .f32
  w9 : a9.IsWhole
  a10 : Memref sig .tc .vmem S8x128x512 .f32
  w10 : a10.IsWhole
  a11 : Memref sig .tc .vmem S8x512 .f32
  w11 : a11.IsWhole
  a12 : Memref sig .tc .vmem S8x512x128 .f32
  w12 : a12.IsWhole
  a13 : Memref sig .tc .vmem S8x128 .f32
  w13 : a13.IsWhole
  a14 : Memref sig .tc .vmem S128 .f32
  w14 : a14.IsWhole
  a15 : Memref sig .tc .vmem S128 .f32
  w15 : a15.IsWhole
  a16 : Memref sig .tc .vmem S128x3200 .f32
  w16 : a16.IsWhole
  a17 : Memref sig .tc .vmem S1x3200 .f32
  w17 : a17.IsWhole
  a18 : Memref sig .tc .vmem S1024x3200 .f32
  w18 : a18.IsWhole
  a19 : Memref sig .tc .vmem S1024x8 .f32
  w19 : a19.IsWhole
  a20 : Memref sig .tc .vmem S1024x2 .i32
  w20 : a20.IsWhole
  a21 : Memref sig .tc .vmem S2x1024x128 .bf16
  w21 : a21.IsWhole
  a22 : Memref sig .tc .vmem S1024x128 .f32
  w22 : a22.IsWhole
  a23 : Memref sig .tc .vmem S1024x128 .f32
  w23 : a23.IsWhole
  a24 : Memref sig .tc .vmem S2x1024x8 .f32
  w24 : a24.IsWhole
  a25 : Memref sig .tc .vmem S2x1024x2 .i32
  w25 : a25.IsWhole
  a26 : Memref sig .tc .vmem S10x128x3200 .bf16
  w26 : a26.IsWhole

variable [FloatOps F] in
/-- The body at grid coordinates `i` on the buffers `A`. -/
abbrev body (i : grid1.Coords) (A : Args) : Prog (TpuEff nD τ sig (Elt F) Λ₀ .tc) PUnit :=
  cc1__fused_body i A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 A.a15 A.w15 A.a16 A.w16 A.a17 A.w17 A.a18 A.w18 A.a19 A.w19 A.a20 A.w20 A.a21 A.w21 A.a22 A.w22 A.a23 A.w23 A.a24 A.w24 A.a25 A.w25 A.a26 A.w26

/-- The condition of the body's first branch, as it is computed. -/
def rowZero (i : grid1.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- The conditions of the eight experts' branches, -/
def condE (e : Fin 8) : grid1.Coords → BitVec 1 :=
  ![k1_cond3, k1_cond4, k1_cond5, k1_cond6, k1_cond7, k1_cond8, k1_cond9, k1_cond10] e

/-- and where each reads the router's weights. -/
def offE (e : Fin 8) : grid1.Coords → Fin 3 → ℕ :=
  ![k1_off3, k1_off4, k1_off5, k1_off6, k1_off7, k1_off8, k1_off9, k1_off10] e

end Cert.Proof.Moe

end
-- ==== Proof.Grid.lean ====
/-
  The body's branch conditions and slot offsets at each grid point, in closed form.
-/
module

public import proofs.«01_k».proof.Proof.Body

@[expose] public section

set_option maxRecDepth 16384

noncomputable section

namespace Cert.Proof.Moe

open Cert.KernelIdeal Cert.KernelIdeal.Gen

open Idealize.ShloMosaic

/-! ## Which branches are taken -/

/-- The first branch is the first point's. -/
theorem rowZero_iff : ∀ t : Fin grid1.N, rowZero (grid1.coords t) = 1#1 ↔ t.val = 0 := by decide +kernel
/-- So is the second. -/
theorem cond2_iff : ∀ t : Fin grid1.N, k1_cond2 (grid1.coords t) = 1#1 ↔ t.val = 0 := by decide +kernel
/-- Expert `e`'s branch is taken at point `e + 1`. -/
theorem condE_iff : ∀ (e : Fin 8) (t : Fin grid1.N), condE e (grid1.coords t) = 1#1 ↔ t.val = e.val + 1 := by decide +kernel
/-- The second row block is normalised at point 9. -/
theorem cond11_iff : ∀ t : Fin grid1.N, k1_cond11 (grid1.coords t) = 1#1 ↔ t.val = 9 := by decide +kernel
/-- The router's results are stored at the first point of each row. -/
theorem cond12_iff : ∀ t : Fin grid1.N, k1_cond12 (grid1.coords t) = 1#1 ↔ t.val % 10 = 0 := by decide +kernel
/-- In the first row the weight block is cast and kept, -/
theorem cond13_iff : ∀ t : Fin grid1.N, k1_cond13 (grid1.coords t) = 1#1 ↔ t.val < 10 := by decide +kernel
/-- in the second it is read back. -/
theorem cond14_iff : ∀ t : Fin grid1.N, k1_cond14 (grid1.coords t) = 1#1 ↔ ¬ t.val < 10 := by decide +kernel

/-! ## Which slots are used -/

theorem off1_at : ∀ t : Fin grid1.N, t.val = 0 → k1_off1 (grid1.coords t) = ![1, 0, 0] := by decide +kernel
theorem off2_at : ∀ t : Fin grid1.N, t.val = 0 → k1_off2 (grid1.coords t) = ![1, 0, 0] := by decide +kernel
theorem offE_at : ∀ (e : Fin 8) (t : Fin grid1.N), t.val < 10 → offE e (grid1.coords t) = ![1, 0, 0] := by decide +kernel
theorem off11_at : ∀ t : Fin grid1.N, t.val < 10 → k1_off11 (grid1.coords t) = ![1, 0, 0] := by decide +kernel
theorem off12_lo : ∀ t : Fin grid1.N, t.val < 10 → k1_off12 (grid1.coords t) = ![0, 0, 0] := by decide +kernel
theorem off12_hi : ∀ t : Fin grid1.N, ¬ t.val < 10 → k1_off12 (grid1.coords t) = ![1, 0, 0] := by decide +kernel
theorem off13_lo : ∀ t : Fin grid1.N, t.val < 10 → k1_off13 (grid1.coords t) = ![0, 0, 0] := by decide +kernel
theorem off13_hi : ∀ t : Fin grid1.N, ¬ t.val < 10 → k1_off13 (grid1.coords t) = ![1, 0, 0] := by decide +kernel
theorem off15_hi : ∀ t : Fin grid1.N, ¬ t.val < 10 → k1_off15 (grid1.coords t) = ![1, 0, 0] := by decide +kernel
theorem off14_at : ∀ t : Fin grid1.N, k1_off14 (grid1.coords t) = ![t.val % 10, 0, 0] := by decide +kernel
theorem off16_at : ∀ t : Fin grid1.N, k1_off16 (grid1.coords t) = ![t.val % 10, 0, 0] := by decide +kernel

/-- Windows 17 and 18 are idle at the points that do not start a row. -/
theorem idle17 : ∀ t : Fin grid1.N, cfg1.idle 17 (grid1.coords t) = !decide (t.val % 10 = 0) := by decide +kernel
theorem idle18 : ∀ t : Fin grid1.N, cfg1.idle 18 (grid1.coords t) = !decide (t.val % 10 = 0) := by decide +kernel

end Cert.Proof.Moe

end
-- ==== Proof.Vals.lean ====
/-
  The values of the TensorCore region: each window's block, what the body leaves at each point, the contents of the
  scratch between points, and the region's proof data.
-/
module

public import Idealize.ShloMosaic.Lib.Pipeline.FrameBody
public import Idealize.ShloMosaic.Lib.Pipeline.Value
public import proofs.«01_k».proof.Proof.Grid

@[expose] public section

set_option maxRecDepth 16384

noncomputable section

namespace Cert.Proof.Moe

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type}

/-- What the TensorCore's buffers hold when the region is entered. -/
abbrev Entry (F : FTy → Type) : Type := (c : Dev nD) → (b : Ref sig .tc) → Buf (Elt F) ((c : Thread nD τ).loc b)

variable (V : Entry F)

/-- Window `w`'s block at point `t`, read off its array. -/
def blkAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first point, -/
abbrev pt0 : Fin cfg1.N := ⟨0, by decide⟩
/-- the point of the first row that weight block `v` is read at. -/
abbrev ptv (v : Fin 10) : Fin cfg1.N := ⟨v.val, Nat.lt_of_lt_of_le v.isLt (by decide)⟩

/-! ## The operands -/

/-- The scale of the input normalisation. -/
def gIn (c : Dev nD) : Vec F S128 .f32 := blkAt V c 4 pt0
/-- Its shift. -/
def bIn (c : Dev nD) : Vec F S128 .f32 := blkAt V c 5 pt0
/-- The router's weights. -/
def rwIn (c : Dev nD) : Vec F S128x8 .f32 := blkAt V c 6 pt0
/-- Its bias. -/
def rbIn (c : Dev nD) : Vec F S8 .f32 := blkAt V c 7 pt0
/-- The experts' first weights. -/
def w1In (c : Dev nD) : Vec F S8x128x512 .f32 := blkAt V c 8 pt0
/-- Their bias. -/
def b1In (c : Dev nD) : Vec F S8x512 .f32 := blkAt V c 9 pt0
/-- Their second weights. -/
def w2In (c : Dev nD) : Vec F S8x512x128 .f32 := blkAt V c 10 pt0
/-- Their bias. -/
def b2In (c : Dev nD) : Vec F S8x128 .f32 := blkAt V c 11 pt0
/-- The scale of the output normalisation. -/
def gOut (c : Dev nD) : Vec F S128 .f32 := blkAt V c 12 pt0
/-- Its shift. -/
def bOut (c : Dev nD) : Vec F S128 .f32 := blkAt V c 13 pt0

/-- Row block `r`'s token embeddings, -/
def tokIn (c : Dev nD) (r : Fin 2) : Vec F S1024x128 .f32 := (![blkAt V c 0 pt0, blkAt V c 1 pt0] : Fin 2 → Vec F S1024x128 .f32) r
/-- and its position embeddings. -/
def posIn (c : Dev nD) (r : Fin 2) : Vec F S1024x128 .f32 := (![blkAt V c 2 pt0, blkAt V c 3 pt0] : Fin 2 → Vec F S1024x128 .f32) r

variable [FloatOps F]

/-- Column block `v` of the projection's weights, cast. -/
def pwIn (c : Dev nD) (v : Fin 10) : Vec F S128x3200 .bf16 := truncf .bf16 (blkAt V c 14 (ptv v) : Vec F S128x3200 .f32) bitsLt_bf16_f32
/-- The projection's bias at point `t`. -/
def pbIn (c : Dev nD) (t : Fin cfg1.N) : Vec F S1x3200 .f32 := blkAt V c 15 t

/-! ## What the region computes -/

/-- Row block `r` after the input normalisation; -/
def hid (c : Dev nD) (r : Fin 2) : Vec F S1024x128 .f32 := hidden (tokIn V c r) (posIn V c r) (gIn V c) (bIn V c)
/-- its router weights; -/
def wts (c : Dev nD) (r : Fin 2) : Vec F S1024x8 .f32 := weights (scores (hid V c r) (rwIn V c) (rbIn V c))
/-- its two selected experts; -/
def sel (c : Dev nD) (r : Fin 2) : Vec F S1024x2 .i32 := picks (wts V c r)
/-- the experts' parameters; -/
def experts (c : Dev nD) : Experts F := ⟨w1In V c, b1In V c, w2In V c, b2In V c⟩
/-- the first `n` experts' weighted outputs summed; -/
def mix (c : Dev nD) (r : Fin 2) (n : ℕ) (h : n ≤ 8) : Vec F S1024x128 .f32 :=
  (experts V c).sum (truncf .bf16 (hid V c r) bitsLt_bf16_f32) (wts V c r) n h
/-- the sum after the output normalisation, cast; -/
def outN (c : Dev nD) (r : Fin 2) : Vec F S1024x128 .bf16 :=
  truncf .bf16 (lnorm (mix V c r 8 le_rfl) (gOut V c) (bOut V c)) bitsLt_bf16_f32
/-- The row block of point `t`, -/
def rowOf (t : Fin cfg1.N) : Fin 2 := if t.val < 10 then 0 else 1
/-- and its column block. -/
def colOf (t : Fin cfg1.N) : Fin 10 := ⟨t.val % 10, Nat.mod_lt _ (by decide)⟩
/-- The block of logits stored at point `t`. -/
def logit (c : Dev nD) (t : Fin cfg1.N) : Vec F S1024x3200 .f32 := project (outN V c (rowOf t)) (pwIn V c (colOf t)) (pbIn V c t)

/-! ## The scratch between points -/

/-- What the six scratch buffers are known to hold before point `n`. -/
structure Holds (c : Dev nD) (n : ℕ) (x21 : Vec F S2x1024x128 .bf16) (x22 x23 : Vec F S1024x128 .f32) (x24 : Vec F S2x1024x8 .f32)
    (x25 : Vec F S2x1024x2 .i32) (x26 : Vec F S10x128x3200 .bf16) : Prop where
  /-- From the first point on: the first row block's output, -/
  out0 : 0 < n → part x21 (slotH2 0) = shapeCast S1x1024x128 (outN V c 0) shapeCasts_S1024x128_S1x1024x128
  /-- from point 9 on the second's; -/
  out1 : 9 < n → part x21 (slotH2 1) = shapeCast S1x1024x128 (outN V c 1) shapeCasts_S1024x128_S1x1024x128
  /-- the second row block after the input normalisation; -/
  hid1 : 0 < n → x22 = hid V c 1
  /-- its experts' running sum; -/
  acc1 : ∀ (k : ℕ) (h : k ≤ 8), n = k + 1 → x23 = mix V c 1 k h
  /-- its router weights -/
  wts1 : 0 < n → part x24 (slotEw 1) = shapeCast S1x1024x8 (wts V c 1) shapeCasts_S1024x8_S1x1024x8
  /-- and selected experts; -/
  sel1 : 0 < n → part x25 (slotSel 1) = shapeCast S1x1024x2 (sel V c 1) shapeCasts_S1024x2_S1x1024x2
  /-- the projection's weight blocks read so far. -/
  pw : ∀ v : Fin 10, v.val < n → part x26 (slotPw v) = shapeCast S1x128x3200 (pwIn V c v) shapeCasts_S128x3200_S1x128x3200

/-- The scratch memrefs. -/
abbrev scr0 : Memref sig .tc .vmem S2x1024x128 .bf16 := Memref.whole cc1_scratch0
abbrev scr1 : Memref sig .tc .vmem S1024x128 .f32 := Memref.whole cc1_scratch1
abbrev scr2 : Memref sig .tc .vmem S1024x128 .f32 := Memref.whole cc1_scratch2
abbrev scr3 : Memref sig .tc .vmem S2x1024x8 .f32 := Memref.whole cc1_scratch3
abbrev scr4 : Memref sig .tc .vmem S2x1024x2 .i32 := Memref.whole cc1_scratch4
abbrev scr5 : Memref sig .tc .vmem S10x128x3200 .bf16 := Memref.whole cc1_scratch5

/-- The body's invariant before point `n`. -/
def Inv (c : Dev nD) (n : ℕ) : sProp (𝕄 F) :=
  iprop(∃ x21 x22 x23 x24 x25 x26, ⌜Holds V c n x21 x22 x23 x24 x25 x26⌝
    ∗ owns (c : Thread nD τ) scr0 fullShare x21 ∗ owns (c : Thread nD τ) scr1 fullShare x22 ∗ owns (c : Thread nD τ) scr2 fullShare x23
    ∗ owns (c : Thread nD τ) scr3 fullShare x24 ∗ owns (c : Thread nD τ) scr4 fullShare x25 ∗ owns (c : Thread nD τ) scr5 fullShare x26)

/-! ## The region's proof data -/

/-- The data: the arrays as entered; each input window left as found, the logits, the router's results; the scratch
    invariant; the input arrays' shares dealt among the windows on them; nothing owed. -/
def dat (c : Dev nD) : Dat τ (Elt F) (SparseCore.Cfg.HIx 1) ℕ UU ℕ cfg1 c where
  A w := V c (Pipeline.arrRef spec1 w)
  after w t := match w with
    | ⟨0, _⟩ => blkAt V c 0 t
    | ⟨1, _⟩ => blkAt V c 1 t
    | ⟨2, _⟩ => blkAt V c 2 t
    | ⟨3, _⟩ => blkAt V c 3 t
    | ⟨4, _⟩ => blkAt V c 4 t
    | ⟨5, _⟩ => blkAt V c 5 t
    | ⟨6, _⟩ => blkAt V c 6 t
    | ⟨7, _⟩ => blkAt V c 7 t
    | ⟨8, _⟩ => blkAt V c 8 t
    | ⟨9, _⟩ => blkAt V c 9 t
    | ⟨10, _⟩ => blkAt V c 10 t
    | ⟨11, _⟩ => blkAt V c 11 t
    | ⟨12, _⟩ => blkAt V c 12 t
    | ⟨13, _⟩ => blkAt V c 13 t
    | ⟨14, _⟩ => blkAt V c 14 t
    | ⟨15, _⟩ => blkAt V c 15 t
    | ⟨16, _⟩ => logit V c t
    | ⟨17, _⟩ => wts V c (rowOf t)
    | ⟨18, _⟩ => sel V c (rowOf t)
    | ⟨_ + 19, h⟩ => absurd h (Nat.not_lt.2 (Nat.le_add_left _ _))
  Φ t := Inv V c t.val
  q w := Pipeline.shareOf spec1 w
  owed _ := 0
  recorded _ := {p | (K (F := F)).lev ((c : Thread nD τ), p.1) p.2 ≤ 8}

theorem dat_A (c : Dev nD) (w : Fin cfg1.W) : (dat V c).A w = V c (Pipeline.arrRef spec1 w) := by dsimp only [dat]
theorem dat_Φ (c : Dev nD) (t : Fin (cfg1.N + 1)) : (dat V c).Φ t = Inv V c t.val := by dsimp only [dat]

theorem after_0 (c : Dev nD) (t : Fin cfg1.N) : (dat V c).after 0 t = blkAt V c 0 t := by dsimp only [dat]
theorem after_1 (c : Dev nD) (t : Fin cfg1.N) : (dat V c).after 1 t = blkAt V c 1 t := by dsimp only [dat]
theorem after_2 (c : Dev nD) (t : Fin cfg1.N) : (dat V c).after 2 t = blkAt V c 2 t := by dsimp only [dat]
theorem after_3 (c : Dev nD) (t : Fin cfg1.N) : (dat V c).after 3 t = blkAt V c 3 t := by dsimp only [dat]
theorem after_4 (c : Dev nD) (t : Fin cfg1.N) : (dat V c).after 4 t = blkAt V c 4 t := by dsimp only [dat]
theorem after_5 (c : Dev nD) (t : Fin cfg1.N) : (dat V c).after 5 t = blkAt V c 5 t := by dsimp only [dat]
theorem after_6 (c : Dev nD) (t : Fin cfg1.N) : (dat V c).after 6 t = blkAt V c 6 t := by dsimp only [dat]
theorem after_7 (c : Dev nD) (t : Fin cfg1.N) : (dat V c).after 7 t = blkAt V c 7 t := by dsimp only [dat]
theorem after_8 (c : Dev nD) (t : Fin cfg1.N) : (dat V c).after 8 t = blkAt V c 8 t := by dsimp only [dat]
theorem after_9 (c : Dev nD) (t : Fin cfg1.N) : (dat V c).after 9 t = blkAt V c 9 t := by dsimp only [dat]
theorem after_10 (c : Dev nD) (t : Fin cfg1.N) : (dat V c).after 10 t = blkAt V c 10 t := by dsimp only [dat]
theorem after_11 (c : Dev nD) (t : Fin cfg1.N) : (dat V c).after 11 t = blkAt V c 11 t := by dsimp only [dat]
theorem after_12 (c : Dev nD) (t : Fin cfg1.N) : (dat V c).after 12 t = blkAt V c 12 t := by dsimp only [dat]
theorem after_13 (c : Dev nD) (t : Fin cfg1.N) : (dat V c).after 13 t = blkAt V c 13 t := by dsimp only [dat]
theorem after_14 (c : Dev nD) (t : Fin cfg1.N) : (dat V c).after 14 t = blkAt V c 14 t := by dsimp only [dat]
theorem after_15 (c : Dev nD) (t : Fin cfg1.N) : (dat V c).after 15 t = blkAt V c 15 t := by dsimp only [dat]
theorem after_16 (c : Dev nD) (t : Fin cfg1.N) : (dat V c).after 16 t = logit V c t := by dsimp only [dat]
theorem after_17 (c : Dev nD) (t : Fin cfg1.N) : (dat V c).after 17 t = wts V c (rowOf t) := by dsimp only [dat]
theorem after_18 (c : Dev nD) (t : Fin cfg1.N) : (dat V c).after 18 t = sel V c (rowOf t) := by dsimp only [dat]

/-! ## What the body finds -/

theorem before_0 (c : Dev nD) (t : Fin cfg1.N) (d) : (dat V c).before 0 t d = blkAt V c 0 t :=
  ((dat V c).before_in_eq_fetched 0 rfl (fun _ => rfl) (fun _ _ _ => rfl) (fun t => by rw [after_0]; unfold Dat.blockOf blkAt; rw [dat_A]; try rfl) t d).trans
    (by unfold Dat.fetched Dat.blockOf blkAt; rw [dat_A]; try rfl)
theorem before_1 (c : Dev nD) (t : Fin cfg1.N) (d) : (dat V c).before 1 t d = blkAt V c 1 t :=
  ((dat V c).before_in_eq_fetched 1 rfl (fun _ => rfl) (fun _ _ _ => rfl) (fun t => by rw [after_1]; unfold Dat.blockOf blkAt; rw [dat_A]; try rfl) t d).trans
    (by unfold Dat.fetched Dat.blockOf blkAt; rw [dat_A]; try rfl)
theorem before_2 (c : Dev nD) (t : Fin cfg1.N) (d) : (dat V c).before 2 t d = blkAt V c 2 t :=
  ((dat V c).before_in_eq_fetched 2 rfl (fun _ => rfl) (fun _ _ _ => rfl) (fun t => by rw [after_2]; unfold Dat.blockOf blkAt; rw [dat_A]; try rfl) t d).trans
    (by unfold Dat.fetched Dat.blockOf blkAt; rw [dat_A]; try rfl)
theorem before_3 (c : Dev nD) (t : Fin cfg1.N) (d) : (dat V c).before 3 t d = blkAt V c 3 t :=
  ((dat V c).before_in_eq_fetched 3 rfl (fun _ => rfl) (fun _ _ _ => rfl) (fun t => by rw [after_3]; unfold Dat.blockOf blkAt; rw [dat_A]; try rfl) t d).trans
    (by unfold Dat.fetched Dat.blockOf blkAt; rw [dat_A]; try rfl)
theorem before_4 (c : Dev nD) (t : Fin cfg1.N) (d) : (dat V c).before 4 t d = blkAt V c 4 t :=
  ((dat V c).before_in_eq_fetched 4 rfl (fun _ => rfl) (fun _ _ _ => rfl) (fun t => by rw [after_4]; unfold Dat.blockOf blkAt; rw [dat_A]; try rfl) t d).trans
    (by unfold Dat.fetched Dat.blockOf blkAt; rw [dat_A]; try rfl)
theorem before_5 (c : Dev nD) (t : Fin cfg1.N) (d) : (dat V c).before 5 t d = blkAt V c 5 t :=
  ((dat V c).before_in_eq_fetched 5 rfl (fun _ => rfl) (fun _ _ _ => rfl) (fun t => by rw [after_5]; unfold Dat.blockOf blkAt; rw [dat_A]; try rfl) t d).trans
    (by unfold Dat.fetched Dat.blockOf blkAt; rw [dat_A]; try rfl)
theorem before_6 (c : Dev nD) (t : Fin cfg1.N) (d) : (dat V c).before 6 t d = blkAt V c 6 t :=
  ((dat V c).before_in_eq_fetched 6 rfl (fun _ => rfl) (fun _ _ _ => rfl) (fun t => by rw [after_6]; unfold Dat.blockOf blkAt; rw [dat_A]; try rfl) t d).trans
    (by unfold Dat.fetched Dat.blockOf blkAt; rw [dat_A]; try rfl)
theorem before_7 (c : Dev nD) (t : Fin cfg1.N) (d) : (dat V c).before 7 t d = blkAt V c 7 t :=
  ((dat V c).before_in_eq_fetched 7 rfl (fun _ => rfl) (fun _ _ _ => rfl) (fun t => by rw [after_7]; unfold Dat.blockOf blkAt; rw [dat_A]; try rfl) t d).trans
    (by unfold Dat.fetched Dat.blockOf blkAt; rw [dat_A]; try rfl)
theorem before_8 (c : Dev nD) (t : Fin cfg1.N) (d) : (dat V c).before 8 t d = blkAt V c 8 t :=
  ((dat V c).before_in_eq_fetched 8 rfl (fun _ => rfl) (fun _ _ _ => rfl) (fun t => by rw [after_8]; unfold Dat.blockOf blkAt; rw [dat_A]; try rfl) t d).trans
    (by unfold Dat.fetched Dat.blockOf blkAt; rw [dat_A]; try rfl)
theorem before_9 (c : Dev nD) (t : Fin cfg1.N) (d) : (dat V c).before 9 t d = blkAt V c 9 t :=
  ((dat V c).before_in_eq_fetched 9 rfl (fun _ => rfl) (fun _ _ _ => rfl) (fun t => by rw [after_9]; unfold Dat.blockOf blkAt; rw [dat_A]; try rfl) t d).trans
    (by unfold Dat.fetched Dat.blockOf blkAt; rw [dat_A]; try rfl)
theorem before_10 (c : Dev nD) (t : Fin cfg1.N) (d) : (dat V c).before 10 t d = blkAt V c 10 t :=
  ((dat V c).before_in_eq_fetched 10 rfl (fun _ => rfl) (fun _ _ _ => rfl) (fun t => by rw [after_10]; unfold Dat.blockOf blkAt; rw [dat_A]; try rfl) t d).trans
    (by unfold Dat.fetched Dat.blockOf blkAt; rw [dat_A]; try rfl)
theorem before_11 (c : Dev nD) (t : Fin cfg1.N) (d) : (dat V c).before 11 t d = blkAt V c 11 t :=
  ((dat V c).before_in_eq_fetched 11 rfl (fun _ => rfl) (fun _ _ _ => rfl) (fun t => by rw [after_11]; unfold Dat.blockOf blkAt; rw [dat_A]; try rfl) t d).trans
    (by unfold Dat.fetched Dat.blockOf blkAt; rw [dat_A]; try rfl)
theorem before_12 (c : Dev nD) (t : Fin cfg1.N) (d) : (dat V c).before 12 t d = blkAt V c 12 t :=
  ((dat V c).before_in_eq_fetched 12 rfl (fun _ => rfl) (fun _ _ _ => rfl) (fun t => by rw [after_12]; unfold Dat.blockOf blkAt; rw [dat_A]; try rfl) t d).trans
    (by unfold Dat.fetched Dat.blockOf blkAt; rw [dat_A]; try rfl)
theorem before_13 (c : Dev nD) (t : Fin cfg1.N) (d) : (dat V c).before 13 t d = blkAt V c 13 t :=
  ((dat V c).before_in_eq_fetched 13 rfl (fun _ => rfl) (fun _ _ _ => rfl) (fun t => by rw [after_13]; unfold Dat.blockOf blkAt; rw [dat_A]; try rfl) t d).trans
    (by unfold Dat.fetched Dat.blockOf blkAt; rw [dat_A]; try rfl)
theorem before_14 (c : Dev nD) (t : Fin cfg1.N) (d) : (dat V c).before 14 t d = blkAt V c 14 t :=
  ((dat V c).before_in_eq_fetched 14 rfl (fun _ => rfl) (fun _ _ _ => rfl) (fun t => by rw [after_14]; unfold Dat.blockOf blkAt; rw [dat_A]; try rfl) t d).trans
    (by unfold Dat.fetched Dat.blockOf blkAt; rw [dat_A]; try rfl)
theorem before_15 (c : Dev nD) (t : Fin cfg1.N) (d) : (dat V c).before 15 t d = blkAt V c 15 t :=
  ((dat V c).before_in_eq_fetched 15 rfl (fun _ => rfl) (fun _ _ _ => rfl) (fun t => by rw [after_15]; unfold Dat.blockOf blkAt; rw [dat_A]; try rfl) t d).trans
    (by unfold Dat.fetched Dat.blockOf blkAt; rw [dat_A]; try rfl)

/-- Between a row's first point and its last, window 17's buffer still holds what the row's first point left. -/
theorem before_17 (c : Dev nD) (d) : ∀ (n : ℕ) (t : Fin cfg1.N), t.val = n → t.val % 10 ≠ 0 → (dat V c).before 17 t d = wts V c (rowOf t) := by
  intro n
  induction n with
  | zero => intro t ht h; exact absurd (by rw [ht]) h
  | succ n ih =>
    intro t ht h
    have hf : (cfg1.win 17).fetch t = false := rfl
    rw [(dat V c).before_of_pos 17 t (by omega) hf d, if_neg (by rw [flush1_17]; dsimp only; omega)]
    unfold Dat.left
    have hrow : rowOf ⟨t.val - 1, Nat.lt_of_le_of_lt (Nat.sub_le _ _) t.isLt⟩ = rowOf t := by
      unfold rowOf; congr 1; apply propext; constructor <;> (dsimp only; omega)
    by_cases h0 : (t.val - 1) % 10 = 0
    · rw [show cfg1.idle 17 (cfg1.grid.coords ⟨t.val - 1, Nat.lt_of_le_of_lt (Nat.sub_le _ _) t.isLt⟩) = false from by rw [idle17]; simp [h0]]
      dsimp only
      unfold Dat.kept
      rw [after_17, hrow]
      rfl
    · rw [show cfg1.idle 17 (cfg1.grid.coords ⟨t.val - 1, Nat.lt_of_le_of_lt (Nat.sub_le _ _) t.isLt⟩) = true from by rw [idle17]; simp [h0]]
      dsimp only
      rw [ih ⟨t.val - 1, Nat.lt_of_le_of_lt (Nat.sub_le _ _) t.isLt⟩ (by dsimp only; omega) h0, hrow]

/-- Between a row's first point and its last, window 18's buffer still holds what the row's first point left. -/
theorem before_18 (c : Dev nD) (d) : ∀ (n : ℕ) (t : Fin cfg1.N), t.val = n → t.val % 10 ≠ 0 → (dat V c).before 18 t d = sel V c (rowOf t) := by
  intro n
  induction n with
  | zero => intro t ht h; exact absurd (by rw [ht]) h
  | succ n ih =>
    intro t ht h
    have hf : (cfg1.win 18).fetch t = false := rfl
    rw [(dat V c).before_of_pos 18 t (by omega) hf d, if_neg (by rw [flush1_18]; dsimp only; omega)]
    unfold Dat.left
    have hrow : rowOf ⟨t.val - 1, Nat.lt_of_le_of_lt (Nat.sub_le _ _) t.isLt⟩ = rowOf t := by
      unfold rowOf; congr 1; apply propext; constructor <;> (dsimp only; omega)
    by_cases h0 : (t.val - 1) % 10 = 0
    · rw [show cfg1.idle 18 (cfg1.grid.coords ⟨t.val - 1, Nat.lt_of_le_of_lt (Nat.sub_le _ _) t.isLt⟩) = false from by rw [idle18]; simp [h0]]
      dsimp only
      unfold Dat.kept
      rw [after_18, hrow]
      rfl
    · rw [show cfg1.idle 18 (cfg1.grid.coords ⟨t.val - 1, Nat.lt_of_le_of_lt (Nat.sub_le _ _) t.isLt⟩) = true from by rw [idle18]; simp [h0]]
      dsimp only
      rw [ih ⟨t.val - 1, Nat.lt_of_le_of_lt (Nat.sub_le _ _) t.isLt⟩ (by dsimp only; omega) h0, hrow]

end Cert.Proof.Moe

end
-- ==== Proof.Steps.lean ====
/-
  How the scratch's contents move from point to point, and what each point stores.
-/
module

public import proofs.«01_k».proof.Proof.Vals

@[expose] public section

set_option maxRecDepth 16384

noncomputable section

namespace Cert.Proof.Moe

open Cert.KernelIdeal Cert.KernelIdeal.Gen

open Idealize.ShloMosaic Idealize.ShloMosaic.TcCoe

variable {F : FTy → Type} (V : Entry F)

/-- A row cast to a slot's shape and back is the row. -/
theorem back {α : Type} {s t : Shape} {y : t.Idx → α} {v : s.Idx → α} {h : s.ShapeCasts t} (e : y = shapeCast t v h) (h' : t.ShapeCasts s) :
    shapeCast s y h' = v := by
  rw [e]; exact shapeCast_shapeCast _ _ _

/-! ## The windows whose block never moves -/

theorem blk_8 (c : Dev nD) (t : Fin cfg1.N) : blkAt V c 8 t = w1In V c := rfl
theorem blk_9 (c : Dev nD) (t : Fin cfg1.N) : blkAt V c 9 t = b1In V c := rfl
theorem blk_10 (c : Dev nD) (t : Fin cfg1.N) : blkAt V c 10 t = w2In V c := rfl
theorem blk_11 (c : Dev nD) (t : Fin cfg1.N) : blkAt V c 11 t = b2In V c := rfl
theorem blk_12 (c : Dev nD) (t : Fin cfg1.N) : blkAt V c 12 t = gOut V c := rfl
theorem blk_13 (c : Dev nD) (t : Fin cfg1.N) : blkAt V c 13 t = bOut V c := rfl

theorem colOf_lt {t : Fin cfg1.N} (h : t.val < 10) : (colOf t).val = t.val := Nat.mod_eq_of_lt h

variable [FloatOps F]

/-- In the first row the weight block cast is the one of the point's column. -/
theorem cast_14 (c : Dev nD) {t : Fin cfg1.N} (h : t.val < 10) :
    truncf .bf16 (blkAt V c 14 t : Vec F S128x3200 .f32) bitsLt_bf16_f32 = pwIn V c (colOf t) := by
  unfold pwIn
  rw [show ptv (colOf t) = t from Fin.ext (colOf_lt h)]

/-! ## The stored block of logits -/

/-- In the first row: the first row block's output against the point's own weight block. -/
theorem logit_lo (c : Dev nD) {t : Fin cfg1.N} (h : t.val < 10) {x21 : Vec F S2x1024x128 .bf16}
    (h21 : part x21 (slotH2 0) = shapeCast S1x1024x128 (outN V c 0) shapeCasts_S1024x128_S1x1024x128) :
    project (shapeCast S1024x128 (part x21 (slotH2 0)) shapeCasts_S1x1024x128_S1024x128) (truncf .bf16 (blkAt V c 14 t : Vec F S128x3200 .f32) bitsLt_bf16_f32)
      (blkAt V c 15 t) = logit V c t := by
  rw [cast_14 V c h, show shapeCast S1024x128 (part x21 (slotH2 0)) shapeCasts_S1x1024x128_S1024x128 = outN V c 0 from back h21 _]
  unfold logit pbIn
  rw [show rowOf t = 0 from if_pos h]

/-- In the second: the second row block's output against the block kept. -/
theorem logit_hi (c : Dev nD) {t : Fin cfg1.N} (h : ¬ t.val < 10) {x21 : Vec F S2x1024x128 .bf16} {x26 : Vec F S10x128x3200 .bf16}
    (h21 : part x21 (slotH2 1) = shapeCast S1x1024x128 (outN V c 1) shapeCasts_S1024x128_S1x1024x128)
    (h26 : part x26 (slotPw (colOf t)) = shapeCast S1x128x3200 (pwIn V c (colOf t)) shapeCasts_S128x3200_S1x128x3200) :
    project (shapeCast S1024x128 (part x21 (slotH2 1)) shapeCasts_S1x1024x128_S1024x128)
      (shapeCast S128x3200 (part x26 (slotPw (colOf t))) shapeCasts_S1x128x3200_S128x3200) (blkAt V c 15 t) = logit V c t := by
  rw [show shapeCast S1024x128 (part x21 (slotH2 1)) shapeCasts_S1x1024x128_S1024x128 = outN V c 1 from back h21 _,
    show shapeCast S128x3200 (part x26 (slotPw (colOf t))) shapeCasts_S1x128x3200_S128x3200 = pwIn V c (colOf t) from back h26 _]
  unfold logit pbIn
  rw [show rowOf t = 1 from if_neg h]

/-! ## The scratch -/

/-- Storing the point's weight block keeps the blocks before it. -/
theorem pw_step (c : Dev nD) {t : Fin cfg1.N} (h : t.val < 10) {x26 : Vec F S10x128x3200 .bf16}
    (h26 : ∀ v : Fin 10, v.val < t.val → part x26 (slotPw v) = shapeCast S1x128x3200 (pwIn V c v) shapeCasts_S128x3200_S1x128x3200)
    (v : Fin 10) (hv : v.val < t.val + 1) :
    part ((slotPw (colOf t)).overlay x26 (shapeCast S1x128x3200 (pwIn V c (colOf t)) shapeCasts_S128x3200_S1x128x3200)) (slotPw v)
      = shapeCast S1x128x3200 (pwIn V c v) shapeCasts_S128x3200_S1x128x3200 := by
  by_cases hvt : v = colOf t
  · subst hvt; exact part_overlay _ _ _
  · refine (part_overlay_of_ne _ _ _ _ (slotPw_miss hvt)).trans ?_
    exact h26 v (by have := colOf_lt h; have : v.val ≠ (colOf t).val := fun e => hvt (Fin.ext e); omega)

/-- After the first point. -/
theorem holds_first (c : Dev nD) {t : Fin cfg1.N} (h : t.val = 0) (x21 : Vec F S2x1024x128 .bf16) (x24 : Vec F S2x1024x8 .f32)
    (x25 : Vec F S2x1024x2 .i32) (x26 : Vec F S10x128x3200 .bf16) :
    Holds V c (t.val + 1)
      ((slotH2 0).overlay x21 (shapeCast S1x1024x128 (outN V c 0) shapeCasts_S1024x128_S1x1024x128))
      (hid V c 1) (mix V c 1 0 (Nat.zero_le 8))
      ((slotEw 1).overlay ((slotEw 0).overlay x24 (shapeCast S1x1024x8 (wts V c 0) shapeCasts_S1024x8_S1x1024x8))
        (shapeCast S1x1024x8 (wts V c 1) shapeCasts_S1024x8_S1x1024x8))
      ((slotSel 1).overlay ((slotSel 0).overlay x25 (shapeCast S1x1024x2 (sel V c 0) shapeCasts_S1024x2_S1x1024x2))
        (shapeCast S1x1024x2 (sel V c 1) shapeCasts_S1024x2_S1x1024x2))
      ((slotPw (colOf t)).overlay x26 (shapeCast S1x128x3200 (pwIn V c (colOf t)) shapeCasts_S128x3200_S1x128x3200)) where
  out0 _ := part_overlay _ _ _
  out1 hn := absurd hn (by omega)
  hid1 _ := rfl
  acc1 k hk hn := by obtain rfl : k = 0 := by omega
                     rfl
  wts1 _ := part_overlay _ _ _
  sel1 _ := part_overlay _ _ _
  pw v hv := pw_step V c (by omega) (fun v hv => absurd hv (by omega)) v hv

/-- After an expert's point. -/
theorem holds_expert (c : Dev nD) {t : Fin cfg1.N} (e : Fin 8) (h : t.val = e.val + 1) {x21 : Vec F S2x1024x128 .bf16} {x22 x23 : Vec F S1024x128 .f32}
    {x24 : Vec F S2x1024x8 .f32} {x25 : Vec F S2x1024x2 .i32} {x26 : Vec F S10x128x3200 .bf16} (H : Holds V c t.val x21 x22 x23 x24 x25 x26) :
    Holds V c (t.val + 1) x21 x22 (mix V c 1 (e.val + 1) e.isLt) x24 x25
      ((slotPw (colOf t)).overlay x26 (shapeCast S1x128x3200 (pwIn V c (colOf t)) shapeCasts_S128x3200_S1x128x3200)) where
  out0 _ := H.out0 (by omega)
  out1 hn := absurd hn (by omega)
  hid1 _ := H.hid1 (by omega)
  acc1 k hk hn := by obtain rfl : k = e.val + 1 := by omega
                     rfl
  wts1 _ := H.wts1 (by omega)
  sel1 _ := H.sel1 (by omega)
  pw v hv := pw_step V c (by omega) H.pw v hv

/-- What the expert's step leaves in the running sum. -/
theorem mix_step (c : Dev nD) {t : Fin cfg1.N} (e : Fin 8) (h : t.val = e.val + 1) {x21 : Vec F S2x1024x128 .bf16} {x22 x23 : Vec F S1024x128 .f32}
    {x24 : Vec F S2x1024x8 .f32} {x25 : Vec F S2x1024x2 .i32} {x26 : Vec F S10x128x3200 .bf16} (H : Holds V c t.val x21 x22 x23 x24 x25 x26) :
    (⟨blkAt V c 8 t, blkAt V c 9 t, blkAt V c 10 t, blkAt V c 11 t⟩ : Experts F).step (truncf .bf16 x22 bitsLt_bf16_f32)
      (shapeCast S1024x8 (part x24 (slotEw 1)) shapeCasts_S1x1024x8_S1024x8) e x23 = mix V c 1 (e.val + 1) e.isLt := by
  rw [H.hid1 (by omega), H.acc1 e.val (by omega) h,
    show shapeCast S1024x8 (part x24 (slotEw 1)) shapeCasts_S1x1024x8_S1024x8 = wts V c 1 from back (H.wts1 (by omega)) _, blk_8, blk_9, blk_10, blk_11]
  rfl

/-- After the second row block is normalised. -/
theorem holds_norm (c : Dev nD) {t : Fin cfg1.N} (h : t.val = 9) {x21 : Vec F S2x1024x128 .bf16} {x22 x23 : Vec F S1024x128 .f32}
    {x24 : Vec F S2x1024x8 .f32} {x25 : Vec F S2x1024x2 .i32} {x26 : Vec F S10x128x3200 .bf16} (H : Holds V c t.val x21 x22 x23 x24 x25 x26) :
    Holds V c (t.val + 1) ((slotH2 1).overlay x21 (shapeCast S1x1024x128 (outN V c 1) shapeCasts_S1024x128_S1x1024x128)) x22 x23 x24 x25
      ((slotPw (colOf t)).overlay x26 (shapeCast S1x128x3200 (pwIn V c (colOf t)) shapeCasts_S128x3200_S1x128x3200)) where
  out0 _ := (part_overlay_of_ne _ _ _ _ (slotH2_miss (by decide))).trans (H.out0 (by omega))
  out1 _ := part_overlay _ _ _
  hid1 _ := H.hid1 (by omega)
  acc1 k hk hn := absurd hn (by omega)
  wts1 _ := H.wts1 (by omega)
  sel1 _ := H.sel1 (by omega)
  pw v hv := pw_step V c (by omega) H.pw v hv

/-- What it stores. -/
theorem out_norm (c : Dev nD) {t : Fin cfg1.N} (h : t.val = 9) {x21 : Vec F S2x1024x128 .bf16} {x22 x23 : Vec F S1024x128 .f32}
    {x24 : Vec F S2x1024x8 .f32} {x25 : Vec F S2x1024x2 .i32} {x26 : Vec F S10x128x3200 .bf16} (H : Holds V c t.val x21 x22 x23 x24 x25 x26) :
    truncf .bf16 (lnorm x23 (blkAt V c 12 t) (blkAt V c 13 t)) bitsLt_bf16_f32 = outN V c 1 := by
  rw [H.acc1 8 le_rfl h, blk_12, blk_13]
  rfl

/-- In the second row nothing changes. -/
theorem holds_stay (c : Dev nD) {t : Fin cfg1.N} (h : ¬ t.val < 10) {x21 : Vec F S2x1024x128 .bf16} {x22 x23 : Vec F S1024x128 .f32}
    {x24 : Vec F S2x1024x8 .f32} {x25 : Vec F S2x1024x2 .i32} {x26 : Vec F S10x128x3200 .bf16} (H : Holds V c t.val x21 x22 x23 x24 x25 x26) :
    Holds V c (t.val + 1) x21 x22 x23 x24 x25 x26 where
  out0 _ := H.out0 (by omega)
  out1 _ := H.out1 (by omega)
  hid1 _ := H.hid1 (by omega)
  acc1 k hk hn := absurd hn (by omega)
  wts1 _ := H.wts1 (by omega)
  sel1 _ := H.sel1 (by omega)
  pw v hv := H.pw v (by omega)

end Cert.Proof.Moe

end
-- ==== Proof.BodyExpert.lean ====
/-
  The body at the grid points that add an expert to the running sum: one run for each of the eight.
-/
module

public import Idealize.ShloMosaic.Lib.Pipeline.Value
public import proofs.«01_k».proof.Proof.Body

@[expose] public section

set_option maxRecDepth 16384

noncomputable section

namespace Cert.Proof.Moe

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

variable [FloatOps F]

set_option maxHeartbeats 1600000 in
/-- The grid points of the experts: expert `e` is added to the running sum; the column block's weights are kept, and its logits written. -/
theorem run_expert (c : Dev nD) (i : grid1.Coords) (A : Args) (x10 : Vec F S8x128x512 .f32) (x11 : Vec F S8x512 .f32) (x12 : Vec F S8x512x128 .f32) (x13 : Vec F S8x128 .f32) (x16 : Vec F S128x3200 .f32) (x17 : Vec F S1x3200 .f32) (x18 : Vec F S1024x3200 .f32) (x21 : Vec F S2x1024x128 .bf16) (x22 : Vec F S1024x128 .f32) (x23 : Vec F S1024x128 .f32) (x24 : Vec F S2x1024x8 .f32) (x26 : Vec F S10x128x3200 .bf16)
    (e : Fin 8) (h1 : ¬ rowZero i = 1#1) (h2 : ¬ k1_cond2 i = 1#1) (he : condE e i = 1#1) (hn : ∀ k, k ≠ e → ¬ condE k i = 1#1)
    (h11 : ¬ k1_cond11 i = 1#1) (h12 : ¬ k1_cond12 i = 1#1) (h13 : k1_cond13 i = 1#1) (h14 : ¬ k1_cond14 i = 1#1)
    (ho : offE e i = ![1, 0, 0]) (v : Fin 10) (hv : k1_off14 i = ![v.val, 0, 0]) (E : Set ℕ) (Q : PUnit → sProp (𝕄 F)) :
    iprop(owns (c : Thread nD τ) A.a10 fullShare x10
          ∗ owns (c : Thread nD τ) A.a11 fullShare x11
          ∗ owns (c : Thread nD τ) A.a12 fullShare x12
          ∗ owns (c : Thread nD τ) A.a13 fullShare x13
          ∗ owns (c : Thread nD τ) A.a16 fullShare x16
          ∗ owns (c : Thread nD τ) A.a17 fullShare x17
          ∗ owns (c : Thread nD τ) A.a18 fullShare x18
          ∗ owns (c : Thread nD τ) A.a21 fullShare x21
          ∗ owns (c : Thread nD τ) A.a22 fullShare x22
          ∗ owns (c : Thread nD τ) A.a23 fullShare x23
          ∗ owns (c : Thread nD τ) A.a24 fullShare x24
          ∗ owns (c : Thread nD τ) A.a26 fullShare x26
          ∗ (iprop(owns (c : Thread nD τ) A.a10 fullShare x10
          ∗ owns (c : Thread nD τ) A.a11 fullShare x11
          ∗ owns (c : Thread nD τ) A.a12 fullShare x12
          ∗ owns (c : Thread nD τ) A.a13 fullShare x13
          ∗ owns (c : Thread nD τ) A.a16 fullShare x16
          ∗ owns (c : Thread nD τ) A.a17 fullShare x17
          ∗ owns (c : Thread nD τ) A.a18 fullShare (project (shapeCast S1024x128 (part x21 (slotH2 0)) shapeCasts_S1x1024x128_S1024x128) (truncf .bf16 x16 bitsLt_bf16_f32) x17)
          ∗ owns (c : Thread nD τ) A.a21 fullShare x21
          ∗ owns (c : Thread nD τ) A.a22 fullShare x22
          ∗ owns (c : Thread nD τ) A.a23 fullShare ((⟨x10, x11, x12, x13⟩ : Experts F).step (truncf .bf16 x22 bitsLt_bf16_f32) (shapeCast S1024x8 (part x24 (slotEw 1)) shapeCasts_S1x1024x8_S1024x8) e x23)
          ∗ owns (c : Thread nD τ) A.a24 fullShare x24
          ∗ owns (c : Thread nD τ) A.a26 fullShare ((slotPw v).overlay x26 (shapeCast S1x128x3200 (truncf .bf16 x16 bitsLt_bf16_f32) shapeCasts_S128x3200_S1x128x3200))) -∗ Q ⟨⟩))
      ⊢ wp frame (wpE (defs₀ (F := F)) 𝒱₀ (c : Thread nD τ) none) E (body i A) Q := by
    simp only [body, cc1__fused_body_eq_skeleton]; unfold cc1__fused_body_skel
    simp only [k1_part34_eq_skeleton, k1_part35_eq_skeleton]
    unfold k1_part34_skel k1_part35_skel
    unfold rowZero at h1
    simp only [dif_neg h1, dif_neg h2, dif_neg h11, dif_neg h12, dif_pos h13, dif_neg h14]
    have hn3 := hn 0; have hn4 := hn 1; have hn5 := hn 2; have hn6 := hn 3
    have hn7 := hn 4; have hn8 := hn 5; have hn9 := hn 6; have hn10 := hn 7
    clear hn
    fin_cases e
    all_goals
      simp [condE, offE] at he ho hn3 hn4 hn5 hn6 hn7 hn8 hn9 hn10
      simp only [dif_pos he, *, dite_false, ↓reduceDIte]
      simp only [k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton]
      have ho' : _ = ![((1 : Fin 2) : ℕ), 0, 0] := ho
      unfold owns
      iintro ⟨⟨%f10, %hf10, H10⟩, ⟨%f11, %hf11, H11⟩, ⟨%f12, %hf12, H12⟩, ⟨%f13, %hf13, H13⟩, ⟨%f16, %hf16, H16⟩, ⟨%f17, %hf17, H17⟩, ⟨%f18, %hf18, H18⟩, ⟨%f21, %hf21, H21⟩, ⟨%f22, %hf22, H22⟩, ⟨%f23, %hf23, H23⟩, ⟨%f24, %hf24, H24⟩, ⟨%f26, %hf26, H26⟩, Hk⟩
      subst hf10; subst hf11; subst hf12; subst hf13; subst hf16; subst hf17; subst hf18; subst hf21; subst hf22; subst hf23; subst hf24; subst hf26
      sl_exec
      sl_step
      iapply Hk
      isplitl [H10]
      · iexists _; isplitr; swap; · iexact H10
        ipureintro; rfl
      isplitl [H11]
      · iexists _; isplitr; swap; · iexact H11
        ipureintro; rfl
      isplitl [H12]
      · iexists _; isplitr; swap; · iexact H12
        ipureintro; rfl
      isplitl [H13]
      · iexists _; isplitr; swap; · iexact H13
        ipureintro; rfl
      isplitl [H16]
      · iexists _; isplitr; swap; · iexact H16
        ipureintro; rfl
      isplitl [H17]
      · iexists _; isplitr; swap; · iexact H17
        ipureintro; rfl
      isplitl [H18]
      · iexists _; isplitr; swap; · iexact H18
        ipureintro; refine (View.read_writes_full _ _ _ _ _).trans ?_
        simp only [load1, load2]
        rfl
      isplitl [H21]
      · iexists _; isplitr; swap; · iexact H21
        ipureintro; rfl
      isplitl [H22]
      · iexists _; isplitr; swap; · iexact H22
        ipureintro; rfl
      isplitl [H23]
      · iexists _; isplitr; swap; · iexact H23
        ipureintro; refine (View.read_writes_full _ _ _ _ _).trans ?_
        first
            | delta run_expert.sl.v80 run_expert.sl.v121 run_expert.sl.H23_1 run_expert.sl.r run_expert.sl.r_1 run_expert.sl.r_2 run_expert.sl.r_3 run_expert.sl.r_4 run_expert.sl.r_5
            | delta run_expert.sl.v80_1 run_expert.sl.v121_1 run_expert.sl.H23_1_1 run_expert.sl.r_6 run_expert.sl.r_7 run_expert.sl.r_8 run_expert.sl.r_9 run_expert.sl.r_10 run_expert.sl.r_11
            | delta run_expert.sl.v80_2 run_expert.sl.v121_2 run_expert.sl.H23_1_2 run_expert.sl.r_12 run_expert.sl.r_13 run_expert.sl.r_14 run_expert.sl.r_15 run_expert.sl.r_16 run_expert.sl.r_17
            | delta run_expert.sl.v80_3 run_expert.sl.v121_3 run_expert.sl.H23_1_3 run_expert.sl.r_18 run_expert.sl.r_19 run_expert.sl.r_20 run_expert.sl.r_21 run_expert.sl.r_22 run_expert.sl.r_23
            | delta run_expert.sl.v80_4 run_expert.sl.v121_4 run_expert.sl.H23_1_4 run_expert.sl.r_24 run_expert.sl.r_25 run_expert.sl.r_26 run_expert.sl.r_27 run_expert.sl.r_28 run_expert.sl.r_29
            | delta run_expert.sl.v80_5 run_expert.sl.v121_5 run_expert.sl.H23_1_5 run_expert.sl.r_30 run_expert.sl.r_31 run_expert.sl.r_32 run_expert.sl.r_33 run_expert.sl.r_34 run_expert.sl.r_35
            | delta run_expert.sl.v80_6 run_expert.sl.v121_6 run_expert.sl.H23_1_6 run_expert.sl.r_36 run_expert.sl.r_37 run_expert.sl.r_38 run_expert.sl.r_39 run_expert.sl.r_40 run_expert.sl.r_41
            | delta run_expert.sl.v80_7 run_expert.sl.v121_7 run_expert.sl.H23_1_7 run_expert.sl.r_42 run_expert.sl.r_43 run_expert.sl.r_44 run_expert.sl.r_45 run_expert.sl.r_46 run_expert.sl.r_47
        simp only [load1, load2, cov2, loadEw _ _ _ ho']
        refine (shapeCast_self _ _).trans (congrArg₂ addf ((shapeCast_self _ _).trans ?_) ?_) <;> rfl
      isplitl [H24]
      · iexists _; isplitr; swap; · iexact H24
        ipureintro; rfl
      iexists _; isplitr; swap; · iexact H26
      ipureintro; refine (read_writes_overlay _ _ _ _ _).trans ?_
      simp only [load1, load2]
      exact overlay_congr _ _ _ hv _

end Cert.Proof.Moe

end
-- ==== Proof.BodyRows.lean ====
/-
  The body at the grid points that start, close and follow the first row.
-/
module

public import Idealize.ShloMosaic.Lib.Pipeline.Value
public import proofs.«01_k».proof.Proof.Body

@[expose] public section

set_option maxRecDepth 16384

noncomputable section

namespace Cert.Proof.Moe

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

variable [FloatOps F]

set_option maxHeartbeats 1600000 in
/-- The later grid points of the second row: the logits of the column block, from the kept weights. -/
theorem run_late (c : Dev nD) (i : grid1.Coords) (A : Args) (x17 : Vec F S1x3200 .f32) (x18 : Vec F S1024x3200 .f32) (x21 : Vec F S2x1024x128 .bf16) (x26 : Vec F S10x128x3200 .bf16)
    (hn : ∀ k, ¬ condE k i = 1#1) (h1 : ¬ rowZero i = 1#1) (h2 : ¬ k1_cond2 i = 1#1) (h11 : ¬ k1_cond11 i = 1#1) (h12 : ¬ k1_cond12 i = 1#1) (h13 : ¬ k1_cond13 i = 1#1) (h14 : k1_cond14 i = 1#1)
    (v : Fin 10) (h15 : k1_off15 i = ![1, 0, 0]) (h16 : k1_off16 i = ![v.val, 0, 0]) (E : Set ℕ) (Q : PUnit → sProp (𝕄 F)) :
    iprop(owns (c : Thread nD τ) A.a17 fullShare x17
          ∗ owns (c : Thread nD τ) A.a18 fullShare x18
          ∗ owns (c : Thread nD τ) A.a21 fullShare x21
          ∗ owns (c : Thread nD τ) A.a26 fullShare x26
          ∗ (iprop(owns (c : Thread nD τ) A.a17 fullShare x17
          ∗ owns (c : Thread nD τ) A.a18 fullShare (project (shapeCast S1024x128 (part x21 (slotH2 1)) shapeCasts_S1x1024x128_S1024x128) (shapeCast S128x3200 (part x26 (slotPw v)) shapeCasts_S1x128x3200_S128x3200) x17)
          ∗ owns (c : Thread nD τ) A.a21 fullShare x21
          ∗ owns (c : Thread nD τ) A.a26 fullShare x26) -∗ Q ⟨⟩))
      ⊢ wp frame (wpE (defs₀ (F := F)) 𝒱₀ (c : Thread nD τ) none) E (body i A) Q := by
    have h15' : _ = ![((1 : Fin 2) : ℕ), 0, 0] := h15
    have h16' : _ = ![(v : ℕ), 0, 0] := h16
    simp only [body, cc1__fused_body_eq_skeleton]; unfold cc1__fused_body_skel
    simp only [k1_part34_eq_skeleton, k1_part35_eq_skeleton]
    unfold k1_part34_skel k1_part35_skel
    unfold rowZero at h1
    have hn3 := hn 0; have hn4 := hn 1; have hn5 := hn 2; have hn6 := hn 3
    have hn7 := hn 4; have hn8 := hn 5; have hn9 := hn 6; have hn10 := hn 7
    clear hn
    simp [condE] at hn3 hn4 hn5 hn6 hn7 hn8 hn9 hn10
    simp only [dif_neg h1, dif_neg h2, dif_neg h11, dif_neg h12, dif_neg h13, dif_pos h14, dif_neg hn3, dif_neg hn4, dif_neg hn5, dif_neg hn6, dif_neg hn7, dif_neg hn8, dif_neg hn9, dif_neg hn10]
    unfold owns
    iintro ⟨⟨%f17, %hf17, H17⟩, ⟨%f18, %hf18, H18⟩, ⟨%f21, %hf21, H21⟩, ⟨%f26, %hf26, H26⟩, Hk⟩
    subst hf17; subst hf18; subst hf21; subst hf26
    sl_exec
    sl_step
    iapply Hk
    isplitl [H17]
    · iexists _; isplitr; swap; · iexact H17
      ipureintro; rfl
    isplitl [H18]
    · iexists _; isplitr; swap; · iexact H18
      ipureintro; refine (View.read_writes_full _ _ _ _ _).trans ?_
      delta run_late.sl.v77 run_late.sl.v80
      simp only [load1, load2, loadH2 _ _ _ h15', loadPw _ _ _ h16']
      rfl
    isplitl [H21]
    · iexists _; isplitr; swap; · iexact H21
      ipureintro; rfl
    iexists _; isplitr; swap; · iexact H26
    ipureintro; rfl

set_option maxHeartbeats 1600000 in
/-- The first grid point of the second row: the router's answers for the row are put out, and the first logits written. -/
theorem run_turn (c : Dev nD) (i : grid1.Coords) (A : Args) (x17 : Vec F S1x3200 .f32) (x18 : Vec F S1024x3200 .f32) (x19 : Vec F S1024x8 .f32) (x20 : Vec F S1024x2 .i32) (x21 : Vec F S2x1024x128 .bf16) (x24 : Vec F S2x1024x8 .f32) (x25 : Vec F S2x1024x2 .i32) (x26 : Vec F S10x128x3200 .bf16)
    (hn : ∀ k, ¬ condE k i = 1#1) (h1 : ¬ rowZero i = 1#1) (h2 : ¬ k1_cond2 i = 1#1) (h11 : ¬ k1_cond11 i = 1#1) (h12 : k1_cond12 i = 1#1) (h13 : ¬ k1_cond13 i = 1#1) (h14 : k1_cond14 i = 1#1)
    (v : Fin 10) (h15 : k1_off15 i = ![1, 0, 0]) (h16 : k1_off16 i = ![v.val, 0, 0])
    (o12 : k1_off12 i = ![1, 0, 0]) (o13 : k1_off13 i = ![1, 0, 0]) (E : Set ℕ) (Q : PUnit → sProp (𝕄 F)) :
    iprop(owns (c : Thread nD τ) A.a17 fullShare x17
          ∗ owns (c : Thread nD τ) A.a18 fullShare x18
          ∗ owns (c : Thread nD τ) A.a19 fullShare x19
          ∗ owns (c : Thread nD τ) A.a20 fullShare x20
          ∗ owns (c : Thread nD τ) A.a21 fullShare x21
          ∗ owns (c : Thread nD τ) A.a24 fullShare x24
          ∗ owns (c : Thread nD τ) A.a25 fullShare x25
          ∗ owns (c : Thread nD τ) A.a26 fullShare x26
          ∗ (iprop(owns (c : Thread nD τ) A.a17 fullShare x17
          ∗ owns (c : Thread nD τ) A.a18 fullShare (project (shapeCast S1024x128 (part x21 (slotH2 1)) shapeCasts_S1x1024x128_S1024x128) (shapeCast S128x3200 (part x26 (slotPw v)) shapeCasts_S1x128x3200_S128x3200) x17)
          ∗ owns (c : Thread nD τ) A.a19 fullShare (shapeCast S1024x8 (part x24 (slotEw 1)) shapeCasts_S1x1024x8_S1024x8)
          ∗ owns (c : Thread nD τ) A.a20 fullShare (shapeCast S1024x2 (part x25 (slotSel 1)) shapeCasts_S1x1024x2_S1024x2)
          ∗ owns (c : Thread nD τ) A.a21 fullShare x21
          ∗ owns (c : Thread nD τ) A.a24 fullShare x24
          ∗ owns (c : Thread nD τ) A.a25 fullShare x25
          ∗ owns (c : Thread nD τ) A.a26 fullShare x26) -∗ Q ⟨⟩))
      ⊢ wp frame (wpE (defs₀ (F := F)) 𝒱₀ (c : Thread nD τ) none) E (body i A) Q := by
    have h15' : _ = ![((1 : Fin 2) : ℕ), 0, 0] := h15
    have h16' : _ = ![(v : ℕ), 0, 0] := h16
    have o12' : _ = ![((1 : Fin 2) : ℕ), 0, 0] := o12
    have o13' : _ = ![((1 : Fin 2) : ℕ), 0, 0] := o13
    simp only [body, cc1__fused_body_eq_skeleton]; unfold cc1__fused_body_skel
    simp only [k1_part34_eq_skeleton, k1_part35_eq_skeleton]
    unfold k1_part34_skel k1_part35_skel
    unfold rowZero at h1
    have hn3 := hn 0; have hn4 := hn 1; have hn5 := hn 2; have hn6 := hn 3
    have hn7 := hn 4; have hn8 := hn 5; have hn9 := hn 6; have hn10 := hn 7
    clear hn
    simp [condE] at hn3 hn4 hn5 hn6 hn7 hn8 hn9 hn10
    simp only [dif_neg h1, dif_neg h2, dif_neg h11, dif_pos h12, dif_neg h13, dif_pos h14, dif_neg hn3, dif_neg hn4, dif_neg hn5, dif_neg hn6, dif_neg hn7, dif_neg hn8, dif_neg hn9, dif_neg hn10]
    unfold owns
    iintro ⟨⟨%f17, %hf17, H17⟩, ⟨%f18, %hf18, H18⟩, ⟨%f19, %hf19, H19⟩, ⟨%f20, %hf20, H20⟩, ⟨%f21, %hf21, H21⟩, ⟨%f24, %hf24, H24⟩, ⟨%f25, %hf25, H25⟩, ⟨%f26, %hf26, H26⟩, Hk⟩
    subst hf17; subst hf18; subst hf19; subst hf20; subst hf21; subst hf24; subst hf25; subst hf26
    sl_exec
    sl_step
    iapply Hk
    isplitl [H17]
    · iexists _; isplitr; swap; · iexact H17
      ipureintro; rfl
    isplitl [H18]
    · iexists _; isplitr; swap; · iexact H18
      ipureintro; refine (View.read_writes_full _ _ _ _ _).trans ?_
      delta run_turn.sl.v77_1 run_turn.sl.v80
      simp only [load1, load2, loadH2 _ _ _ h15', loadPw _ _ _ h16']
      rfl
    isplitl [H19]
    · iexists _; isplitr; swap; · iexact H19
      ipureintro; refine (View.read_writes_full _ _ _ _ _).trans ?_
      delta run_turn.sl.v77
      simp only [loadEw _ _ _ o12']
      rfl
    isplitl [H20]
    · iexists _; isplitr; swap; · iexact H20
      ipureintro; refine (View.read_writes_full _ _ _ _ _).trans ?_
      delta run_turn.sl.v81
      simp only [loadSel _ _ _ o13']
      rfl
    isplitl [H21]
    · iexists _; isplitr; swap; · iexact H21
      ipureintro; rfl
    isplitl [H24]
    · iexists _; isplitr; swap; · iexact H24
      ipureintro; rfl
    isplitl [H25]
    · iexists _; isplitr; swap; · iexact H25
      ipureintro; rfl
    iexists _; isplitr; swap; · iexact H26
    ipureintro; rfl

set_option maxHeartbeats 1600000 in
/-- The last grid point of the first row: the mixture of the next block of rows is normalised into its slot. -/
theorem run_norm (c : Dev nD) (i : grid1.Coords) (A : Args) (x14 : Vec F S128 .f32) (x15 : Vec F S128 .f32) (x16 : Vec F S128x3200 .f32) (x17 : Vec F S1x3200 .f32) (x18 : Vec F S1024x3200 .f32) (x21 : Vec F S2x1024x128 .bf16) (x23 : Vec F S1024x128 .f32) (x26 : Vec F S10x128x3200 .bf16)
    (hn : ∀ k, ¬ condE k i = 1#1) (h1 : ¬ rowZero i = 1#1) (h2 : ¬ k1_cond2 i = 1#1) (h11 : k1_cond11 i = 1#1) (h12 : ¬ k1_cond12 i = 1#1) (h13 : k1_cond13 i = 1#1) (h14 : ¬ k1_cond14 i = 1#1)
    (o11 : k1_off11 i = ![1, 0, 0]) (v : Fin 10) (hv : k1_off14 i = ![v.val, 0, 0]) (E : Set ℕ) (Q : PUnit → sProp (𝕄 F)) :
    iprop(owns (c : Thread nD τ) A.a14 fullShare x14
          ∗ owns (c : Thread nD τ) A.a15 fullShare x15
          ∗ owns (c : Thread nD τ) A.a16 fullShare x16
          ∗ owns (c : Thread nD τ) A.a17 fullShare x17
          ∗ owns (c : Thread nD τ) A.a18 fullShare x18
          ∗ owns (c : Thread nD τ) A.a21 fullShare x21
          ∗ owns (c : Thread nD τ) A.a23 fullShare x23
          ∗ owns (c : Thread nD τ) A.a26 fullShare x26
          ∗ (iprop(owns (c : Thread nD τ) A.a14 fullShare x14
          ∗ owns (c : Thread nD τ) A.a15 fullShare x15
          ∗ owns (c : Thread nD τ) A.a16 fullShare x16
          ∗ owns (c : Thread nD τ) A.a17 fullShare x17
          ∗ owns (c : Thread nD τ) A.a18 fullShare (project (shapeCast S1024x128 (part x21 (slotH2 0)) shapeCasts_S1x1024x128_S1024x128) (truncf .bf16 x16 bitsLt_bf16_f32) x17)
          ∗ owns (c : Thread nD τ) A.a21 fullShare ((slotH2 1).overlay x21 (shapeCast S1x1024x128 (truncf .bf16 (lnorm x23 x14 x15) bitsLt_bf16_f32) shapeCasts_S1024x128_S1x1024x128))
          ∗ owns (c : Thread nD τ) A.a23 fullShare x23
          ∗ owns (c : Thread nD τ) A.a26 fullShare ((slotPw v).overlay x26 (shapeCast S1x128x3200 (truncf .bf16 x16 bitsLt_bf16_f32) shapeCasts_S128x3200_S1x128x3200))) -∗ Q ⟨⟩))
      ⊢ wp frame (wpE (defs₀ (F := F)) 𝒱₀ (c : Thread nD τ) none) E (body i A) Q := by
    letI : ClosedOff (k1_off11 i) := ⟨![1, 0, 0], o11⟩
    simp only [body, cc1__fused_body_eq_skeleton]; unfold cc1__fused_body_skel
    simp only [k1_part34_eq_skeleton, k1_part35_eq_skeleton]
    unfold k1_part34_skel k1_part35_skel
    unfold rowZero at h1
    have hn3 := hn 0; have hn4 := hn 1; have hn5 := hn 2; have hn6 := hn 3
    have hn7 := hn 4; have hn8 := hn 5; have hn9 := hn 6; have hn10 := hn 7
    clear hn
    simp [condE] at hn3 hn4 hn5 hn6 hn7 hn8 hn9 hn10
    simp only [dif_neg h1, dif_neg h2, dif_pos h11, dif_neg h12, dif_pos h13, dif_neg h14, dif_neg hn3, dif_neg hn4, dif_neg hn5, dif_neg hn6, dif_neg hn7, dif_neg hn8, dif_neg hn9, dif_neg hn10]
    unfold owns
    iintro ⟨⟨%f14, %hf14, H14⟩, ⟨%f15, %hf15, H15⟩, ⟨%f16, %hf16, H16⟩, ⟨%f17, %hf17, H17⟩, ⟨%f18, %hf18, H18⟩, ⟨%f21, %hf21, H21⟩, ⟨%f23, %hf23, H23⟩, ⟨%f26, %hf26, H26⟩, Hk⟩
    subst hf14; subst hf15; subst hf16; subst hf17; subst hf18; subst hf21; subst hf23; subst hf26
    sl_exec
    sl_step
    iapply Hk
    isplitl [H14]
    · iexists _; isplitr; swap; · iexact H14
      ipureintro; rfl
    isplitl [H15]
    · iexists _; isplitr; swap; · iexact H15
      ipureintro; rfl
    isplitl [H16]
    · iexists _; isplitr; swap; · iexact H16
      ipureintro; rfl
    isplitl [H17]
    · iexists _; isplitr; swap; · iexact H17
      ipureintro; rfl
    isplitl [H18]
    · iexists _; isplitr; swap; · iexact H18
      ipureintro; refine (View.read_writes_full _ _ _ _ _).trans ?_
      delta run_norm.sl.v82
      simp only [load1, load2]
      rfl
    isplitl [H21]
    · iexists _; isplitr; swap; · iexact H21
      ipureintro; refine (read_writes_overlay _ _ _ _ _).trans ?_
      simp only [load1, load2]
      exact overlay_congr _ _ _ o11 _
    isplitl [H23]
    · iexists _; isplitr; swap; · iexact H23
      ipureintro; rfl
    iexists _; isplitr; swap; · iexact H26
    ipureintro; refine (read_writes_overlay _ _ _ _ _).trans ?_
    simp only [load1, load2]
    exact overlay_congr _ _ _ hv _

end Cert.Proof.Moe

end
-- ==== Proof.BodyFirst.lean ====
/-
  The body at the first grid point.
-/
module

public import Idealize.ShloMosaic.Lib.Pipeline.Value
public import proofs.«01_k».proof.Proof.Body

@[expose] public section

set_option maxRecDepth 16384

noncomputable section

namespace Cert.Proof.Moe

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

variable [FloatOps F]

/-- The payload of the first row's store of logits is the projection. -/
theorem logits_eq (a : Vec F S128x3200 .f32) (b : Vec F S1x1024x128 .bf16) (c : Vec F S1x3200 .f32) :
    k1_pay5 a b c = project (shapeCast S1024x128 b shapeCasts_S1x1024x128_S1024x128) (truncf .bf16 a bitsLt_bf16_f32) c := rfl

/-- Normalised rows stored as a slot and loaded again are projected as they were. -/
theorem project_of {z : Vec F S1x1024x128 .bf16} {n : FVec F S1024x128 .bf16} {a : FVec F S128x3200 .bf16} {b : Vec F S1x3200 .f32}
    (h : z = shapeCast S1x1024x128 n shapeCasts_S1024x128_S1x1024x128) :
    project (shapeCast S1024x128 z shapeCasts_S1x1024x128_S1024x128) a b = project n a b := by
  subst h
  exact congrArg (fun y => project y a b) (shapeCast_shapeCast n shapeCasts_S1024x128_S1x1024x128 shapeCasts_S1x1024x128_S1024x128)

/-- Weights stored as a slot and loaded again are put out as they were, -/
theorem weights_of {z : Vec F S1x1024x8 .f32} {w : FVec F S1024x8 .f32} (h : z = shapeCast S1x1024x8 w shapeCasts_S1024x8_S1x1024x8) :
    k1_pay1 z = w := by
  subst h
  exact shapeCast_shapeCast w shapeCasts_S1024x8_S1x1024x8 shapeCasts_S1x1024x8_S1024x8

/-- and so are picks. -/
theorem picks_of {z : Vec F S1x1024x2 .i32} {w : IVec S1024x2 32} (h : z = shapeCast S1x1024x2 w shapeCasts_S1024x2_S1x1024x2) :
    k1_pay2 (F := F) z = w := by
  subst h
  exact shapeCast_shapeCast w shapeCasts_S1024x2_S1x1024x2 shapeCasts_S1x1024x2_S1024x2

set_option maxHeartbeats 1600000 in
/-- The first grid point: the first block of rows whole, and the router's answers for the second. -/
theorem run_first (c : Dev nD) (i : grid1.Coords) (A : Args) (x2 : Vec F S1024x128 .f32) (x3 : Vec F S1024x128 .f32) (x4 : Vec F S1024x128 .f32) (x5 : Vec F S1024x128 .f32) (x6 : Vec F S128 .f32) (x7 : Vec F S128 .f32) (x8 : Vec F S128x8 .f32) (x9 : Vec F S8 .f32) (x10 : Vec F S8x128x512 .f32) (x11 : Vec F S8x512 .f32) (x12 : Vec F S8x512x128 .f32) (x13 : Vec F S8x128 .f32) (x14 : Vec F S128 .f32) (x15 : Vec F S128 .f32) (x16 : Vec F S128x3200 .f32) (x17 : Vec F S1x3200 .f32) (x18 : Vec F S1024x3200 .f32) (x19 : Vec F S1024x8 .f32) (x20 : Vec F S1024x2 .i32) (x21 : Vec F S2x1024x128 .bf16) (x22 : Vec F S1024x128 .f32) (x23 : Vec F S1024x128 .f32) (x24 : Vec F S2x1024x8 .f32) (x25 : Vec F S2x1024x2 .i32) (x26 : Vec F S10x128x3200 .bf16)
    (hn : ∀ k, ¬ condE k i = 1#1) (h1 : rowZero i = 1#1) (h2 : k1_cond2 i = 1#1) (h11 : ¬ k1_cond11 i = 1#1) (h12 : k1_cond12 i = 1#1) (h13 : k1_cond13 i = 1#1) (h14 : ¬ k1_cond14 i = 1#1)
    (o1 : k1_off1 i = ![1, 0, 0]) (o2 : k1_off2 i = ![1, 0, 0]) (o12 : k1_off12 i = ![0, 0, 0]) (o13 : k1_off13 i = ![0, 0, 0]) (v : Fin 10) (hv : k1_off14 i = ![v.val, 0, 0]) (E : Set ℕ) (Q : PUnit → sProp (𝕄 F)) :
    iprop(owns (c : Thread nD τ) A.a2 fullShare x2
          ∗ owns (c : Thread nD τ) A.a3 fullShare x3
          ∗ owns (c : Thread nD τ) A.a4 fullShare x4
          ∗ owns (c : Thread nD τ) A.a5 fullShare x5
          ∗ owns (c : Thread nD τ) A.a6 fullShare x6
          ∗ owns (c : Thread nD τ) A.a7 fullShare x7
          ∗ owns (c : Thread nD τ) A.a8 fullShare x8
          ∗ owns (c : Thread nD τ) A.a9 fullShare x9
          ∗ owns (c : Thread nD τ) A.a10 fullShare x10
          ∗ owns (c : Thread nD τ) A.a11 fullShare x11
          ∗ owns (c : Thread nD τ) A.a12 fullShare x12
          ∗ owns (c : Thread nD τ) A.a13 fullShare x13
          ∗ owns (c : Thread nD τ) A.a14 fullShare x14
          ∗ owns (c : Thread nD τ) A.a15 fullShare x15
          ∗ owns (c : Thread nD τ) A.a16 fullShare x16
          ∗ owns (c : Thread nD τ) A.a17 fullShare x17
          ∗ owns (c : Thread nD τ) A.a18 fullShare x18
          ∗ owns (c : Thread nD τ) A.a19 fullShare x19
          ∗ owns (c : Thread nD τ) A.a20 fullShare x20
          ∗ owns (c : Thread nD τ) A.a21 fullShare x21
          ∗ owns (c : Thread nD τ) A.a22 fullShare x22
          ∗ owns (c : Thread nD τ) A.a23 fullShare x23
          ∗ owns (c : Thread nD τ) A.a24 fullShare x24
          ∗ owns (c : Thread nD τ) A.a25 fullShare x25
          ∗ owns (c : Thread nD τ) A.a26 fullShare x26
          ∗ (iprop(owns (c : Thread nD τ) A.a2 fullShare x2
          ∗ owns (c : Thread nD τ) A.a3 fullShare x3
          ∗ owns (c : Thread nD τ) A.a4 fullShare x4
          ∗ owns (c : Thread nD τ) A.a5 fullShare x5
          ∗ owns (c : Thread nD τ) A.a6 fullShare x6
          ∗ owns (c : Thread nD τ) A.a7 fullShare x7
          ∗ owns (c : Thread nD τ) A.a8 fullShare x8
          ∗ owns (c : Thread nD τ) A.a9 fullShare x9
          ∗ owns (c : Thread nD τ) A.a10 fullShare x10
          ∗ owns (c : Thread nD τ) A.a11 fullShare x11
          ∗ owns (c : Thread nD τ) A.a12 fullShare x12
          ∗ owns (c : Thread nD τ) A.a13 fullShare x13
          ∗ owns (c : Thread nD τ) A.a14 fullShare x14
          ∗ owns (c : Thread nD τ) A.a15 fullShare x15
          ∗ owns (c : Thread nD τ) A.a16 fullShare x16
          ∗ owns (c : Thread nD τ) A.a17 fullShare x17
          ∗ owns (c : Thread nD τ) A.a18 fullShare (project (truncf .bf16 (lnorm ((⟨x10, x11, x12, x13⟩ : Experts F).sum (truncf .bf16 (hidden x2 x4 x6 x7) bitsLt_bf16_f32) (weights (scores (hidden x2 x4 x6 x7) x8 x9)) 8 le_rfl) x14 x15) bitsLt_bf16_f32) (truncf .bf16 x16 bitsLt_bf16_f32) x17)
          ∗ owns (c : Thread nD τ) A.a19 fullShare (weights (scores (hidden x2 x4 x6 x7) x8 x9))
          ∗ owns (c : Thread nD τ) A.a20 fullShare (picks (weights (scores (hidden x2 x4 x6 x7) x8 x9)))
          ∗ owns (c : Thread nD τ) A.a21 fullShare ((slotH2 0).overlay x21 (shapeCast S1x1024x128 (truncf .bf16 (lnorm ((⟨x10, x11, x12, x13⟩ : Experts F).sum (truncf .bf16 (hidden x2 x4 x6 x7) bitsLt_bf16_f32) (weights (scores (hidden x2 x4 x6 x7) x8 x9)) 8 le_rfl) x14 x15) bitsLt_bf16_f32) shapeCasts_S1024x128_S1x1024x128))
          ∗ owns (c : Thread nD τ) A.a22 fullShare (hidden x3 x5 x6 x7)
          ∗ owns (c : Thread nD τ) A.a23 fullShare ((⟨x10, x11, x12, x13⟩ : Experts F).sum (truncf .bf16 x22 bitsLt_bf16_f32) (shapeCast S1024x8 (part x24 (slotEw 1)) shapeCasts_S1x1024x8_S1024x8) 0 (Nat.zero_le 8))
          ∗ owns (c : Thread nD τ) A.a24 fullShare ((slotEw 1).overlay ((slotEw 0).overlay x24 (shapeCast S1x1024x8 (weights (scores (hidden x2 x4 x6 x7) x8 x9)) shapeCasts_S1024x8_S1x1024x8)) (shapeCast S1x1024x8 (weights (scores (hidden x3 x5 x6 x7) x8 x9)) shapeCasts_S1024x8_S1x1024x8))
          ∗ owns (c : Thread nD τ) A.a25 fullShare ((slotSel 1).overlay ((slotSel 0).overlay x25 (shapeCast S1x1024x2 (picks (weights (scores (hidden x2 x4 x6 x7) x8 x9))) shapeCasts_S1024x2_S1x1024x2)) (shapeCast S1x1024x2 (picks (weights (scores (hidden x3 x5 x6 x7) x8 x9))) shapeCasts_S1024x2_S1x1024x2))
          ∗ owns (c : Thread nD τ) A.a26 fullShare ((slotPw v).overlay x26 (shapeCast S1x128x3200 (truncf .bf16 x16 bitsLt_bf16_f32) shapeCasts_S128x3200_S1x128x3200))) -∗ Q ⟨⟩))
      ⊢ wp frame (wpE (defs₀ (F := F)) 𝒱₀ (c : Thread nD τ) none) E (body i A) Q := by
    letI : ClosedOff (k1_off1 i) := ⟨![1, 0, 0], o1⟩
    letI : ClosedOff (k1_off2 i) := ⟨![1, 0, 0], o2⟩
    letI : ClosedOff (k1_off12 i) := ⟨![0, 0, 0], o12⟩
    letI : ClosedOff (k1_off13 i) := ⟨![0, 0, 0], o13⟩
    simp only [body, cc1__fused_body_eq_skeleton]; unfold cc1__fused_body_skel
    simp only [k1_part34_eq_skeleton, k1_part35_eq_skeleton]
    unfold k1_part34_skel k1_part35_skel
    unfold rowZero at h1
    have hn3 := hn 0; have hn4 := hn 1; have hn5 := hn 2; have hn6 := hn 3
    have hn7 := hn 4; have hn8 := hn 5; have hn9 := hn 6; have hn10 := hn 7
    clear hn
    simp [condE] at hn3 hn4 hn5 hn6 hn7 hn8 hn9 hn10
    simp only [dif_pos h1, dif_pos h2, dif_neg h11, dif_pos h12, dif_pos h13, dif_neg h14, dif_neg hn3, dif_neg hn4, dif_neg hn5, dif_neg hn6, dif_neg hn7, dif_neg hn8, dif_neg hn9, dif_neg hn10]
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
    subst hf2; subst hf3; subst hf4; subst hf5; subst hf6; subst hf7; subst hf8; subst hf9; subst hf10; subst hf11; subst hf12; subst hf13; subst hf14; subst hf15; subst hf16; subst hf17; subst hf18; subst hf19; subst hf20; subst hf21; subst hf22; subst hf23; subst hf24; subst hf25; subst hf26
    sl_exec
    sl_step
    iapply Hk
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    isplitl [H14]
    · iexists _; isplitr; swap; · iexact H14
      ipureintro; rfl
    isplitl [H15]
    · iexists _; isplitr; swap; · iexact H15
      ipureintro; rfl
    isplitl [H16]
    · iexists _; isplitr; swap; · iexact H16
      ipureintro; rfl
    isplitl [H17]
    · iexists _; isplitr; swap; · iexact H17
      ipureintro; rfl
    isplitl [H18]
    · iexists _; isplitr; swap; · iexact H18
      ipureintro; refine (View.read_writes_full _ _ _ _ _).trans ?_
      delta run_first.sl.v82 run_first.sl.H21_1
      refine ((logits_eq _ _ _).trans (congrArg (fun z => project (shapeCast S1024x128 z shapeCasts_S1x1024x128_S1024x128) _ _) (covSame _ _ _ _))).trans ?_
      delta run_first.sl.cst_120 run_first.sl.cst_155 run_first.sl.cst_173 run_first.sl.r run_first.sl.r_1 run_first.sl.r_2 run_first.sl.r_3 run_first.sl.r_4 run_first.sl.r_5 run_first.sl.r_6 run_first.sl.r_7 run_first.sl.r_8 run_first.sl.r_9 run_first.sl.r_10 run_first.sl.r_11 run_first.sl.r_12 run_first.sl.r_13 run_first.sl.r_14 run_first.sl.r_15 run_first.sl.r_16 run_first.sl.r_17 run_first.sl.r_18 run_first.sl.r_19 run_first.sl.r_20 run_first.sl.r_21 run_first.sl.r_22 run_first.sl.r_23 run_first.sl.r_24 run_first.sl.r_25 run_first.sl.r_26 run_first.sl.r_27 run_first.sl.r_28 run_first.sl.r_29 run_first.sl.r_30 run_first.sl.r_31 run_first.sl.r_32 run_first.sl.r_33 run_first.sl.r_34 run_first.sl.r_35 run_first.sl.r_36 run_first.sl.r_37 run_first.sl.r_38 run_first.sl.r_39 run_first.sl.r_40
      simp only [View.readAt_full, load1, load2]
      refine project_of ?_
      rfl
    isplitl [H19]
    · iexists _; isplitr; swap; · iexact H19
      ipureintro; refine (View.read_writes_full _ _ _ _ _).trans ?_
      delta run_first.sl.v77 run_first.sl.H24_2
      refine (congrArg k1_pay1 (covEw _ o1 o12 _ _ _ _ _ _)).trans ?_
      delta run_first.sl.r run_first.sl.r_1 run_first.sl.r_2 run_first.sl.r_3 run_first.sl.r_4 run_first.sl.r_5 run_first.sl.r_6 run_first.sl.r_7 run_first.sl.r_8 run_first.sl.r_9 run_first.sl.r_10 run_first.sl.r_11 run_first.sl.r_12 run_first.sl.r_13 run_first.sl.r_14 run_first.sl.r_15 run_first.sl.r_16 run_first.sl.r_17 run_first.sl.r_18 run_first.sl.r_19 run_first.sl.r_20 run_first.sl.r_21 run_first.sl.r_22 run_first.sl.r_23 run_first.sl.r_24 run_first.sl.r_25 run_first.sl.r_26 run_first.sl.r_27 run_first.sl.r_28 run_first.sl.r_29 run_first.sl.r_30 run_first.sl.r_31 run_first.sl.r_32 run_first.sl.r_33 run_first.sl.r_34 run_first.sl.r_35 run_first.sl.r_36 run_first.sl.r_37 run_first.sl.r_38 run_first.sl.r_39 run_first.sl.r_40
      simp only [View.readAt_full, load1, load2]
      refine weights_of ?_
      rfl
    isplitl [H20]
    · iexists _; isplitr; swap; · iexact H20
      ipureintro; refine (View.read_writes_full _ _ _ _ _).trans ?_
      delta run_first.sl.v81 run_first.sl.H25_2
      refine (congrArg (k1_pay2 (F := F)) (covSel _ o2 o13 _ _ _ _ _ _)).trans ?_
      delta run_first.sl.r run_first.sl.r_1 run_first.sl.r_2 run_first.sl.r_3 run_first.sl.r_4 run_first.sl.r_5 run_first.sl.r_6 run_first.sl.r_7 run_first.sl.r_8 run_first.sl.r_9 run_first.sl.r_10 run_first.sl.r_11 run_first.sl.r_12 run_first.sl.r_13 run_first.sl.r_14 run_first.sl.r_15 run_first.sl.r_16 run_first.sl.r_17 run_first.sl.r_18 run_first.sl.r_19 run_first.sl.r_20 run_first.sl.r_21 run_first.sl.r_22 run_first.sl.r_23 run_first.sl.r_24 run_first.sl.r_25 run_first.sl.r_26 run_first.sl.r_27 run_first.sl.r_28 run_first.sl.r_29 run_first.sl.r_30 run_first.sl.r_31 run_first.sl.r_32 run_first.sl.r_33 run_first.sl.r_34 run_first.sl.r_35 run_first.sl.r_36 run_first.sl.r_37 run_first.sl.r_38 run_first.sl.r_39 run_first.sl.r_40
      simp only [View.readAt_full, load1, load2]
      refine picks_of ?_
      rfl
    isplitl [H21]
    · iexists _; isplitr; swap; · iexact H21
      ipureintro; delta run_first.sl.H21_1
      refine (read_writes_overlay _ _ _ _ _).trans (congrArg ((slotH2 0).overlay _) ?_)
      delta run_first.sl.cst_120 run_first.sl.cst_155 run_first.sl.cst_173 run_first.sl.r run_first.sl.r_1 run_first.sl.r_2 run_first.sl.r_3 run_first.sl.r_4 run_first.sl.r_5 run_first.sl.r_6 run_first.sl.r_7 run_first.sl.r_8 run_first.sl.r_9 run_first.sl.r_10 run_first.sl.r_11 run_first.sl.r_12 run_first.sl.r_13 run_first.sl.r_14 run_first.sl.r_15 run_first.sl.r_16 run_first.sl.r_17 run_first.sl.r_18 run_first.sl.r_19 run_first.sl.r_20 run_first.sl.r_21 run_first.sl.r_22 run_first.sl.r_23 run_first.sl.r_24 run_first.sl.r_25 run_first.sl.r_26 run_first.sl.r_27 run_first.sl.r_28 run_first.sl.r_29 run_first.sl.r_30 run_first.sl.r_31 run_first.sl.r_32 run_first.sl.r_33 run_first.sl.r_34 run_first.sl.r_35 run_first.sl.r_36 run_first.sl.r_37 run_first.sl.r_38 run_first.sl.r_39 run_first.sl.r_40
      simp only [View.readAt_full, load1, load2]
      rfl
    isplitl [H22]
    · iexists _; isplitr; swap; · iexact H22
      ipureintro; refine (View.read_writes_full _ _ _ _ _).trans ?_
      simp only [View.readAt_full, load1, load2]
      exact shapeCast_self _ _
    isplitl [H23]
    · iexists _; isplitr; swap; · iexact H23
      ipureintro; exact (View.read_writes_full _ _ _ _ _).trans (shapeCast_self _ _)
    isplitl [H24]
    · iexists _; isplitr; swap; · iexact H24
      ipureintro; delta run_first.sl.H24_2
      refine (writesEw _ _ o1 _ _ _ _).trans ?_
      delta run_first.sl.r run_first.sl.r_1 run_first.sl.r_2 run_first.sl.r_3 run_first.sl.r_4 run_first.sl.r_5 run_first.sl.r_6 run_first.sl.r_7 run_first.sl.r_8 run_first.sl.r_9 run_first.sl.r_10 run_first.sl.r_11 run_first.sl.r_12 run_first.sl.r_13 run_first.sl.r_14 run_first.sl.r_15 run_first.sl.r_16 run_first.sl.r_17 run_first.sl.r_18 run_first.sl.r_19 run_first.sl.r_20 run_first.sl.r_21 run_first.sl.r_22 run_first.sl.r_23 run_first.sl.r_24 run_first.sl.r_25 run_first.sl.r_26 run_first.sl.r_27 run_first.sl.r_28 run_first.sl.r_29 run_first.sl.r_30 run_first.sl.r_31 run_first.sl.r_32 run_first.sl.r_33 run_first.sl.r_34 run_first.sl.r_35 run_first.sl.r_36 run_first.sl.r_37 run_first.sl.r_38 run_first.sl.r_39 run_first.sl.r_40
      simp only [View.readAt_full, load1, load2]
      rfl
    isplitl [H25]
    · iexists _; isplitr; swap; · iexact H25
      ipureintro; delta run_first.sl.H25_2
      refine (writesSel _ _ o2 _ _ _ _).trans ?_
      delta run_first.sl.r run_first.sl.r_1 run_first.sl.r_2 run_first.sl.r_3 run_first.sl.r_4 run_first.sl.r_5 run_first.sl.r_6 run_first.sl.r_7 run_first.sl.r_8 run_first.sl.r_9 run_first.sl.r_10 run_first.sl.r_11 run_first.sl.r_12 run_first.sl.r_13 run_first.sl.r_14 run_first.sl.r_15 run_first.sl.r_16 run_first.sl.r_17 run_first.sl.r_18 run_first.sl.r_19 run_first.sl.r_20 run_first.sl.r_21 run_first.sl.r_22 run_first.sl.r_23 run_first.sl.r_24 run_first.sl.r_25 run_first.sl.r_26 run_first.sl.r_27 run_first.sl.r_28 run_first.sl.r_29 run_first.sl.r_30 run_first.sl.r_31 run_first.sl.r_32 run_first.sl.r_33 run_first.sl.r_34 run_first.sl.r_35 run_first.sl.r_36 run_first.sl.r_37 run_first.sl.r_38 run_first.sl.r_39 run_first.sl.r_40
      simp only [View.readAt_full, load1, load2]
      rfl
    iexists _; isplitr; swap; · iexact H26
    ipureintro; refine (read_writes_overlay _ _ _ _ _).trans ?_
    simp only [load1, load2]
    exact overlay_congr _ _ _ hv _

end Cert.Proof.Moe

end
-- ==== Proof.Oblig.lean ====
/-
  The body obligation of the TensorCore region: at every point, from the invariant and the windows as found, the body runs
  to the next invariant and the windows as the data says it leaves them.
-/
module

public import proofs.«01_k».proof.Proof.Steps
public import proofs.«01_k».proof.Proof.BodyExpert
public import proofs.«01_k».proof.Proof.BodyRows
public import proofs.«01_k».proof.Proof.BodyFirst
public import proofs.«01_k».proof.Proof.Gen.KernelIdeal.Points
public import Idealize.ShloMosaic.Lib.Pipeline.FrameBody

@[expose] public section

set_option maxRecDepth 16384

noncomputable section

namespace Cert.Proof.Moe

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} (V : Entry F)

/-- The buffers the body is run on at point `t`: each window's current staging buffer and the scratch. -/
abbrev argsAt (t : Fin cfg1.N) : Args where

  a2 := win1_0.stage (cfg1.slots t 0)
  w2 := hstage1_0 ((cfg1.slots t 0).cast nbuf1_0)
  a3 := win1_1.stage (cfg1.slots t 1)
  w3 := hstage1_1 ((cfg1.slots t 1).cast nbuf1_1)
  a4 := win1_2.stage (cfg1.slots t 2)
  w4 := hstage1_2 ((cfg1.slots t 2).cast nbuf1_2)
  a5 := win1_3.stage (cfg1.slots t 3)
  w5 := hstage1_3 ((cfg1.slots t 3).cast nbuf1_3)
  a6 := win1_4.stage (cfg1.slots t 4)
  w6 := hstage1_4 ((cfg1.slots t 4).cast nbuf1_4)
  a7 := win1_5.stage (cfg1.slots t 5)
  w7 := hstage1_5 ((cfg1.slots t 5).cast nbuf1_5)
  a8 := win1_6.stage (cfg1.slots t 6)
  w8 := hstage1_6 ((cfg1.slots t 6).cast nbuf1_6)
  a9 := win1_7.stage (cfg1.slots t 7)
  w9 := hstage1_7 ((cfg1.slots t 7).cast nbuf1_7)
  a10 := win1_8.stage (cfg1.slots t 8)
  w10 := hstage1_8 ((cfg1.slots t 8).cast nbuf1_8)
  a11 := win1_9.stage (cfg1.slots t 9)
  w11 := hstage1_9 ((cfg1.slots t 9).cast nbuf1_9)
  a12 := win1_10.stage (cfg1.slots t 10)
  w12 := hstage1_10 ((cfg1.slots t 10).cast nbuf1_10)
  a13 := win1_11.stage (cfg1.slots t 11)
  w13 := hstage1_11 ((cfg1.slots t 11).cast nbuf1_11)
  a14 := win1_12.stage (cfg1.slots t 12)
  w14 := hstage1_12 ((cfg1.slots t 12).cast nbuf1_12)
  a15 := win1_13.stage (cfg1.slots t 13)
  w15 := hstage1_13 ((cfg1.slots t 13).cast nbuf1_13)
  a16 := win1_14.stage (cfg1.slots t 14)
  w16 := hstage1_14 ((cfg1.slots t 14).cast nbuf1_14)
  a17 := win1_15.stage (cfg1.slots t 15)
  w17 := hstage1_15 ((cfg1.slots t 15).cast nbuf1_15)
  a18 := win1_16.stage (cfg1.slots t 16)
  w18 := hstage1_16 ((cfg1.slots t 16).cast nbuf1_16)
  a19 := win1_17.stage (cfg1.slots t 17)
  w19 := hstage1_17 ((cfg1.slots t 17).cast nbuf1_17)
  a20 := win1_18.stage (cfg1.slots t 18)
  w20 := hstage1_18 ((cfg1.slots t 18).cast nbuf1_18)
  a21 := scr0
  w21 := Memref.isWhole_whole _
  a22 := scr1
  w22 := Memref.isWhole_whole _
  a23 := scr2
  w23 := Memref.isWhole_whole _
  a24 := scr3
  w24 := Memref.isWhole_whole _
  a25 := scr4
  w25 := Memref.isWhole_whole _
  a26 := scr5
  w26 := Memref.isWhole_whole _

variable [FloatOps F]

/-- An input window's buffers at point `t`. -/
def inputs (c : Dev nD) (t : Fin cfg1.N) : sProp (𝕄 F) :=
  iprop(owns (c : Thread nD τ) (argsAt t).a2 fullShare (blkAt V c 0 t) ∗ owns (c : Thread nD τ) (argsAt t).a3 fullShare (blkAt V c 1 t) ∗ owns (c : Thread nD τ) (argsAt t).a4 fullShare (blkAt V c 2 t) ∗ owns (c : Thread nD τ) (argsAt t).a5 fullShare (blkAt V c 3 t) ∗ owns (c : Thread nD τ) (argsAt t).a6 fullShare (blkAt V c 4 t) ∗ owns (c : Thread nD τ) (argsAt t).a7 fullShare (blkAt V c 5 t) ∗ owns (c : Thread nD τ) (argsAt t).a8 fullShare (blkAt V c 6 t) ∗ owns (c : Thread nD τ) (argsAt t).a9 fullShare (blkAt V c 7 t) ∗ owns (c : Thread nD τ) (argsAt t).a10 fullShare (blkAt V c 8 t) ∗ owns (c : Thread nD τ) (argsAt t).a11 fullShare (blkAt V c 9 t) ∗ owns (c : Thread nD τ) (argsAt t).a12 fullShare (blkAt V c 10 t) ∗ owns (c : Thread nD τ) (argsAt t).a13 fullShare (blkAt V c 11 t) ∗ owns (c : Thread nD τ) (argsAt t).a14 fullShare (blkAt V c 12 t) ∗ owns (c : Thread nD τ) (argsAt t).a15 fullShare (blkAt V c 13 t) ∗ owns (c : Thread nD τ) (argsAt t).a16 fullShare (blkAt V c 14 t) ∗ owns (c : Thread nD τ) (argsAt t).a17 fullShare (blkAt V c 15 t))

/-- What the body starts from at point `t`: windows 17 and 18 hold the row's results but at the row's first point. -/
def before (c : Dev nD) (t : Fin cfg1.N) : sProp (𝕄 F) :=
  iprop(Inv V c t.val ∗ inputs V c t ∗ (∃ x, owns (c : Thread nD τ) (argsAt t).a18 fullShare x)
    ∗ (∃ x, ⌜t.val % 10 ≠ 0 → x = wts V c (rowOf t)⌝ ∗ owns (c : Thread nD τ) (argsAt t).a19 fullShare x)
    ∗ (∃ x, ⌜t.val % 10 ≠ 0 → x = sel V c (rowOf t)⌝ ∗ owns (c : Thread nD τ) (argsAt t).a20 fullShare x))

/-- What it leaves. -/
def after (c : Dev nD) (t : Fin cfg1.N) : sProp (𝕄 F) :=
  iprop(Inv V c (t.val + 1) ∗ inputs V c t ∗ owns (c : Thread nD τ) (argsAt t).a18 fullShare (logit V c t)
    ∗ owns (c : Thread nD τ) (argsAt t).a19 fullShare (wts V c (rowOf t))
    ∗ owns (c : Thread nD τ) (argsAt t).a20 fullShare (sel V c (rowOf t)))

/-- The second row after its first point. -/
theorem at_late (c : Dev nD) (t : Fin cfg1.N) (ht : 10 < t.val) :
    before V c t ⊢ wp frame (wpE (defs₀ (F := F)) 𝒱₀ (c : Thread nD τ) none) Set.univ (body (grid1.coords t) (argsAt t)) fun _ => after V c t := by
  unfold before Inv inputs
  iintro ⟨⟨%x21, %x22, %x23, %x24, %x25, %x26, %H, S21, S22, S23, S24, S25, S26⟩, ⟨S2, S3, S4, S5, S6, S7, S8, S9, S10, S11, S12, S13, S14, S15, S16, S17⟩, ⟨%x18, S18⟩, ⟨%x19, %h19, S19⟩, ⟨%x20, %h20, S20⟩⟩
  have hN : t.val < 20 := t.isLt
  have e19 := h19 (by omega)
  have e20 := h20 (by omega)
  subst e19 e20
  have R := run_late c (grid1.coords t) (argsAt t) (blkAt V c 15 t) x18 x21 x26 (fun k => fun e => by have := (condE_iff k t).mp e; omega) (fun e => by have := (rowZero_iff t).mp e; omega) (fun e => by have := (cond2_iff t).mp e; omega) (fun e => by have := (cond11_iff t).mp e; omega) (fun e => by have := (cond12_iff t).mp e; omega) (fun e => by have := (cond13_iff t).mp e; omega) ((cond14_iff t).mpr (by omega)) (colOf t) (off15_hi t (by omega)) (off16_at t) Set.univ (fun _ => after V c t)
  rw [logit_hi V c (by omega) (H.out1 (by omega)) (H.pw _ (by have := (colOf t).isLt; omega))] at R
  iapply R
  isplitl [S17]; · iexact S17
  isplitl [S18]; · iexact S18
  isplitl [S21]; · iexact S21
  isplitl [S26]; · iexact S26
  iintro ⟨S17, S18, S21, S26⟩
  unfold after Inv inputs
  isplitl [S21 S22 S23 S24 S25 S26]
  · iexists _, _, _, _, _, _
    isplitr
    · ipureintro
      exact holds_stay V c (by omega) H
    isplitl [S21]; · iexact S21
    isplitl [S22]; · iexact S22
    isplitl [S23]; · iexact S23
    isplitl [S24]; · iexact S24
    isplitl [S25]; · iexact S25
    iexact S26
  isplitl [S2 S3 S4 S5 S6 S7 S8 S9 S10 S11 S12 S13 S14 S15 S16 S17]
  · isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    iexact S17
  isplitl [S18]; · iexact S18
  isplitl [S19]; · iexact S19
  iexact S20

/-- The first point of the second row: the second row block's router results are stored. -/
theorem at_turn (c : Dev nD) (t : Fin cfg1.N) (ht : t.val = 10) :
    before V c t ⊢ wp frame (wpE (defs₀ (F := F)) 𝒱₀ (c : Thread nD τ) none) Set.univ (body (grid1.coords t) (argsAt t)) fun _ => after V c t := by
  unfold before Inv inputs
  iintro ⟨⟨%x21, %x22, %x23, %x24, %x25, %x26, %H, S21, S22, S23, S24, S25, S26⟩, ⟨S2, S3, S4, S5, S6, S7, S8, S9, S10, S11, S12, S13, S14, S15, S16, S17⟩, ⟨%x18, S18⟩, ⟨%x19, %h19, S19⟩, ⟨%x20, %h20, S20⟩⟩
  have R := run_turn c (grid1.coords t) (argsAt t) (blkAt V c 15 t) x18 x19 x20 x21 x24 x25 x26 (fun k => fun e => by have := (condE_iff k t).mp e; omega) (fun e => by have := (rowZero_iff t).mp e; omega) (fun e => by have := (cond2_iff t).mp e; omega) (fun e => by have := (cond11_iff t).mp e; omega) ((cond12_iff t).mpr (by omega)) (fun e => by have := (cond13_iff t).mp e; omega) ((cond14_iff t).mpr (by omega)) (colOf t) (off15_hi t (by omega)) (off16_at t) (off12_hi t (by omega)) (off13_hi t (by omega)) Set.univ (fun _ => after V c t)
  rw [logit_hi V c (by omega) (H.out1 (by omega)) (H.pw _ (by have := (colOf t).isLt; omega)),
    show shapeCast S1024x8 (part x24 (slotEw 1)) shapeCasts_S1x1024x8_S1024x8 = wts V c (rowOf t) from
      (back (H.wts1 (by omega)) _).trans (by rw [show rowOf t = 1 from if_neg (by omega)]),
    show shapeCast S1024x2 (part x25 (slotSel 1)) shapeCasts_S1x1024x2_S1024x2 = sel V c (rowOf t) from
      (back (H.sel1 (by omega)) _).trans (by rw [show rowOf t = 1 from if_neg (by omega)])] at R
  iapply R
  isplitl [S17]; · iexact S17
  isplitl [S18]; · iexact S18
  isplitl [S19]; · iexact S19
  isplitl [S20]; · iexact S20
  isplitl [S21]; · iexact S21
  isplitl [S24]; · iexact S24
  isplitl [S25]; · iexact S25
  isplitl [S26]; · iexact S26
  iintro ⟨S17, S18, S19, S20, S21, S24, S25, S26⟩
  unfold after Inv inputs
  isplitl [S21 S22 S23 S24 S25 S26]
  · iexists _, _, _, _, _, _
    isplitr
    · ipureintro
      exact holds_stay V c (by omega) H
    isplitl [S21]; · iexact S21
    isplitl [S22]; · iexact S22
    isplitl [S23]; · iexact S23
    isplitl [S24]; · iexact S24
    isplitl [S25]; · iexact S25
    iexact S26
  isplitl [S2 S3 S4 S5 S6 S7 S8 S9 S10 S11 S12 S13 S14 S15 S16 S17]
  · isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    iexact S17
  isplitl [S18]; · iexact S18
  isplitl [S19]; · iexact S19
  iexact S20

/-- Expert `e`'s point of the first row. -/
theorem at_expert (c : Dev nD) (t : Fin cfg1.N) (e : Fin 8) (ht : t.val = e.val + 1) :
    before V c t ⊢ wp frame (wpE (defs₀ (F := F)) 𝒱₀ (c : Thread nD τ) none) Set.univ (body (grid1.coords t) (argsAt t)) fun _ => after V c t := by
  unfold before Inv inputs
  iintro ⟨⟨%x21, %x22, %x23, %x24, %x25, %x26, %H, S21, S22, S23, S24, S25, S26⟩, ⟨S2, S3, S4, S5, S6, S7, S8, S9, S10, S11, S12, S13, S14, S15, S16, S17⟩, ⟨%x18, S18⟩, ⟨%x19, %h19, S19⟩, ⟨%x20, %h20, S20⟩⟩
  have he : e.val < 8 := e.isLt
  have e19 := h19 (by omega)
  have e20 := h20 (by omega)
  subst e19 e20
  have R := run_expert c (grid1.coords t) (argsAt t) (blkAt V c 8 t) (blkAt V c 9 t) (blkAt V c 10 t) (blkAt V c 11 t) (blkAt V c 14 t) (blkAt V c 15 t) x18 x21 x22 x23 x24 x26 e (fun e => by have := (rowZero_iff t).mp e; omega) (fun e => by have := (cond2_iff t).mp e; omega) ((condE_iff e t).mpr ht) (fun k hk h => hk (Fin.ext (by have := (condE_iff k t).mp h; omega))) (fun e => by have := (cond11_iff t).mp e; omega) (fun e => by have := (cond12_iff t).mp e; omega) ((cond13_iff t).mpr (by omega)) (fun e => by have := (cond14_iff t).mp e; omega) (offE_at e t (by omega)) (colOf t) (off14_at t) Set.univ (fun _ => after V c t)
  rw [logit_lo V c (by omega) (H.out0 (by omega)), mix_step V c e ht H, cast_14 V c (by omega)] at R
  iapply R
  isplitl [S10]; · iexact S10
  isplitl [S11]; · iexact S11
  isplitl [S12]; · iexact S12
  isplitl [S13]; · iexact S13
  isplitl [S16]; · iexact S16
  isplitl [S17]; · iexact S17
  isplitl [S18]; · iexact S18
  isplitl [S21]; · iexact S21
  isplitl [S22]; · iexact S22
  isplitl [S23]; · iexact S23
  isplitl [S24]; · iexact S24
  isplitl [S26]; · iexact S26
  iintro ⟨S10, S11, S12, S13, S16, S17, S18, S21, S22, S23, S24, S26⟩
  unfold after Inv inputs
  isplitl [S21 S22 S23 S24 S25 S26]
  · iexists _, _, _, _, _, _
    isplitr
    · ipureintro
      exact holds_expert V c e ht H
    isplitl [S21]; · iexact S21
    isplitl [S22]; · iexact S22
    isplitl [S23]; · iexact S23
    isplitl [S24]; · iexact S24
    isplitl [S25]; · iexact S25
    iexact S26
  isplitl [S2 S3 S4 S5 S6 S7 S8 S9 S10 S11 S12 S13 S14 S15 S16 S17]
  · isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    iexact S17
  isplitl [S18]; · iexact S18
  isplitl [S19]; · iexact S19
  iexact S20

/-- The last point of the first row: the second row block is normalised. -/
theorem at_norm (c : Dev nD) (t : Fin cfg1.N) (ht : t.val = 9) :
    before V c t ⊢ wp frame (wpE (defs₀ (F := F)) 𝒱₀ (c : Thread nD τ) none) Set.univ (body (grid1.coords t) (argsAt t)) fun _ => after V c t := by
  unfold before Inv inputs
  iintro ⟨⟨%x21, %x22, %x23, %x24, %x25, %x26, %H, S21, S22, S23, S24, S25, S26⟩, ⟨S2, S3, S4, S5, S6, S7, S8, S9, S10, S11, S12, S13, S14, S15, S16, S17⟩, ⟨%x18, S18⟩, ⟨%x19, %h19, S19⟩, ⟨%x20, %h20, S20⟩⟩
  have e19 := h19 (by omega)
  have e20 := h20 (by omega)
  subst e19 e20
  have R := run_norm c (grid1.coords t) (argsAt t) (blkAt V c 12 t) (blkAt V c 13 t) (blkAt V c 14 t) (blkAt V c 15 t) x18 x21 x23 x26 (fun k => fun e => by have := (condE_iff k t).mp e; omega) (fun e => by have := (rowZero_iff t).mp e; omega) (fun e => by have := (cond2_iff t).mp e; omega) ((cond11_iff t).mpr ht) (fun e => by have := (cond12_iff t).mp e; omega) ((cond13_iff t).mpr (by omega)) (fun e => by have := (cond14_iff t).mp e; omega) (off11_at t (by omega)) (colOf t) (off14_at t) Set.univ (fun _ => after V c t)
  rw [logit_lo V c (by omega) (H.out0 (by omega)), out_norm V c ht H, cast_14 V c (by omega)] at R
  iapply R
  isplitl [S14]; · iexact S14
  isplitl [S15]; · iexact S15
  isplitl [S16]; · iexact S16
  isplitl [S17]; · iexact S17
  isplitl [S18]; · iexact S18
  isplitl [S21]; · iexact S21
  isplitl [S23]; · iexact S23
  isplitl [S26]; · iexact S26
  iintro ⟨S14, S15, S16, S17, S18, S21, S23, S26⟩
  unfold after Inv inputs
  isplitl [S21 S22 S23 S24 S25 S26]
  · iexists _, _, _, _, _, _
    isplitr
    · ipureintro
      exact holds_norm V c ht H
    isplitl [S21]; · iexact S21
    isplitl [S22]; · iexact S22
    isplitl [S23]; · iexact S23
    isplitl [S24]; · iexact S24
    isplitl [S25]; · iexact S25
    iexact S26
  isplitl [S2 S3 S4 S5 S6 S7 S8 S9 S10 S11 S12 S13 S14 S15 S16 S17]
  · isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    iexact S17
  isplitl [S18]; · iexact S18
  isplitl [S19]; · iexact S19
  iexact S20

/-- The first point. -/
theorem at_first (c : Dev nD) (t : Fin cfg1.N) (ht : t.val = 0) :
    before V c t ⊢ wp frame (wpE (defs₀ (F := F)) 𝒱₀ (c : Thread nD τ) none) Set.univ (body (grid1.coords t) (argsAt t)) fun _ => after V c t := by
  unfold before Inv inputs
  iintro ⟨⟨%x21, %x22, %x23, %x24, %x25, %x26, %H, S21, S22, S23, S24, S25, S26⟩, ⟨S2, S3, S4, S5, S6, S7, S8, S9, S10, S11, S12, S13, S14, S15, S16, S17⟩, ⟨%x18, S18⟩, ⟨%x19, %h19, S19⟩, ⟨%x20, %h20, S20⟩⟩
  obtain rfl : t = pt0 := Fin.ext ht
  have R := run_first c (grid1.coords pt0) (argsAt pt0) (blkAt V c 0 pt0) (blkAt V c 1 pt0) (blkAt V c 2 pt0) (blkAt V c 3 pt0) (blkAt V c 4 pt0) (blkAt V c 5 pt0) (blkAt V c 6 pt0) (blkAt V c 7 pt0) (blkAt V c 8 pt0) (blkAt V c 9 pt0) (blkAt V c 10 pt0) (blkAt V c 11 pt0) (blkAt V c 12 pt0) (blkAt V c 13 pt0) (blkAt V c 14 pt0) (blkAt V c 15 pt0) x18 x19 x20 x21 x22 x23 x24 x25 x26 (fun k => fun e => by have := (condE_iff k pt0).mp e; revert this; dsimp only; omega) ((rowZero_iff pt0).mpr rfl) ((cond2_iff pt0).mpr rfl) (fun e => by have := (cond11_iff pt0).mp e; revert this; dsimp only; omega) ((cond12_iff pt0).mpr (by decide)) ((cond13_iff pt0).mpr (by decide)) (fun e => by have := (cond14_iff pt0).mp e; revert this; dsimp only; omega) (off1_at pt0 rfl) (off2_at pt0 rfl) (off12_lo pt0 (by decide)) (off13_lo pt0 (by decide)) (colOf pt0) (off14_at pt0) Set.univ (fun _ => after V c pt0)
  rw [show hidden (blkAt V c 0 pt0) (blkAt V c 2 pt0) (blkAt V c 4 pt0) (blkAt V c 5 pt0) = hid V c 0 from rfl, show hidden (blkAt V c 1 pt0) (blkAt V c 3 pt0) (blkAt V c 4 pt0) (blkAt V c 5 pt0) = hid V c 1 from rfl,
    show weights (scores (hid V c 0) (blkAt V c 6 pt0) (blkAt V c 7 pt0)) = wts V c 0 from rfl, show weights (scores (hid V c 1) (blkAt V c 6 pt0) (blkAt V c 7 pt0)) = wts V c 1 from rfl,
    show picks (wts V c 0) = sel V c 0 from rfl, show picks (wts V c 1) = sel V c 1 from rfl,
    show (⟨(blkAt V c 8 pt0), (blkAt V c 9 pt0), (blkAt V c 10 pt0), (blkAt V c 11 pt0)⟩ : Experts F).sum (truncf .bf16 (hid V c 0) bitsLt_bf16_f32) (wts V c 0) 8 le_rfl = mix V c 0 8 le_rfl from rfl,
    show truncf .bf16 (lnorm (mix V c 0 8 le_rfl) (blkAt V c 12 pt0) (blkAt V c 13 pt0)) bitsLt_bf16_f32 = outN V c 0 from rfl,
    show (⟨(blkAt V c 8 pt0), (blkAt V c 9 pt0), (blkAt V c 10 pt0), (blkAt V c 11 pt0)⟩ : Experts F).sum (truncf .bf16 x22 bitsLt_bf16_f32) (shapeCast S1024x8 (part x24 (slotEw 1)) shapeCasts_S1x1024x8_S1024x8) 0 (Nat.zero_le 8)
      = mix V c 1 0 (Nat.zero_le 8) from rfl,
    cast_14 V c (by decide),
    show project (outN V c 0) (pwIn V c (colOf pt0)) (blkAt V c 15 pt0) = logit V c pt0 from rfl] at R
  iapply R
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  iintro ⟨S2, S3, S4, S5, S6, S7, S8, S9, S10, S11, S12, S13, S14, S15, S16, S17, S18, S19, S20, S21, S22, S23, S24, S25, S26⟩
  unfold after Inv inputs
  isplitl [S21 S22 S23 S24 S25 S26]
  · iexists _, _, _, _, _, _
    isplitr
    · ipureintro
      exact holds_first V c rfl x21 x24 x25 x26
    isplitl [S21]; · iexact S21
    isplitl [S22]; · iexact S22
    isplitl [S23]; · iexact S23
    isplitl [S24]; · iexact S24
    isplitl [S25]; · iexact S25
    iexact S26
  isplitl [S2 S3 S4 S5 S6 S7 S8 S9 S10 S11 S12 S13 S14 S15 S16 S17]
  · isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    iexact S17
  isplitl [S18]; · iexact S18
  isplitl [S19]; · iexact S19
  iexact S20

/-- Every point. -/
theorem sound (c : Dev nD) (t : Fin cfg1.N) :
    before V c t ⊢ wp frame (wpE (defs₀ (F := F)) 𝒱₀ (c : Thread nD τ) none) Set.univ (body (grid1.coords t) (argsAt t)) fun _ => after V c t := by
  have hN : t.val < 20 := t.isLt
  by_cases h0 : t.val = 0
  · exact at_first V c t h0
  by_cases h9 : t.val = 9
  · exact at_norm V c t h9
  by_cases h10 : t.val = 10
  · exact at_turn V c t h10
  by_cases h : t.val < 10
  · exact at_expert V c t ⟨t.val - 1, by omega⟩ (by dsimp only; omega)
  · exact at_late V c t (by omega)

/-- The body table's row at point `t` is the body on the point's buffers. -/
theorem row_at (t : Fin cfg1.N) : defs₀ (F := F) .tc cfg1.body (cfg1.bodyArgs t (cfg1.slots t)) = body (grid1.coords t) (argsAt t) := rfl

/-- What windows 17 and 18 are left at, as the obligation asks: the row's results where the point stores or writes back,
    else what was found. -/
theorem leave_17 (c : Dev nD) (t : Fin cfg1.N) :
    (owns (c : Thread nD τ) ((cfg1.win 17).stage (cfg1.slots t 17)) fullShare (wts V c (rowOf t)) : sProp (𝕄 F)) ⊢ (dat V c).leavesExact 17 t := by
  unfold Dat.leavesExact
  by_cases h0 : t.val % 10 = 0
  · rw [show cfg1.idle 17 (cfg1.grid.coords t) = false from by rw [idle17]; simp [h0]]
    dsimp only
    rw [after_17]
  · rw [show cfg1.idle 17 (cfg1.grid.coords t) = true from by rw [idle17]; simp [h0]]
    dsimp only
    by_cases h9 : t.val % 10 = 9
    · rw [show (cfg1.win 17).flush t = true from (flush1_17 t).mpr h9]
      dsimp only
      rw [after_17]
    · rw [show (cfg1.win 17).flush t = false from Bool.eq_false_iff.mpr fun e => h9 ((flush1_17 t).mp e)]
      dsimp only
      iintro H
      iexists (wts V c (rowOf t))
      rw [before_17 V c _ t.val t rfl h0]
      iexact H

theorem leave_16 (c : Dev nD) (t : Fin cfg1.N) :
    (owns (c : Thread nD τ) ((cfg1.win 16).stage (cfg1.slots t 16)) fullShare (logit V c t) : sProp (𝕄 F)) ⊢ (dat V c).leavesExact 16 t := by
  unfold Dat.leavesExact
  rw [flush1_16, after_16]
  generalize cfg1.idle 16 (cfg1.grid.coords t) = b
  cases b <;> exact .rfl

theorem leave_18 (c : Dev nD) (t : Fin cfg1.N) :
    (owns (c : Thread nD τ) ((cfg1.win 18).stage (cfg1.slots t 18)) fullShare (sel V c (rowOf t)) : sProp (𝕄 F)) ⊢ (dat V c).leavesExact 18 t := by
  unfold Dat.leavesExact
  by_cases h0 : t.val % 10 = 0
  · rw [show cfg1.idle 18 (cfg1.grid.coords t) = false from by rw [idle18]; simp [h0]]
    dsimp only
    rw [after_18]
  · rw [show cfg1.idle 18 (cfg1.grid.coords t) = true from by rw [idle18]; simp [h0]]
    dsimp only
    by_cases h9 : t.val % 10 = 9
    · rw [show (cfg1.win 18).flush t = true from (flush1_18 t).mpr h9]
      dsimp only
      rw [after_18]
    · rw [show (cfg1.win 18).flush t = false from Bool.eq_false_iff.mpr fun e => h9 ((flush1_18 t).mp e)]
      dsimp only
      iintro H
      iexists (sel V c (rowOf t))
      rw [before_18 V c _ t.val t rfl h0]
      iexact H

/-- The obligation's precondition in the body's terms, the tallies beside it. -/
theorem obl_pre (c : Dev nD) (t : Fin cfg1.N) :
    iprop((dat V c).Φ t.castSucc ∗ (dat V c).owesAt none t.castSucc
        ∗ bigSep Finset.univ fun w : Fin cfg1.W =>
            iprop(∃ d, owns (c : Thread nD τ) ((cfg1.win w).stage (cfg1.slots t w)) fullShare ((dat V c).before w t d)))
      ⊢ iprop(before V c t ∗ (dat V c).owesAt none t.castSucc) := by
  rw [bigSep_W1, dat_Φ]
  unfold before inputs
  iintro ⟨HI, HO, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩, ⟨%d12, W12⟩, ⟨%d13, W13⟩, ⟨%d14, W14⟩, ⟨%d15, W15⟩, ⟨%d16, W16⟩, ⟨%d17, W17⟩, ⟨%d18, W18⟩⟩
  isplitr [HO]
  · isplitl [HI]; · iexact HI
    isplitl [W0 W1 W2 W3 W4 W5 W6 W7 W8 W9 W10 W11 W12 W13 W14 W15]
    · isplitl [W0]; · rw [before_0]; iexact W0
      isplitl [W1]; · rw [before_1]; iexact W1
      isplitl [W2]; · rw [before_2]; iexact W2
      isplitl [W3]; · rw [before_3]; iexact W3
      isplitl [W4]; · rw [before_4]; iexact W4
      isplitl [W5]; · rw [before_5]; iexact W5
      isplitl [W6]; · rw [before_6]; iexact W6
      isplitl [W7]; · rw [before_7]; iexact W7
      isplitl [W8]; · rw [before_8]; iexact W8
      isplitl [W9]; · rw [before_9]; iexact W9
      isplitl [W10]; · rw [before_10]; iexact W10
      isplitl [W11]; · rw [before_11]; iexact W11
      isplitl [W12]; · rw [before_12]; iexact W12
      isplitl [W13]; · rw [before_13]; iexact W13
      isplitl [W14]; · rw [before_14]; iexact W14
      rw [before_15]; iexact W15
    isplitl [W16]; · iexists _; iexact W16
    isplitl [W17]
    · iexists _; isplitr
      · ipureintro; exact fun h => before_17 V c d17 t.val t rfl h
      iexact W17
    iexists _; isplitr
    · ipureintro; exact fun h => before_18 V c d18 t.val t rfl h
    iexact W18
  iexact HO

/-- What the body leaves, as the obligation asks. -/
theorem obl_post (c : Dev nD) (t : Fin cfg1.N) :
    iprop(after V c t ∗ (dat V c).owesAt none t.castSucc)
      ⊢ iprop((dat V c).Φ t.succ ∗ (dat V c).owesAt none t.succ ∗ bigSep Finset.univ fun w : Fin cfg1.W => (dat V c).leavesExact w t) := by
  rw [bigSep_W1, dat_Φ]
  unfold after inputs
  iintro ⟨⟨HI, ⟨W0, W1, W2, W3, W4, W5, W6, W7, W8, W9, W10, W11, W12, W13, W14, W15⟩, W16, W17, W18⟩, HO⟩
  isplitl [HI]; · iexact HI
  isplitl [HO]; · iexact HO
  isplitl [W0]; · unfold Dat.leavesExact; rw [after_0]; iexact W0
  isplitl [W1]; · unfold Dat.leavesExact; rw [after_1]; iexact W1
  isplitl [W2]; · unfold Dat.leavesExact; rw [after_2]; iexact W2
  isplitl [W3]; · unfold Dat.leavesExact; rw [after_3]; iexact W3
  isplitl [W4]; · unfold Dat.leavesExact; rw [after_4]; iexact W4
  isplitl [W5]; · unfold Dat.leavesExact; rw [after_5]; iexact W5
  isplitl [W6]; · unfold Dat.leavesExact; rw [after_6]; iexact W6
  isplitl [W7]; · unfold Dat.leavesExact; rw [after_7]; iexact W7
  isplitl [W8]; · unfold Dat.leavesExact; rw [after_8]; iexact W8
  isplitl [W9]; · unfold Dat.leavesExact; rw [after_9]; iexact W9
  isplitl [W10]; · unfold Dat.leavesExact; rw [after_10]; iexact W10
  isplitl [W11]; · unfold Dat.leavesExact; rw [after_11]; iexact W11
  isplitl [W12]; · unfold Dat.leavesExact; rw [after_12]; iexact W12
  isplitl [W13]; · unfold Dat.leavesExact; rw [after_13]; iexact W13
  isplitl [W14]; · unfold Dat.leavesExact; rw [after_14]; iexact W14
  isplitl [W15]; · unfold Dat.leavesExact; rw [after_15]; iexact W15
  isplitl [W16]; · iapply (leave_16 V c t); iexact W16
  isplitl [W17]; · iapply (leave_17 V c t); iexact W17
  iapply (leave_18 V c t); iexact W18

/-- The body obligation. -/
theorem obligation (c : Dev nD) : Pipeline.BodyObligation (dat V c) (defs₀ (F := F)) 𝒱₀ none Set.univ := fun t => by
  rw [row_at]
  exact triple_restated ((sep_mono (sound V c t) .rfl).trans (wp_frame_r _ _ _)) rfl (obl_pre V c t) fun _ => obl_post V c t

end Cert.Proof.Moe

end
-- ==== Proof.Tile.lean ====
/-
  The SparseCore call. Tile `s` of SparseCore `c` owns rows [64·(2s + c), 64·(2s + c) + 64) of the token ids and of
  the gathered rows: it fetches its 64 ids, gathers the embedding table's rows they name into its own memory, and writes
  them out to its rows of the result. All 32 tiles read the table, each holding a piece of its share.

  `tile_body` is the run of one tile at symbolic coordinates, carrying the VALUE: what it leaves in its rows are the
  table's rows at its ids (`gathered`). It asks that every id names a row of the table (`Ids`).
-/
module

public import proofs.«01_k».proof.Proof.Setup

@[expose] public section

set_option maxRecDepth 16384

noncomputable section

namespace Cert.Proof.Moe

open Cert.KernelIdeal Cert.KernelIdeal.Gen

open Idealize.ShloMosaic
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The three arrays and their blocks -/

/-- The embedding table, the ids and the gathered rows, as device `d`'s buffers. -/
abbrev tabLoc (d : Dev nD) : Loc nD τ sig := (SparseCore.T d).loc main_arg1
abbrev idLoc (d : Dev nD) : Loc nD τ sig := (SparseCore.T d).loc main_v0
abbrev rowLoc (d : Dev nD) : Loc nD τ sig := (SparseCore.T d).loc main_v1

local notation "tabV" => (Memref.whole Cert.KernelIdeal.main_arg1_scv : Memref Cert.KernelIdeal.sig Kind.scVector Space.hbm Cert.KernelIdeal.S32000x128 EltTy.f32)
local notation "idV" => (Memref.whole Cert.KernelIdeal.main_v0_scv : Memref Cert.KernelIdeal.sig Kind.scVector Space.hbm Cert.KernelIdeal.S2048 EltTy.i32)
local notation "rowV" => (Memref.whole Cert.KernelIdeal.main_v1_scv : Memref Cert.KernelIdeal.sig Kind.scVector Space.hbm Cert.KernelIdeal.S2048x128 EltTy.f32)
local notation "listV" => (Memref.whole Cert.KernelIdeal.cc0_scratch0 : Memref Cert.KernelIdeal.sig Kind.scVector Space.vmem Cert.KernelIdeal.S64 EltTy.i32)
local notation "stageV" => (Memref.whole Cert.KernelIdeal.cc0_scratch1 : Memref Cert.KernelIdeal.sig Kind.scVector Space.vmem Cert.KernelIdeal.S64x128 EltTy.f32)

theorem id_div : 32 ∣ S2048.size 0 := ⟨64, rfl⟩
theorem row_div : 32 ∣ S2048x128.size 0 := ⟨64, rfl⟩

/-- Which of the 32 blocks of 64 rows tile `s` of SparseCore `c` owns. -/
def blk (c : Fin 2) (s : Fin 16) : Fin 32 := ⟨2 * s.val + c.val, by have := c.isLt; have := s.isLt; omega⟩

/-- Block `k` of the ids and of the gathered rows. -/
abbrev idBlk (k : Fin 32) : Rect S2048 := Rect.part (s := S2048) (a₀ := 0) id_div k
abbrev rowBlk (k : Fin 32) : Rect S2048x128 := Rect.part (s := S2048x128) (a₀ := 0) row_div k

/-- The table's piece of the full share that block `k`'s tile reads with. -/
abbrev tabShare (k : Fin 32) : PosShare TreeShare := pieceOf fullShare 32 (by decide) k

/-- The one-coordinate and two-coordinate indices. -/
def ix1 {n : ℕ} (k : Fin n) : (⟨1, ![n]⟩ : Shape).Idx := fun | 0 => k
def ix2 {n p : ℕ} (k : Fin n) (l : Fin p) : (⟨2, ![n, p]⟩ : Shape).Idx := fun | 0 => k | 1 => l

/-- Row `j 0` of the result: the table's row at id number `j 0` (ids in range; the remainder only makes it total). -/
def gathered (tab : Vec F S32000x128 .f32) (ids : Vec F S2048 .i32) : Vec F S2048x128 .f32 := fun j =>
  tab (ix2 ⟨(ids (ix1 (j 0))).toNat % 32000, Nat.mod_lt _ (by decide)⟩ (j 1))

/-- Every id names a row of the table. -/
def Ids (ids : Vec F S2048 .i32) : Prop := ∀ j, (ids j).toNat < 32000

/-! ## What the handshakes carry -/

variable (tab : (d : Dev nD) → Buf (Elt F) (tabLoc d)) (ids : (d : Dev nD) → Buf (Elt F) (idLoc d)) (old : (d : Dev nD) → Buf (Elt F) (rowLoc d))

/-- What a tile's block of the call's operands is: its ids, its piece of the table's share, its rows at `r`. -/
abbrev blkRes (r : (d : Dev nD) → Buf (Elt F) (rowLoc d)) (d : Dev nD) (k : Fin 32) : sProp (𝕄 F) :=
  iprop((idLoc d ↦[(idBlk k).set]{fullShare} ids d) ∗ (tabLoc d ↦{tabShare k} tab d) ∗ (rowLoc d ↦[(rowBlk k).set]{fullShare} r d))

/-- The gathered rows of every device. -/
abbrev got (d : Dev nD) : Buf (Elt F) (rowLoc d) := gathered (F := F) (tab d) (ids d)

/-- Each SparseCore takes its sixteen tiles' blocks and brings them back, the rows gathered; each tile takes its block. -/
def P : (K (F := F)).Pay (nD := nD) (Val := Elt F) (Name := ℕ) (U := UU) where
  st := fun q d c => match q with | 0 => bigSep Finset.univ fun s : Fin 16 => blkRes tab ids old d (blk (Fin.cast nCore_zero c) s)
  dn := fun q d c => match q with | 0 => bigSep Finset.univ fun s : Fin 16 => blkRes tab ids (got tab ids) d (blk (Fin.cast nCore_zero c) s)
  go := fun q d c i => match q with | 0 => blkRes tab ids old d (blk (Fin.cast nCore_zero c) (Fin.cast nSub_zero i))
  td := fun q d c i => match q with | 0 => blkRes tab ids (got tab ids) d (blk (Fin.cast nCore_zero c) (Fin.cast nSub_zero i))
  x := fun _ _ => iprop(emp)

instance P_storable : (P (F := F) tab ids old).IsStorable where
  st q d c := match q with
    | 0 => (inferInstance : BI.Storable (upEmb : UEmb _ (𝕄 F)) (bigSep Finset.univ fun s : Fin 16 => blkRes tab ids old d (blk (Fin.cast nCore_zero c) s)))
  dn q d c := match q with
    | 0 => (inferInstance : BI.Storable (upEmb : UEmb _ (𝕄 F)) (bigSep Finset.univ fun s : Fin 16 => blkRes tab ids (got tab ids) d (blk (Fin.cast nCore_zero c) s)))
  go q d c i := match q with
    | 0 => (inferInstance : BI.Storable (upEmb : UEmb _ (𝕄 F)) (blkRes tab ids old d (blk (Fin.cast nCore_zero c) (Fin.cast nSub_zero i))))
  td q d c i := match q with
    | 0 => (inferInstance : BI.Storable (upEmb : UEmb _ (𝕄 F)) (blkRes tab ids (got tab ids) d (blk (Fin.cast nCore_zero c) (Fin.cast nSub_zero i))))

/-! ## The tile -/

section Tile

variable (d : Dev nD) (L : grid0.Coords)

abbrev cV (L : grid0.Coords) : Fin τ.nSC := (L 0).castLE hcore0
abbrev jV (L : grid0.Coords) : Fin τ.nSub := (L 1).castLE hsub0
/-- The tile's block. -/
abbrev blkL (L : grid0.Coords) : Fin 32 := blk ⟨(L 0).val, (L 0).isLt⟩ ⟨(L 1).val, (L 1).isLt⟩

/-- The tile's ids and rows, and all of the table, as the tile addresses them. -/
abbrev idK (L : grid0.Coords) : Memref sig .scVector .hbm S64 .i32 := (idV).slice (Rect.unit (s := S2048) (k0_off1 L) S64.size (k0_off1_inb L)) (fun _ => rfl)
abbrev rowK (L : grid0.Coords) : Memref sig .scVector .hbm S64x128 .f32 :=
  (rowV).slice (Rect.unit (s := S2048x128) (k0_off2 L) S64x128.size (k0_off2_inb L)) (fun _ => rfl)
abbrev tabK : Memref sig .scVector .hbm S32000x128 .f32 :=
  (tabV).slice (Rect.unit (s := S32000x128) ![0, 0] S32000x128.size inb_S32000x128_S32000x128_0_0) (fun _ => rfl)

theorem idRect_eq : Rect.unit (s := S2048) (k0_off1 L) S64.size (k0_off1_inb L) = idBlk (blkL L) := by
  unfold idBlk Rect.part Rect.block
  congr 1 <;> funext a
  · rw [k0_off1_eq]
    match a with
    | 0 => simp [Shape.partIx, Shape.partSize, blk]; omega
  · match a with
    | 0 => simp [Shape.partSize]
theorem rowRect_eq : Rect.unit (s := S2048x128) (k0_off2 L) S64x128.size (k0_off2_inb L) = rowBlk (blkL L) := by
  unfold rowBlk Rect.part Rect.block
  congr 1 <;> funext a
  · rw [k0_off2_eq]
    match a with
    | 0 => simp [Shape.partIx, Shape.partSize, blk]; omega
    | 1 => simp [Shape.partIx, Shape.partSize]
  · match a with
    | 0 => simp [Shape.partSize]
    | 1 => simp [Shape.partSize]

theorem set_idK : (idK L).view.set = (idBlk (blkL L)).set := by
  show ((View.whole (main_v0_scv : Ref sig .scVector)).slice (Rect.unit (s := S2048) (k0_off1 L) S64.size (k0_off1_inb L))).set = _
  rw [View.set_slice, idRect_eq]; exact Finset.map_refl
theorem set_rowK : (rowK L).view.set = (rowBlk (blkL L)).set := by
  show ((View.whole (main_v1_scv : Ref sig .scVector)).slice (Rect.unit (s := S2048x128) (k0_off2 L) S64x128.size (k0_off2_inb L))).set = _
  rw [View.set_slice, rowRect_eq]; exact Finset.map_refl

theorem pts_idK (f : Buf (Elt F) (idLoc d)) :
    ((idK L).view.loc (V d (cV L) (jV L)) ↦[(idK L).view.set]{fullShare} f : sProp (𝕄 F)) = idLoc d ↦[(idBlk (blkL L)).set]{fullShare} f := by
  rw [set_idK]
theorem pts_rowK (f : Buf (Elt F) (rowLoc d)) :
    ((rowK L).view.loc (V d (cV L) (jV L)) ↦[(rowK L).view.set]{fullShare} f : sProp (𝕄 F)) = rowLoc d ↦[(rowBlk (blkL L)).set]{fullShare} f := by
  rw [set_rowK]
theorem pts_tabV (q : PosShare TreeShare) (f : Buf (Elt F) (tabLoc d)) :
    ((tabV).view.loc (V d (cV L) (jV L)) ↦{q} f : sProp (𝕄 F)) = tabLoc d ↦{q} f := rfl
theorem pts_listV (f : Buf (Elt F) ((V d (cV L) (jV L)).loc cc0_scratch0)) :
    ((listV).view.loc (V d (cV L) (jV L)) ↦{fullShare} f : sProp (𝕄 F)) = (V d (cV L) (jV L)).loc cc0_scratch0 ↦{fullShare} f := rfl
theorem pts_stageV (f : Buf (Elt F) ((V d (cV L) (jV L)).loc cc0_scratch1)) :
    ((stageV).view.loc (V d (cV L) (jV L)) ↦{fullShare} f : sProp (𝕄 F)) = (V d (cV L) (jV L)).loc cc0_scratch1 ↦{fullShare} f := rfl

/-- The cells of the tile's three transfers: the ids' fetch, the gather, the write-out. -/
abbrev fetchCell (d : Dev nD) (c : Fin τ.nSC) (i : Fin τ.nSub) : GSem nD τ sig := (V d c i, .dma cc0_scoped0.sem)
abbrev gatherCell (d : Dev nD) (c : Fin τ.nSC) (i : Fin τ.nSub) : GSem nD τ sig := (V d c i, .dma cc0_scratch2.sem)
abbrev outCell (d : Dev nD) (c : Fin τ.nSC) (i : Fin τ.nSub) : GSem nD τ sig := (V d c i, .dma cc0_scoped1.sem)

/-- The three cells are among the tile's own: they are them, at zero, and the rest. -/
theorem ownSems0_V :
    (ownSems0 (V d (cV L) (jV L)) : sProp (𝕄 F))
      = iprop(semVal (fetchCell d (cV L) (jV L)) 0 ∗ semVal (gatherCell d (cV L) (jV L)) 0 ∗ semVal (outCell d (cV L) (jV L)) 0
          ∗ bigSep ((((ownCells (V d (cV L) (jV L))).erase (fetchCell d (cV L) (jV L))).erase (gatherCell d (cV L) (jV L))).erase (outCell d (cV L) (jV L)))
              fun g => semVal g 0) := by
  have own : ∀ sm : SemLoc sig, sm.isScoped .scVector = true → ((V d (cV L) (jV L), sm) : GSem nD τ sig) ∈ ownCells (V d (cV L) (jV L)) :=
    fun sm h => mem_ownCells.mpr ⟨rfl, h⟩
  have ne : ∀ a b : SemLoc sig, a ≠ b → ((V d (cV L) (jV L), a) : GSem nD τ sig) ≠ (V d (cV L) (jV L), b) := fun a b h e => h (congrArg Prod.snd e)
  unfold SparseCore.Cfg.ownSems0
  rw [SparseCore.bigSep_erase' (own (.dma cc0_scoped0.sem) (by decide)),
    SparseCore.bigSep_erase' (Finset.mem_erase.mpr ⟨ne (.dma cc0_scratch2.sem) (.dma cc0_scoped0.sem) (by decide), own _ (by decide)⟩),
    SparseCore.bigSep_erase' (Finset.mem_erase.mpr ⟨ne (.dma cc0_scoped1.sem) (.dma cc0_scratch2.sem) (by decide),
      Finset.mem_erase.mpr ⟨ne (.dma cc0_scoped1.sem) (.dma cc0_scoped0.sem) (by decide), own _ (by decide)⟩⟩)]

/-- The two scratch buffers are among the tile's own: they are them, at some contents, and the rest. -/
theorem ownBufs_V :
    (ownBufs (V d (cV L) (jV L)) : sProp (𝕄 F))
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  have own₀ := SparseCore.Cfg.mem_ownRefs_of_owner (p := Proc.scVector (cV L) (jV L)) (b := (Proc.scVector (cV L) (jV L)).devRef cc0_scratch0) rfl
  have own₁ := SparseCore.Cfg.mem_ownRefs_of_owner (p := Proc.scVector (cV L) (jV L)) (b := (Proc.scVector (cV L) (jV L)).devRef cc0_scratch1) rfl
  unfold SparseCore.Cfg.ownBufs
  refine (SparseCore.bigSep_erase' own₀).trans ?_
  rw [SparseCore.bigSep_erase' (Finset.mem_erase.mpr
    ⟨fun e => absurd (Proc.devRef_injective _ e) (show (cc0_scratch1 : Ref sig .scVector) ≠ cc0_scratch0 by decide), own₁⟩)]

variable [FloatOps F]

/-- The list the gather reads is in range: what the fetch landed are the tile's ids. -/
theorem list_in_range (hids : Ids (F := F) (ids d)) (fs : Buf (Elt F) ((V d (cV L) (jV L)).loc cc0_scratch0)) :
    ∀ x, ((listV).view.read (Elt F) (View.write (Elt F) (listV).view fs ((idK L).view.read (Elt F) (ids d)) Finset.univ) x).toNat
      < S32000x128.size gathers_S32000x128_S64x128.axis := by
  intro x
  rw [View.write_whole_univ]
  simp only [Memref.view_whole, View.read_whole]
  rw [show ∀ j, (idK L).view.read (Elt F) (ids d) j = ids d ((idK L).view.emb j) from fun j => (View.read_apply _ _).trans (cast_eq _ _)]
  exact hids _

/-- The words of the tile's list, as the ids they are. -/
theorem idK_read (f : Vec F S2048 .i32) (x : S64.Idx) :
    (idK L).view.read (Elt F) f x = f (ix1 ⟨128 * (L 1).val + 64 * (L 0).val + (x 0).val, by
      have h1 : (L 1).val < 16 := (L 1).isLt; have h0 : (L 0).val < 2 := (L 0).isLt; have hx : (x 0).val < 64 := (x 0).isLt
      omega⟩) := by
  refine ((View.read_apply _ _).trans (cast_eq _ _)).trans (congrArg f (funext fun a => Fin.ext ?_))
  match a with
  | 0 =>
    show (k0_off1 L) 0 + 1 * (x 0).val = 128 * (L 1).val + 64 * (L 0).val + (x 0).val
    rw [k0_off1_eq]; simp

/-- What the write-out puts at row `x` of the tile's rows: the gathered row there. -/
theorem gathered_at (hids : Ids (F := F) (ids d)) (r : S64x128.Idx → Elt F .f32) (l : S64.Idx → Elt F .i32)
    (hl : l = (idK L).view.read (Elt F) (ids d)) (hin : ∀ x, (l x).toNat < S32000x128.size gathers_S32000x128_S64x128.axis)
    (hr : r = SparseCore.gatherPayload gathers_S32000x128_S64x128 ((tabK).view.read (Elt F) (tab d)) (SparseCore.rows l rfl hin))
    (x : S64x128.Idx) : r x = got tab ids d ((rowK L).view.emb x) := by
  subst hl hr
  unfold SparseCore.gatherPayload
  have hrow : ∀ y : S64x128.Idx, (SparseCore.rows ((idK L).view.read (Elt F) (ids d)) rfl hin (y 0)).val
      = (ids d (ix1 (((rowK L).view.emb y) 0 : Fin 2048))).toNat := by
    intro y
    have e : ∀ k : Fin S64.numel, ((S64.rowMajor.symm k) 0).val = k.val := fun k =>
      (Shape.rowMajor_val_one (S64.rowMajor.symm k)).symm.trans (congrArg Fin.val (S64.rowMajor.apply_symm_apply k))
    show ((idK L).view.read (Elt F) (ids d) (S64.rowMajor.symm (y 0))).toNat = _
    rw [idK_read]
    congr 2
    funext a
    match a with
    | 0 =>
      apply Fin.ext
      show 128 * (L 1).val + 64 * (L 0).val + ((S64.rowMajor.symm (y 0)) 0).val = (k0_off2 L) 0 + 1 * (y 0).val
      refine (congrArg (128 * (L 1).val + 64 * (L 0).val + ·) (e (y 0))).trans ?_
      rw [k0_off2_eq]; simp
  refine ((View.read_apply _ _).trans (cast_eq _ _)).trans ?_
  show tab d _ = tab d _
  refine congrArg (tab d) (funext fun a => Fin.ext ?_)
  match a with
  | 0 =>
    show 0 + 1 * (SparseCore.rows ((idK L).view.read (Elt F) (ids d)) rfl hin (x 0)).val = _ % 32000
    rw [Nat.zero_add, Nat.one_mul]
    exact (hrow x).trans (Nat.mod_eq_of_lt (hids _)).symm
  | 1 =>
    show 0 + 1 * (x 1).val = (k0_off2 L) 1 + 1 * (x 1).val
    rw [k0_off2_eq]; simp

set_option maxHeartbeats 4000000 in
/-- The run of the tile at `L`: from its block of the operands to its block with the rows gathered, its scratch and its
    cells as they were. -/
theorem tile_body (hF : (K (F := F)).Facts) (hids : Ids (F := F) (ids d)) (O : CellTallies nD τ sig (HIx 1)) (W : Waits sig (HIx 1))
    (hO : ∀ g, O g none = 0) :
    iprop(levAts (K (F := F)).L (K (F := F)).lev ∗ emp ∗ blkRes tab ids old d (blkL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L tabV (Memref.isWhole_whole _) idV (Memref.isWhole_whole _) rowV (Memref.isWhole_whole _)
            listV (Memref.isWhole_whole _) stageV (Memref.isWhole_whole _) cc0_scratch2 cc0_scoped0 cc0_scoped1)
          fun _ => iprop(blkRes tab ids (got tab ids) d (blkL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_idK (F := F) d L _).symm) $$ Hi
  ihave Ho' := (Entails.of_eq (pts_rowK (F := F) d L _).symm) $$ Ho
  ihave Hx' := (Entails.of_eq (pts_tabV (F := F) d L _ _).symm) $$ Hx
  ihave Hs' := (Entails.of_eq (pts_listV (F := F) d L _).symm) $$ Hs
  ihave Hr' := (Entails.of_eq (pts_stageV (F := F) d L _).symm) $$ Hr
  sl_exec
  -- the gather: a share of the table, the staging rows, the list whole and the cell go in, the stream's flight comes back
  ihave Hxs := (pointsTo_split_subset (q := tabShare (blkL L)) (f := tab d) (S := Finset.univ) (Finset.subset_univ (tabK).view.set)).1 $$ Hx'
  icases Hxs with ⟨Hxs, Hxr⟩
  have hrs : (stageV).view.set = Finset.univ := View.set_whole _
  have hss : (listV).view.set = Finset.univ := View.set_whole _
  ihave Hr'' := (Entails.of_eq (show ((stageV).view.loc (V d (cV L) (jV L)) ↦{fullShare} fr : sProp (𝕄 F))
      = (stageV).view.loc (V d (cV L) (jV L)) ↦[(stageV).view.set]{fullShare} fr by rw [hrs])) $$ Hr'
  ihave Hs'' := (Entails.of_eq (show ((listV).view.loc (V d (cV L) (jV L)) ↦{fullShare} View.write (Elt F) (listV).view fs (tile_body.sl.dma0 ids d L) Finset.univ : sProp (𝕄 F))
      = (listV).view.loc (V d (cV L) (jV L)) ↦[(listV).view.set]{fullShare} View.write (Elt F) (listV).view fs (tile_body.sl.dma0 ids d L) Finset.univ
      by rw [hss])) $$ Hs'
  have hN : ∀ h : S32000x128.Gathers 0 S64x128, ∑ j, ((stageV).slice (S64x128.rowRect h.axis' j) (S64x128.stride_rowRect h.axis' j)).view.dmaCredit
      = (stageV).view.dmaCredit := by decide
  have hin := list_in_range (F := F) ids d L hids fs
  iapply (SparseCore.wp_indirectGatherLocal countersEmb 𝒱₀ (V d (cV L) (jV L)) none (hg := gathers_S32000x128_S64x128) (default : HIx 1)
      (stageV).view.dmaCredit (hN _) (by decide) hin) $$ [Hxs Hr'' Hs'' HsemB]
  · isplitl [Hxs]; · iexact Hxs
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : (stageV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemB, HO⟩
  ihave Hx' := (pointsTo_split_subset (q := tabShare (blkL L)) (f := tab d) (S := Finset.univ) (Finset.subset_univ (tabK).view.set)).2 $$ [Hxs Hxr]
  · isplitl [Hxs] <;> iassumption
  ihave Hr3 := (Entails.of_eq (show ((stageV).view.loc (V d (cV L) (jV L)) ↦[(stageV).view.set]{fullShare} _ : sProp (𝕄 F))
      = (stageV).view.loc (V d (cV L) (jV L)) ↦{fullShare} _ by rw [hrs])) $$ Hr'
  ihave Hs3 := (Entails.of_eq (show ((listV).view.loc (V d (cV L) (jV L)) ↦[(listV).view.set]{fullShare} _ : sProp (𝕄 F))
      = (listV).view.loc (V d (cV L) (jV L)) ↦{fullShare} _ by rw [hss])) $$ Hs'
  sl_exec
  sl_step
  ihave Ho2 := (Entails.of_eq (pointsTo_congr (g := got tab ids d) fun i hi => by
    obtain ⟨x, -, rfl⟩ := Finset.mem_map.mp hi
    rw [← View.write_univ_eq_writes_whole]
    refine ((rowK L).view.write_emb_of_mem _ _ (Finset.mem_univ x)).trans ((cast_eq _ _).trans ?_)
    refine gathered_at tab ids d L hids _ _ ?_ hin ?_ x
    · rw [View.write_whole_univ]; simp only [Memref.view_whole, View.read_whole]
    · unfold tile_body.sl.dma0_1
      rw [View.write_whole_univ]; simp only [Memref.view_whole, View.read_whole])) $$ Ho'
  isplitl [Hi' Hx' Ho2]
  · isplitl [Hi']; · iapply (Entails.of_eq (pts_idK (F := F) d L _)); iexact Hi'
    isplitl [Hx']; · iexact Hx'
    iapply (Entails.of_eq (pts_rowK (F := F) d L _)); iexact Ho2
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  simp only [Finset.mem_insert] at hp
  rcases hp with hp | hp | hp | hp
  · exact .inr (hp ▸ rfl)
  · exact .inr (hp ▸ rfl)
  · exact .inr (hp ▸ rfl)
  · exact .inl hp

/-! ## The launch theorem's obligations -/

/-- A tile's coordinates. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          tabV (Memref.isWhole_whole _) idV (Memref.isWhole_whole _) rowV (Memref.isWhole_whole _)
          listV (Memref.isWhole_whole _) stageV (Memref.isWhole_whole _) cc0_scratch2 cc0_scoped0 cc0_scoped1) ⟨⟩ c s := rfl

theorem waits_widen {thr : Thread nD τ} {A B C : sProp (𝕄 F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  refine sep_mono .rfl (sep_mono .rfl (sep_mono .rfl ?_))
  iintro ⟨%W', %hW', HO⟩
  iexists W'; isplitr
  · ipureintro; exact fun p hp => (hW' p hp).imp_right Or.inl
  · iexact HO

/-- Every tile of the call meets its obligation. -/
theorem tileObl (hF : (K (F := F)).Facts) (hids : ∀ d, Ids (F := F) (ids d)) : (K (F := F)).TileObl (D (F := F)) 𝒱 (P tab ids old) v₀ 0 := by
  intro d c i O W hO _ _
  simp only [show (P tab ids old).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tab ids old d (coordsV ⟨_, hci.1⟩ ⟨_, hci.2⟩) hF (hids d) O W hO).trans (wp_mono frame _ _ fun _ => waits_widen)

end Tile

theorem bigSep_tiles (Φ : Fin 16 → sProp (𝕄 F)) :
    (bigSep Finset.univ fun i : Fin ((K (F := F)).nSub 0) => Φ (Fin.cast nSub_zero i)) = bigSep Finset.univ Φ :=
  bigSep_congr fun _ _ => congrArg Φ (Fin.ext rfl)

/-- A SparseCore's operands are its tiles' blocks, and its results theirs: both ways nothing but the names. -/
theorem vecSplit [FloatOps F] : (K (F := F)).VecSplit' (P tab ids old) 0 := by
  intro d c
  show (bigSep Finset.univ fun s : Fin 16 => blkRes tab ids old d (blk (Fin.cast nCore_zero c) s)) ⊢ |={Set.univ}=> iprop(
      (bigSep Finset.univ fun i : Fin ((K (F := F)).nSub 0) => blkRes tab ids old d (blk (Fin.cast nCore_zero c) (Fin.cast nSub_zero i)))
      ∗ ((bigSep Finset.univ fun i : Fin ((K (F := F)).nSub 0) => blkRes tab ids (got tab ids) d (blk (Fin.cast nCore_zero c) (Fin.cast nSub_zero i)))
          -∗ bigSep Finset.univ fun s : Fin 16 => blkRes tab ids (got tab ids) d (blk (Fin.cast nCore_zero c) s)))
  rw [bigSep_tiles (F := F) (fun s => blkRes tab ids old d (blk (Fin.cast nCore_zero c) s)),
    bigSep_tiles (F := F) (fun s => blkRes tab ids (got tab ids) d (blk (Fin.cast nCore_zero c) s))]
  iintro H; imodintro
  isplitl [H]; · iexact H
  iintro H; iexact H

/-! ## The call's operands, block by block -/

/-- The 32 blocks, by SparseCore and tile. -/
def blkEquiv : Fin 2 × Fin 16 ≃ Fin 32 where
  toFun p := blk p.1 p.2
  invFun k := (⟨k.val % 2, Nat.mod_lt _ (by decide)⟩, ⟨k.val / 2, by omega⟩)
  left_inv p := by
    rcases p with ⟨c, s⟩
    ext <;> simp only [blk] <;> omega
  right_inv k := Fin.ext (by simp only [blk]; omega)

/-- The whole ids, table and rows of a device are its 32 blocks. -/
theorem operands_eq (r : (d : Dev nD) → Buf (Elt F) (rowLoc d)) (d : Dev nD) :
    (iprop((idLoc d ↦{fullShare} ids d) ∗ (tabLoc d ↦{fullShare} tab d) ∗ rowLoc d ↦{fullShare} r d) : sProp (𝕄 F))
      = bigSep Finset.univ fun c : Fin 2 => bigSep Finset.univ fun s : Fin 16 => blkRes tab ids r d (blk c s) := by
  have hid : (idLoc d ↦{fullShare} ids d : sProp (𝕄 F)) = bigSep Finset.univ fun k : Fin 32 => idLoc d ↦[(idBlk k).set]{fullShare} ids d := by
    rw [← pointsTo_biUnion Finset.univ (ℓ := idLoc d) (fun k : Fin 32 => (idBlk k).set) (fun i _ j _ h => Rect.part_disjoint id_div h),
      show (Finset.univ : Finset (Fin 32)).biUnion (fun k : Fin 32 => (idBlk k).set) = Finset.univ from Rect.biUnion_part id_div]
  have hrow : (rowLoc d ↦{fullShare} r d : sProp (𝕄 F)) = bigSep Finset.univ fun k : Fin 32 => rowLoc d ↦[(rowBlk k).set]{fullShare} r d := by
    rw [← pointsTo_biUnion Finset.univ (ℓ := rowLoc d) (fun k : Fin 32 => (rowBlk k).set) (fun i _ j _ h => Rect.part_disjoint row_div h),
      show (Finset.univ : Finset (Fin 32)).biUnion (fun k : Fin 32 => (rowBlk k).set) = Finset.univ from Rect.biUnion_part row_div]
  rw [hid, hrow, pointsTo_piecesOf Finset.univ (tab d) (show 0 < 32 by decide) fullShare, ← bigSep_sep', ← bigSep_sep',
    bigSep_univ_equiv blkEquiv, bigSep_univ_prod]
  rfl

end Cert.Proof.Moe

end
-- ==== Proof.Region.lean ====
/-
  The TensorCore region as one step of @main: entered with the core's unscoped buffers at some contents, left with the
  three results' arrays at what the pipeline wrote and every other buffer as it was.
-/
module

public import Idealize.ShloMosaic.Lib.Pipeline.RegionsLoop
public import proofs.«01_k».proof.Proof.Oblig
public import proofs.«01_k».proof.Proof.Tile

@[expose] public section

set_option maxRecDepth 16384

noncomputable section

namespace Cert.Proof.Moe

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type}

/-- The contents of a device's buffers, on every device. -/
abbrev Vals (F : FTy → Type) : Type := Dev nD → Valuation τ sig (Elt F)

/-- The contents of the TensorCore's buffers among them. -/
abbrev ent (X : Vals F) : Entry F := fun c b => X c (Proc.devRef .tc b)

/-- No table is prefetched. -/
abbrev adm : (p : Fin 1) → (pcfgs (F := F) p).Adm := fun p => (cfgs p).toPCfg_adm

variable [FloatOps F] (X : Vals F)

/-- The one region's proof data. -/
abbrev dats (p : Fin 1) (c : Dev nD) : Dat τ (Elt F) (SparseCore.Cfg.HIx 1) ℕ UU ℕ (Pipeline.pin (pcfgs (F := F)) adm p) c :=
  match p with | 0 => dat (ent X) c

/-- The logits, the router's weights and the selected experts as the region leaves their arrays. -/
def finLogits (c : Dev nD) : Buf (Elt F) ((c : Thread nD τ).loc main_v3_0) := (dat (ent X) c).arrAt 16 cfg1.N
def finWts (c : Dev nD) : Buf (Elt F) ((c : Thread nD τ).loc main_v3_1) := (dat (ent X) c).arrAt 17 cfg1.N
def finSel (c : Dev nD) : Buf (Elt F) ((c : Thread nD τ).loc main_v3_2) := (dat (ent X) c).arrAt 18 cfg1.N

/-- The contents after the region. -/
def left : Vals F := fun c =>
  Function.update (Function.update (Function.update (X c) (Proc.devRef .tc main_v3_0) (finLogits X c)) (Proc.devRef .tc main_v3_1) (finWts X c))
    (Proc.devRef .tc main_v3_2) (finSel X c)

theorem devRef_ne {a b : Ref sig .tc} (h : a ≠ b) : (Proc.devRef .tc a : DevRef τ sig) ≠ Proc.devRef .tc b := fun e => h (Proc.devRef_injective _ e)

theorem left_0 (c : Dev nD) : left X c (Proc.devRef .tc main_v3_0) = finLogits X c := by
  unfold left
  rw [Function.update_of_ne (devRef_ne (by decide)), Function.update_of_ne (devRef_ne (by decide)), Function.update_self]
theorem left_1 (c : Dev nD) : left X c (Proc.devRef .tc main_v3_1) = finWts X c := by
  unfold left
  rw [Function.update_of_ne (devRef_ne (by decide)), Function.update_self]
theorem left_2 (c : Dev nD) : left X c (Proc.devRef .tc main_v3_2) = finSel X c := by
  unfold left
  rw [Function.update_self]
theorem left_ne (c : Dev nD) (b : Ref sig .tc) (h0 : b ≠ main_v3_0) (h1 : b ≠ main_v3_1) (h2 : b ≠ main_v3_2) :
    left X c (Proc.devRef .tc b) = X c (Proc.devRef .tc b) := by
  unfold left
  rw [Function.update_of_ne (devRef_ne h2), Function.update_of_ne (devRef_ne h1), Function.update_of_ne (devRef_ne h0)]

/-- Every array after the region is what the proof data say of it. -/
theorem left_arr (c : Dev nD) : ∀ w : Fin cfg1.W, (dat (ent X) c).arrAt w cfg1.N = ent (left X) c (Pipeline.arrRef spec1 w)
  | 16 => (left_0 X c).symm
  | 17 => (left_1 X c).symm
  | 18 => (left_2 X c).symm
  | 0 | 1 | 2 | 3 | 4 | 5 | 6 | 7 | 8 | 9 | 10 | 11 | 12 | 13 | 14 | 15 =>
    ((dat (ent X) c).arrAt_in _ rfl _).trans (((left_ne X c _ (by decide) (by decide) (by decide)).trans (dat_A (ent X) c _).symm).symm)
  | ⟨_ + 19, h⟩ => absurd h (Nat.not_lt.2 (Nat.le_add_left _ _))

/-- Before the first point nothing is asked of the scratch. -/
theorem holds_start (V : Entry F) (c : Dev nD) (x21 x22 x23 x24 x25 x26) : Holds V c 0 x21 x22 x23 x24 x25 x26 where
  out0 h := absurd h (lt_irrefl _)
  out1 h := absurd h (by decide)
  hid1 h := absurd h (lt_irrefl _)
  acc1 _ _ h := nomatch h
  wts1 h := absurd h (lt_irrefl _)
  sel1 h := absurd h (lt_irrefl _)
  pw _ h := absurd h (Nat.not_lt_zero _)

/-- What the TensorCore owes once the SparseCore call is behind it: nothing, its waits all of the call's stages. -/
abbrev owed1 (c : Dev nD) : sProp (𝕄 F) :=
  iprop(∃ W, ⌜(K (F := F)).WBelow (SparseCore.T c) W 8⌝ ∗ owes (c : Thread nD τ) 0 W)

set_option backward.isDefEq.respectTransparency.types false in
/-- The region, from the unscoped buffers at `X` to the same at `left X`. -/
def reg : Pipeline.RegionSeg (pcfgs (F := F)) adm (dats X) none defs₀ 𝒱₀ (K (F := F)).L (K (F := F)).lev 0 where
  win := winFacts₀1
  block_pos := block_pos1
  stage_whole := stage_whole1
  K := PEmpty
  osem := fun k => k.elim
  ho := Pipeline.OwnSemFacts.none _
  hbody c := (obligation (ent X) c).loose
  hwaits := Pipeline.hwaits_of_owed_zero _ _ _ _ _ _ 0 fun _ _ => rfl
  pre c := iprop(unscopedBufs c (ent X c) ∗ owed1 c)
  post c := iprop(unscopedBufs c (ent (left X) c) ∗ owed1 c)
  X c := iprop(emp)
  Y c := iprop(emp)
  Z c := Pipeline.unscopedRest spec1 c (ent X c)
  hentry c := by
    have hsplit := Pipeline.arrays_of_unscopedBufs_shared (pcfgs (F := F)) adm (dats X) (p := 0) winFacts₀1 sharedIn1 arr_whole1 c
      (fun _ _ => rfl) (ent X c) (fun w => dat_A (ent X) c w)
    iintro ⟨⟨Hub, %W, %hW, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hr
  hin c := by
    rw [show (dats X 0 c).Φ 0 = Inv (ent X) c 0 from dat_Φ (ent X) c 0]
    unfold Inv
    rw [show Pipeline.scopedRest (Pipeline.pin (pcfgs (F := F)) adm 0).spec c = Pipeline.scopedRest spec1 c from rfl, scopedRest1_eq]
    iintro ⟨-, -, ⟨%f0, H0⟩, ⟨%f1, H1⟩, ⟨%f2, H2⟩, ⟨%f3, H3⟩, ⟨%f4, H4⟩, ⟨%f5, H5⟩⟩
    iexists f0; iexists f1; iexists f2; iexists f3; iexists f4; iexists f5
    isplitr; · ipureintro; exact holds_start (ent X) c f0 f1 f2 f3 f4 f5
    rw [owns_whole, owns_whole, owns_whole, owns_whole, owns_whole, owns_whole]
    isplitl [H0]; · iexact H0
    isplitl [H1]; · iexact H1
    isplitl [H2]; · iexact H2
    isplitl [H3]; · iexact H3
    isplitl [H4]; · iexact H4
    iexact H5
  hout c := by
    rw [show (dats X 0 c).Φ (Fin.last (Pipeline.pin (pcfgs (F := F)) adm 0).N) = Inv (ent X) c cfg1.N from dat_Φ (ent X) c _]
    unfold Inv
    rw [Pipeline.ownSems0_none,
      show Pipeline.scopedRest (Pipeline.pin (pcfgs (F := F)) adm 0).spec c = Pipeline.scopedRest spec1 c from rfl, scopedRest1_eq]
    simp only [owns_whole]
    iintro ⟨%x0, %x1, %x2, %x3, %x4, %x5, -, H0, H1, H2, H3, H4, H5⟩
    isplitr; · iempintro
    isplitr; · iempintro
    isplitl [H0]; · iexists x0; iexact H0
    isplitl [H1]; · iexists x1; iexact H1
    isplitl [H2]; · iexists x2; iexact H2
    isplitl [H3]; · iexists x3; iexact H3
    isplitl [H4]; · iexists x4; iexact H4
    iexists x5; iexact H5
  hexit c := by
    have hjoin := Pipeline.unscopedBufs_of_arrays_shared (pcfgs (F := F)) adm (p := 0) winFacts₀1 sharedIn1 arr_whole1 c (dats X)
      (fun _ _ => rfl) (ent X c) (ent (left X) c) (fun w => (dat (ent X) c).arrAt w cfg1.N) (left_arr X c)
      (fun b hb => left_ne X c b
        (fun e => hb (Finset.mem_image.mpr ⟨(16 : Fin 19), Finset.mem_univ _, e.symm⟩))
        (fun e => hb (Finset.mem_image.mpr ⟨(17 : Fin 19), Finset.mem_univ _, e.symm⟩))
        (fun e => hb (Finset.mem_image.mpr ⟨(18 : Fin 19), Finset.mem_univ _, e.symm⟩)))
    iintro ⟨Ha, HO, -, HZ⟩
    imodintro
    isplitl [Ha HZ]
    · iapply hjoin
      isplitl [Ha] <;> iassumption
    · unfold Pipeline.Dat.owesAt Pipeline.owesWithin
      icases HO with ⟨%W, %hW, HO⟩; iexists W
      isplitr
      · ipureintro; intro p hp
        rcases hW hp with h | ⟨w, s, h⟩
        · exact h
        · rw [h]; exact Nat.zero_le _
      iexact HO

end Cert.Proof.Moe

end
-- ==== Proof.Launch.lean ====
/-
  The launch: the contents of the buffers between the statements of @main, @main's run on the TensorCore (the reshape of
  the ids, the SparseCore's gather, the reshape of the bias, the region, the three results' reshapes), and the program's
  run over any float values.
-/
module

public import Idealize.ShloMosaic.Lib.Pipeline.RegionsOwned
public import proofs.«01_k».proof.Proof.Region

@[expose] public section

set_option maxRecDepth 16384

noncomputable section

namespace Cert.Proof.Moe

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The contents between @main's statements -/

/-- The reshape of the ids, of the bias, and of the three results. -/
abbrev opIds : HloOp τ sig (Elt F) := StableHlo.reshape main_arg0 main_v0 rfl shapeCasts_S1x2048_S2048
abbrev opBias : HloOp τ sig (Elt F) := StableHlo.reshape main_arg14 main_v2 rfl shapeCasts_S32000_S1x32000
abbrev opLogits : HloOp τ sig (Elt F) := StableHlo.reshape main_v3_0 main_v4 rfl shapeCasts_S2048x32000_S1x2048x32000
abbrev opWts : HloOp τ sig (Elt F) := StableHlo.reshape main_v3_1 main_v5 rfl shapeCasts_S2048x8_S1x2048x8
abbrev opSel : HloOp τ sig (Elt F) := StableHlo.reshape main_v3_2 main_v6 rfl shapeCasts_S2048x2_S1x2048x2

variable (m : (ℓ : Loc nD τ sig) → Buf (Elt F) ℓ) (ρ : Dev nD → PrngReg)

/-- At launch; -/
def X0 : Vals F := fun c b => m (c, b)
/-- the ids reshaped; -/
def X1 : Vals F := fun c => opIds.result (X0 m c)
/-- the table, -/
abbrev tabA (d : Dev nD) : Buf (Elt F) (tabLoc d) := X1 m d (Proc.devRef .tc main_arg1)
/-- the ids, -/
abbrev idsA (d : Dev nD) : Buf (Elt F) (idLoc d) := X1 m d (Proc.devRef .tc main_v0)
/-- and the rows' array before the call; -/
abbrev oldA (d : Dev nD) : Buf (Elt F) (rowLoc d) := X1 m d (Proc.devRef .tc main_v1)
/-- the rows gathered; -/
def X2 : Vals F := fun c => Function.update (X1 m c) (Proc.devRef .tc main_v1) (got (tabA m) (idsA m) c)
/-- the bias reshaped; -/
def X3 : Vals F := fun c => opBias.result (X2 m c)

variable [FloatOps F]

/-- the region run; -/
def X4 : Vals F := left (X3 m)
/-- the results reshaped. -/
def X5 : Vals F := fun c => opLogits.result (X4 m c)
def X6 : Vals F := fun c => opWts.result (X5 m c)
def X7 : Vals F := fun c => opSel.result (X6 m c)

/-! ## The SparseCore call's operands among the buffers -/

/-- The three buffers the call is given. -/
abbrev callRefs : Finset (Ref sig .tc) := {main_v0, main_arg1, main_v1}

/-- The three, at some contents. -/
theorem call_split (d : Dev nD) (W : (b : Ref sig .tc) → Buf (Elt F) ((d : Thread nD τ).loc b)) :
    (unscopedBufs d W : sProp (𝕄 F)) = iprop(((idLoc d ↦{fullShare} W main_v0) ∗ (tabLoc d ↦{fullShare} W main_arg1) ∗ rowLoc d ↦{fullShare} W main_v1)
      ∗ Pipeline.unscopedBufsBut callRefs d W) := by
  rw [Pipeline.unscopedBufs_sdiff callRefs (by decide) d W,
    SparseCore.bigSep_insert' (by decide), SparseCore.bigSep_insert' (by decide), bigSep_singleton]

/-- The other buffers do not see the rows. -/
theorem but_rows (d : Dev nD) : (Pipeline.unscopedBufsBut callRefs d (ent (X2 m) d) : sProp (𝕄 F)) = Pipeline.unscopedBufsBut callRefs d (ent (X1 m) d) := by
  unfold Pipeline.unscopedBufsBut
  refine bigSep_congr fun b hb => ?_
  have hne : b ≠ main_v1 := fun e => (Finset.mem_sdiff.mp hb).2 (by rw [e]; decide)
  rw [show ent (X2 m) d b = ent (X1 m) d b from Function.update_of_ne (devRef_ne hne) _ _]

theorem X2_rows (d : Dev nD) : X2 m d (Proc.devRef .tc main_v1) = got (tabA m) (idsA m) d := Function.update_self _ _ _
theorem X2_ne (d : Dev nD) (b : Ref sig .tc) (h : b ≠ main_v1) : X2 m d (Proc.devRef .tc b) = X1 m d (Proc.devRef .tc b) :=
  Function.update_of_ne (devRef_ne h) _ _

/-- What the call is given, -/
theorem st0_eq (d : Dev nD) : (bigSep Finset.univ fun c : Fin ((K (F := F)).nCore 0) => (P (tabA m) (idsA m) (oldA m)).st 0 d c)
    = iprop((idLoc d ↦{fullShare} idsA m d) ∗ (tabLoc d ↦{fullShare} tabA m d) ∗ rowLoc d ↦{fullShare} oldA m d) := by
  rw [operands_eq]; rfl
/-- and what it gives back. -/
theorem dn0_eq (d : Dev nD) : (bigSep Finset.univ fun c : Fin ((K (F := F)).nCore 0) => (P (tabA m) (idsA m) (oldA m)).dn 0 d c)
    = iprop((idLoc d ↦{fullShare} idsA m d) ∗ (tabLoc d ↦{fullShare} tabA m d) ∗ rowLoc d ↦{fullShare} got (tabA m) (idsA m) d) := by
  rw [operands_eq]; rfl

/-! ## The launch element of the ghost state -/

/-- The handshakes', and the pipeline's. -/
def u₀ : UU :=
  (initOf (K (F := F)).hsCells (K (F := F)).hsToks,
    (initOf (Pipeline.cells (nD := nD) (τ := τ) (Pipeline.pin (pcfgs (F := F)) adm) cellOf_inj)
      (Pipeline.launchToks (nD := nD) (τ := τ) (Pipeline.pin (pcfgs (F := F)) adm) cellOf_inj), 1))

/-- What each TensorCore holds of the pipeline's. -/
abbrev G (d : Dev nD) : sProp (𝕄 F) :=
  iprop(Pipeline.cellsGhost (Pipeline.pin (pcfgs (F := F)) adm) EP 0 d ∗ Pipeline.toksInit (Pipeline.pin (pcfgs (F := F)) adm) EP 0 d)

theorem bigSep_emp' {I : Type} (s : Finset I) : (bigSep s fun _ => iprop(emp)) = (iprop(emp) : sProp (𝕄 F)) := bigSep_emp_const s

/-- The one pipeline's. -/
theorem alone (f : Fin 1 → Dev nD → sProp (𝕄 F)) :
    (bigSep Finset.univ fun c : Dev nD => bigSep Finset.univ fun p : Fin 1 => f p c) = bigSep Finset.univ fun c : Dev nD => f 0 c :=
  bigSep_congr fun _ _ => bigSep_univ_of_subsingleton (0 : Fin 1)

theorem hu₀ : (ownU (u₀ (F := F)) : sProp (𝕄 F))
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (tabA m) (idsA m) (oldA m)).x q thr) := by
  unfold u₀
  iintro Hu
  ihave H := (ownU_pair (initOf (K (F := F)).hsCells (K (F := F)).hsToks) _) $$ Hu
  icases H with ⟨HH, HP⟩
  ihave H := (own_pair_emb embR (initOf (Pipeline.cells (nD := nD) (τ := τ) (Pipeline.pin (pcfgs (F := F)) adm) cellOf_inj)
      (Pipeline.launchToks (nD := nD) (τ := τ) (Pipeline.pin (pcfgs (F := F)) adm) cellOf_inj)) (1 : Counters)) $$ HP
  icases H with ⟨HP, -⟩
  ihave HP := (show (BI.own ((Emb.inl.trans embR) (initOf (Pipeline.cells (nD := nD) (τ := τ) (Pipeline.pin (pcfgs (F := F)) adm) cellOf_inj)
      (Pipeline.launchToks (nD := nD) (τ := τ) (Pipeline.pin (pcfgs (F := F)) adm) cellOf_inj))) : sProp (𝕄 F)) ⊢ BI.own (EP (initOf (Pipeline.cells (nD := nD) (τ := τ) (Pipeline.pin (pcfgs (F := F)) adm) cellOf_inj)
      (Pipeline.launchToks (nD := nD) (τ := τ) (Pipeline.pin (pcfgs (F := F)) adm) cellOf_inj))) from .rfl) $$ HP
  imod (Pipeline.fund_ghost (Pipeline.pin (pcfgs (F := F)) adm) EP cellOf_inj) $$ HP with ⟨Hg, Ht⟩
  imodintro
  isplitl [HH]; · iexact HH
  isplitl [Hg Ht]
  · rw [bigSep_sep']
    isplitl [Hg]
    · iapply (Entails.of_eq (alone (Pipeline.cellsGhost (Pipeline.pin (pcfgs (F := F)) adm) EP))); iexact Hg
    · iapply (Entails.of_eq (alone (Pipeline.toksInit (Pipeline.pin (pcfgs (F := F)) adm) EP))); iexact Ht
  rw [show (bigSep Finset.univ fun thr : Thread nD τ => bigSep Finset.univ fun q : Fin 1 => (P (F := F) (tabA m) (idsA m) (oldA m)).x q thr) = bigSep Finset.univ fun _ => iprop(emp) from
    bigSep_congr fun _ _ => bigSep_univ_of_subsingleton (0 : Fin 1), bigSep_emp']
  iempintro

/-! ## @main on the TensorCore -/

/-- A host operation, the unscoped buffers held at its operands' contents and then at its result's. -/
theorem step (c : Dev nD) (op : HloOp τ sig (Elt F)) (hop : op.bufs ⊆ StableHlo.tcRefs τ sig) (hf : op.fresh = ∅) (W W' : Valuation τ sig (Elt F))
    (hW : op.result W = W')
    (hp : (c : Thread nD τ).2.kind.runsHlo = true)
    (Q : PUnit → sProp (𝕄 F)) :
    iprop((boundary (c : Thread nD τ) ∗ unscopedBufs c (fun b => W (Proc.devRef .tc b)))
      ∗ ((boundary (c : Thread nD τ) ∗ unscopedBufs c (fun b => W' (Proc.devRef .tc b))) -∗ Q ⟨⟩))
      ⊢ wp frame (wpE ((K (F := F)).defs (D (F := F))) 𝒱 (c : Thread nD τ) none) Set.univ (hlo hp op fun _ => .ret ⟨⟩) Q := by
  subst hW
  rw [Pipeline.unscopedBufs_held c W, Pipeline.unscopedBufs_held c (op.result W)]
  iintro ⟨H, Hk⟩
  iapply (StableHlo.wp_hlo_within 𝒱 (c : Thread nD τ) none Set.univ (op := op) (Pipeline.sub_ucRefs op hop) (V := W) (hf := hf)) $$ H
  iintro H
  rw [wp_ret]; imodintro
  iapply Hk; iexact H

/-- What the TensorCore holds of the handshakes' state once it owes nothing. -/
theorem tcSt_one (d : Dev nD) : ((K (F := F)).tcSt EH d 1 : sProp (𝕄 F)) ⊢
    iprop(owed1 d ∗ (owed1 d -∗ (K (F := F)).tcSt EH d 1)) := by
  unfold SparseCore.Cfg.tcSt
  rw [(K (F := F)).Otc_end d le_rfl]
  iintro ⟨HO, Hr⟩
  isplitl [HO]; · iexact HO
  iintro HO
  isplitl [HO]; · iexact HO
  iexact Hr

theorem hmain [∀ e, Nonempty (Elt F e)] (κ : GSem nD τ sig → ℕ) (d : Dev nD) :
    iprop((K (F := F)).ctx EH (P (tabA m) (idsA m) (oldA m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ unscopedBufs d (ent (X7 m) d) ∗ (K (F := F)).tcEnd d) := by
  unfold SparseCore.Cfg.tcRes SparseCore.Cfg.tcEnd
  simp only [main, wp_bind, wp_pure]
  iintro ⟨#Hctx, Hst, ⟨Hb, Hub, Hts, -⟩, Hg, Ht⟩
  -- the ids
  iapply (step d opIds (StableHlo.reshape_bufs_sub ..) rfl (X0 m d) (X1 m d) rfl rfl)
  isplitl [Hb Hub]
  · isplitl [Hb]; · iexact Hb
    iexact Hub
  iintro ⟨Hb, Hub⟩
  -- the gather
  ihave H := (Entails.of_eq (call_split d (ent (X1 m) d))) $$ Hub
  icases H with ⟨Hcall, Hrest⟩
  iapply ((K (F := F)).wp_run (D (F := F)) 𝒱 (EH := EH) (P := P (tabA m) (idsA m) (oldA m)) κ d 0) $$ [Hst Hcall Hrest Hb Hts Hg Ht]
  isplitr; · iexact Hctx
  isplitl [Hst]; · iexact Hst
  isplitl [Hcall]
  · rw [st0_eq]; iexact Hcall
  iintro ⟨Hst, Hdn⟩
  ihave Hcall := (Entails.of_eq (dn0_eq m d)) $$ Hdn
  -- the bias
  iapply (step d opBias (StableHlo.reshape_bufs_sub ..) rfl (X2 m d) (X3 m d) rfl rfl)
  isplitl [Hb Hcall Hrest]
  · isplitl [Hb]; · iexact Hb
    rw [call_split, show (fun b => X2 m d (Proc.devRef .tc b)) = ent (X2 m) d from rfl, but_rows,
      X2_rows m d, X2_ne m d main_v0 (by decide), X2_ne m d main_arg1 (by decide)]
    isplitl [Hcall]; · iexact Hcall
    iexact Hrest
  iintro ⟨Hb, Hub⟩
  -- the region
  ihave Hst := (show (K (F := F)).tcSt EH d ((0 : Fin 1).val + 1) ⊢ ((K (F := F)).tcSt EH d 1 : sProp (𝕄 F)) from .rfl) $$ Hst
  ihave H := (tcSt_one d) $$ Hst
  icases H with ⟨HO, Hst⟩
  ihave Hlev := (SparseCore.Cfg.ctx_levAts κ) $$ Hctx
  iapply ((K (F := F)).wp_liftProg (D (F := F)) 𝒱 (SparseCore.T d) Set.univ none (.op (.customCall (Pipeline.entry 0) ()) .ret) _)
  iapply (Pipeline.RegionSeg.wp (pcfgs (F := F)) adm (dats (X3 m)) none cellOf_inj EP defs₀ 𝒱₀ (K (F := F)).L (K (F := F)).lev (reg (X3 m)) d none
    (fun u hu => nomatch hu) .ret _)
  isplitl [Hst Hts]
  · iintro ⟨Hb, Hpost⟩
    rw [wp_ret]; imodintro
    ihave H := (show (reg (X3 m)).post d ⊢ iprop(unscopedBufs d (ent (X4 m) d) ∗ owed1 d) from .rfl) $$ Hpost
    icases H with ⟨Hub, HO⟩
    ihave Hst := Hst $$ HO
    -- the results
    iapply (step d opLogits (StableHlo.reshape_bufs_sub ..) rfl (X4 m d) (X5 m d) rfl rfl)
    isplitl [Hb Hub]
    · isplitl [Hb]; · iexact Hb
      iexact Hub
    iintro ⟨Hb, Hub⟩
    iapply (step d opWts (StableHlo.reshape_bufs_sub ..) rfl (X5 m d) (X6 m d) rfl rfl)
    isplitl [Hb Hub]
    · isplitl [Hb]; · iexact Hb
      iexact Hub
    iintro ⟨Hb, Hub⟩
    iapply (step d opSel (StableHlo.reshape_bufs_sub ..) rfl (X6 m d) (X7 m d) rfl rfl)
    isplitl [Hb Hub]
    · isplitl [Hb]; · iexact Hb
      iexact Hub
    iintro ⟨Hb, Hub⟩
    imodintro
    isplitl [Hst]; · iexact Hst
    isplitl [Hub]; · iexact Hub
    isplitl [Hb] <;> iassumption
  isplitl [Hb]; · iexact Hb
  isplitl [Hub HO]
  · iapply (show iprop(unscopedBufs d (ent (X3 m) d) ∗ owed1 d) ⊢ (reg (X3 m)).pre d from .rfl)
    isplitl [Hub]; · iexact Hub
    iexact HO
  isplitl [Hlev]; · iexact Hlev
  isplitl [Hg] <;> iassumption

/-! ## The run -/

/-- What a final state holds: every unscoped buffer of the TensorCore at what @main leaves. -/
def fq (d : Dev nD) (s' : Phys nD τ sig (Elt F)) : Prop :=
  ∀ b : Ref sig .tc, ¬ b.isScoped → s'.mem.mem ((d : Thread nD τ).loc b) = X7 m d (Proc.devRef .tc b)

theorem hfin (d : Dev nD) (s' : Phys nD τ sig (Elt F)) : iprop(unscopedBufs d (ent (X7 m) d) ∗ SI s') ⊢ (⌜fq m d s'⌝ : sProp (𝕄 F)) := by
  unfold unscopedBufs
  iintro ⟨Hb, HSI⟩
  ihave H := (pointsTo_read_all (Finset.univ.filter fun b : Ref sig .tc => ¬ b.isScoped) (fun b => (d : Thread nD τ).loc b) (fun b => ent (X7 m) d b) s') $$ [Hb HSI]
  · isplitl [Hb] <;> iassumption
  icases H with ⟨%h, -⟩
  ipureintro
  exact fun b hb => h b (Finset.mem_filter.mpr ⟨Finset.mem_univ _, hb⟩)

/-- What the run leaves: the same on every device, every semaphore at zero. -/
def QC : PUnit × MemSt nD τ sig (Elt F) → Prop := fun r =>
  (∀ (d : Dev nD) (b : Ref sig .tc), ¬ b.isScoped → r.2.mem ((d : Thread nD τ).loc b) = X7 m d (Proc.devRef .tc b)) ∧ r.2.sem = fun _ => 0

/-- The program's run over any float values, every id naming a row of the table: it terminates without a fault at the
    contents @main's statements compute. -/
theorem run_main [∀ e, Nonempty (Elt F e)] (hids : ∀ d, Ids (F := F) (idsA m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tabA m) (idsA m) (oldA m)) (A := ∅) facts v₀
    (fun q hq => match q with | 0 => nomatch hq)
    (fun q _ => match q with | 0 => tileObl (tabA m) (idsA m) (oldA m) facts hids)
    (fun q _ => match q with | 0 => SparseCore.Cfg.VecSplit.of_plain (vecSplit (tabA m) (idsA m) (oldA m)))
    m ρ main G (fun d => unscopedBufs d (ent (X7 m) d)) (u₀ (F := F)) (sep_elim_left.trans (hu₀ m)) (hmain m ρ) (fq m) (hfin m) (QC m)
    (fun _ h hz => ⟨h, hz⟩)

end Cert.Proof.Moe

end
-- ==== Proof.Frames.lean ====
/-
  The two frames of the kernel: the run of Launch.lean with the results dropped, at Bits and at the extended reals; the
  precondition puts every id in the table.
-/
module

public import Idealize.ShloMosaic.Lib.ReduceAll
public import proofs.«01_k».proof.Proof.Launch
public import proofs.«01_k».proof.Defs
public import proofs.«01_k».proof.Proof.Gen.Pre_in_range
public import proofs.«01_k».proof.Proof.Gen.Kernel

@[expose] public section

set_option maxRecDepth 16384

noncomputable section

namespace Cert.Proof.Moe

open Cert.KernelIdeal Cert.KernelIdeal.Gen

open Idealize.ShloMosaic Idealize.ShloMosaic.TcCoe
open Idealize.SL Idealize.SL.Sem

variable {F : FTy → Type} [FloatOps F]

/-- The buffers @main writes. -/
abbrev written : Finset (Ref sig .tc) := {main_v0, main_v1, main_v2, main_v3_0, main_v3_1, main_v3_2, main_v4, main_v5, main_v6}

variable (m : (ℓ : Loc nD τ sig) → Buf (Elt F) ℓ)

/-- The contents the region finds, at a buffer no statement before it writes, are those of launch. -/
theorem X3_kept (d : Dev nD) (b : Ref sig .tc) (hb : b ∉ written) : X3 m d (Proc.devRef .tc b) = m ((d : Thread nD τ).loc b) := by
  have ne : ∀ w ∈ written, b ≠ w := fun w hw e => hb (e ▸ hw)
  refine (StableHlo.reshape_result_ne _ _ _ _ _ _ (X2 m d) (ne main_v2 (by decide))).trans ?_
  refine (X2_ne m d b (ne main_v1 (by decide))).trans ?_
  exact StableHlo.reshape_result_ne _ _ _ _ _ _ (X0 m d) (ne main_v0 (by decide))

/-- A buffer no statement writes holds at the end what it held at launch. -/
theorem X7_kept (d : Dev nD) (b : Ref sig .tc) (hb : b ∉ written) : X7 m d (Proc.devRef .tc b) = m ((d : Thread nD τ).loc b) := by
  have ne : ∀ w ∈ written, b ≠ w := fun w hw e => hb (e ▸ hw)
  refine (StableHlo.reshape_result_ne _ _ _ _ _ _ (X6 m d) (ne main_v6 (by decide))).trans ?_
  refine (StableHlo.reshape_result_ne _ _ _ _ _ _ (X5 m d) (ne main_v5 (by decide))).trans ?_
  refine (StableHlo.reshape_result_ne _ _ _ _ _ _ (X4 m d) (ne main_v4 (by decide))).trans ?_
  exact (left_ne (X3 m) d b (ne main_v3_0 (by decide)) (ne main_v3_1 (by decide)) (ne main_v3_2 (by decide))).trans (X3_kept m d b hb)

/-- The reshaped ids, entry by entry. -/
theorem idsA_eq (d : Dev nD) : idsA m d = shapeCast S2048 (m ((d : Thread nD τ).loc main_arg0)) shapeCasts_S1x2048_S2048 :=
  StableHlo.reshape_result _ _ _ _ _ _ (X0 m d)

/-- The table is the argument. -/
theorem tabA_eq (d : Dev nD) : tabA m d = m ((d : Thread nD τ).loc main_arg1) :=
  StableHlo.reshape_result_ne _ _ _ _ _ _ (X0 m d) (show main_arg1 ≠ main_v0 by decide)

/-- An id in range, signed, is below the table's rows. -/
theorem below (v : BitVec 32) (h0 : IntOp.cmpi .sge v 0#32 = 1#1) (h1 : IntOp.cmpi .slt v 32000#32 = 1#1) : v.toNat < 32000 := by
  have g0 := IntOp.cmpi_sge.1 h0
  have g1 := IntOp.cmpi_slt.1 h1
  simp only [BitVec.toInt_eq_toNat_cond, BitVec.toNat_ofNat, Nat.reducePow, Nat.reduceMod] at g0 g1
  omega

theorem and_one (a b : BitVec 1) (h : IntOp.andi a b = 1#1) : a = 1#1 ∧ b = 1#1 := by
  revert h; revert a b; decide

/-- The precondition says that every id names a row of the table. -/
theorem in_table (a0 : IVec Cert.Pre_in_range.S1x2048 32) (a1 : FVec F Cert.Pre_in_range.S32000x128 .f32) (a2 : FVec F Cert.Pre_in_range.S2048x128 .f32)
    (a3 a4 : FVec F Cert.Pre_in_range.S128 .f32) (a5 : FVec F Cert.Pre_in_range.S128x8 .f32) (a6 : FVec F Cert.Pre_in_range.S8 .f32)
    (a7 : FVec F Cert.Pre_in_range.S8x128x512 .f32) (a8 : FVec F Cert.Pre_in_range.S8x512 .f32) (a9 : FVec F Cert.Pre_in_range.S8x512x128 .f32)
    (a10 : FVec F Cert.Pre_in_range.S8x128 .f32) (a11 a12 : FVec F Cert.Pre_in_range.S128 .f32) (a13 : FVec F Cert.Pre_in_range.S128x32000 .f32)
    (a14 : FVec F Cert.Pre_in_range.S32000 .f32)
    (h : Cert.Pre_in_range.fn a0 a1 a2 a3 a4 a5 a6 a7 a8 a9 a10 a11 a12 a13 a14 = fun _ => 1#1) (j : Cert.Pre_in_range.S1x2048.Idx) :
    (a0 j).toNat < 32000 := by
  obtain ⟨e0, e1⟩ := and_one _ _ (congrFun h (fun a => Fin.elim0 a))
  exact below _ (Host.reduce_andi_all _ _ _ _ _ e0 j) (Host.reduce_andi_all _ _ _ _ _ e1 j)

/-- So every id the call is given names a row. -/
theorem ids_ok (hm : ∀ (d : Dev nD) j, ((show IVec S1x2048 32 from m ((d : Thread nD τ).loc main_arg0)) j).toNat < 32000) (d : Dev nD) : Ids (F := F) (idsA m d) := by
  rw [idsA_eq]
  exact fun j => hm d _

/-- The arguments of device `c` hold what they held at launch. -/
def ArgsKept (c : Dev nD) (r : PUnit × MemSt nD τ sig (Elt F)) : Prop :=
  r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)

/-- At the end of a run they do. -/
theorem args_kept (r : PUnit × MemSt nD τ sig (Elt F)) (h : QC m r) (c : Dev nD) : ArgsKept m c r :=
  have k : ∀ b : Ref sig .tc, ¬ b.isScoped → b ∉ written → r.2.mem ((c : Thread nD τ).loc b) = m ((c : Thread nD τ).loc b) :=
    fun b hs hb => (h.1 c b hs).trans (X7_kept m c b hb)
  ⟨k main_arg0 (by decide) (by decide), k main_arg1 (by decide) (by decide), k main_arg2 (by decide) (by decide),
    k main_arg3 (by decide) (by decide), k main_arg4 (by decide) (by decide), k main_arg5 (by decide) (by decide),
    k main_arg6 (by decide) (by decide), k main_arg7 (by decide) (by decide), k main_arg8 (by decide) (by decide),
    k main_arg9 (by decide) (by decide), k main_arg10 (by decide) (by decide), k main_arg11 (by decide) (by decide),
    k main_arg12 (by decide) (by decide), k main_arg13 (by decide) (by decide), k main_arg14 (by decide) (by decide)⟩

/-- The frame over any float values. -/
theorem frame_any [∀ e, Nonempty (Elt F e)] (ρ : Dev nD → PrngReg)
    (hm : ∀ (d : Dev nD) j, ((show IVec S1x2048 32 from m ((d : Thread nD τ).loc main_arg0)) j).toNat < 32000) :
    θ_run (Cert.KernelIdeal.defs (F := F)) (Cert.KernelIdeal.threads (F := F)) ⟨m, fun _ => 0, ρ⟩
      (fun r => (∀ c : Dev nD, ArgsKept m c r) ∧ r.2.sem = fun _ => 0) :=
  (θ_run Cert.KernelIdeal.defs _ _).mono (fun r h => ⟨fun c => args_kept m r h c, h.2⟩) (run_main m ρ (ids_ok m hm))

/-- `KernelIdeal`'s frame. -/
theorem frame_ideal : Cert.quiescent_KernelIdeal := fun m ρ hp =>
  frame_any (F := Ideal) m ρ fun d j => in_table _ _ _ _ _ _ _ _ _ _ _ _ _ _ _ (hp d) j

/-- The ids of `Kernel`'s memory name rows. -/
theorem ids_bits (m : (ℓ : Loc Cert.Kernel.nD Cert.Kernel.τ Cert.Kernel.sig) → Buf (Elt Bits) ℓ) (hp : Cert.Pre_Kernel m) (d : Dev nD) (j) :
    ((show IVec S1x2048 32 from m ((d.tc : Thread Cert.Kernel.nD Cert.Kernel.τ).loc Cert.Kernel.main_arg0)) j).toNat < 32000 :=
  in_table _ _ _ _ _ _ _ _ _ _ _ _ _ _ _ (hp d) j

set_option maxHeartbeats 20000000 in
/-- The two programs run the same bodies; -/
theorem bodies_eq : Cert.Kernel.defs₀ (F := Bits) = Cert.KernelIdeal.defs₀ (F := Bits) := by
  funext p l a
  match p, l, a with
  | .scVector c s, 0, _ => rfl
  | .tc, 1, (t, s) => rfl
  | .tc, 0, _ => rfl
  | .scScalar _, _, _ => rfl
  | .scVector c s, 1, _ => rfl

/-- so they have the same definitions. -/
theorem defs_eq : Cert.Kernel.defs (F := Bits) = Cert.KernelIdeal.defs (F := Bits) :=
  congrArg (fun x => (Cert.KernelIdeal.sc (F := Bits)).defs (Pipeline.defs (Cert.KernelIdeal.pcfgs (F := Bits)) x)) bodies_eq

/-- `Kernel`'s frame: the two programs have the same text. -/
theorem frame_bits : Cert.quiescent_Kernel := fun m ρ hp => by
  have h := frame_any (F := Bits) m ρ (ids_bits m hp)
  rw [← defs_eq] at h
  exact h

end Cert.Proof.Moe

end
-- ==== Proof.RefFrame.lean ====
/-
  The reference's frame, off its generated run: it has no semaphores, so none is left raised.
-/
module

public import Idealize.ShloMosaic.Lib.Quiescent
public import proofs.«01_k».proof.Defs
public import proofs.«01_k».proof.Proof.Gen.Pre_in_range
public import proofs.«01_k».proof.Proof.Gen.ReferenceIdeal.Run

@[expose] public section

noncomputable section

namespace Cert.Proof.Moe

open Idealize.ShloMosaic Idealize.SL.Sem

/-- `ReferenceIdeal`'s frame. -/
theorem frame_reference : Cert.quiescent_ReferenceIdeal := fun m ρ _ =>
  (θ_run Cert.ReferenceIdeal.defs _ _).mono (fun r h => ⟨fun c => (h c).2.2.2, sem_eq_zero_of_no_sems rfl r.2⟩)
    (Cert.ReferenceIdeal.Value.run m ρ)

end Cert.Proof.Moe

end
-- ==== Proof.Spec.lean ====
/-
  The mathematics of the block on one row, over the extended reals: the layer norm, the router's scores and softmax, the
  two picks, the experts' weighted sum, the projection. Both programs are read as these functions of rows.
-/
module

public import Idealize.ShloMosaic.Lib.Pointwise

@[expose] public section

noncomputable section

namespace Cert.Proof.Moe

open Idealize.ShloMosaic

/-- The width of a row, as a constant of the programs. -/
abbrev c128 : EReal := Ideal.ofBits .f32 0x43000000#32
/-- The norm's small constant. -/
abbrev cEps : EReal := Ideal.ofBits .f32 0x3727C5AC#32
/-- Two. -/
abbrev cTwo : EReal := Ideal.ofBits .f32 0x40000000#32
/-- The least value. -/
abbrev cLow : EReal := Ideal.ofBits .f32 0xFF800000#32
/-- One half, one, and the activation's two constants. -/
abbrev cHalf : EReal := Ideal.ofBits .f32 0x3F000000#32
abbrev cOne : EReal := Ideal.ofBits .f32 0x3F800000#32
abbrev cA : EReal := Ideal.ofBits .f32 0x3F4C422A#32
abbrev cB : EReal := Ideal.ofBits .f32 0x3D372713#32

/-- The mean of a row. -/
def mean (x : Fin 128 → EReal) : EReal := Ideal.div (∑ k, x k) c128
/-- A row less its mean. -/
def dev (x : Fin 128 → EReal) (k : Fin 128) : EReal := x k - mean x
/-- The variance of a row. -/
def var (x : Fin 128 → EReal) : EReal := mean fun k => dev x k * dev x k
/-- The layer norm of a row with scale `g` and shift `b`. -/
def norm (x g b : Fin 128 → EReal) (k : Fin 128) : EReal := dev x k * Ideal.rsqrt (var x + cEps) * g k + b k

/-- The router's scores of a row. -/
def score (h : Fin 128 → EReal) (rw : Fin 128 → Fin 8 → EReal) (rb : Fin 8 → EReal) (e : Fin 8) : EReal :=
  (∑ k, h k * rw k e + rb e) * cTwo
/-- The greatest of eight. -/
def top (s : Fin 8 → EReal) : EReal := Finset.univ.fold max cLow s
/-- The exponentials of the scores less their greatest. -/
def expo (s : Fin 8 → EReal) (e : Fin 8) : EReal := Ideal.exp (s e - top s)
/-- The softmax. -/
def soft (s : Fin 8 → EReal) (e : Fin 8) : EReal := Ideal.div (expo s e) (∑ k, expo s k)

/-- The first place of the greatest of eight, as a 32-bit integer. -/
def firstOf (w : Fin 8 → EReal) : BitVec 32 :=
  Finset.univ.fold IntOp.minsi 2147483647#32 fun e : Fin 8 => if w e = top w then BitVec.ofNat 32 e.val else 8#32
/-- Eight values with the one at a place struck out. -/
def strike (w : Fin 8 → EReal) (i : BitVec 32) (e : Fin 8) : EReal := if BitVec.ofNat 32 e.val = i then cLow else w e

/-- The activation. -/
def gelu (x : EReal) : EReal := x * (cHalf * (cOne + Ideal.tanh (cA * (x + cB * (x * (x * x))))))
/-- A hidden unit of an expert before its activation. -/
def unit (h w : Fin 128 → EReal) (b : EReal) : EReal := ∑ k, h k * w k + b
/-- An expert's output. -/
def expert (h : Fin 128 → EReal) (w1 : Fin 128 → Fin 512 → EReal) (b1 : Fin 512 → EReal) (w2 : Fin 512 → EReal) (b2 : EReal) : EReal :=
  ∑ f, gelu (unit h (fun k => w1 k f) (b1 f)) * w2 f + b2

end Cert.Proof.Moe

end
-- ==== Proof.Consts.lean ====
/-
  The constants of the two programs as extended reals.
-/
module

public import proofs.«01_k».proof.Proof.Spec

@[expose] public section

noncomputable section

namespace Cert.Proof.Moe

open Idealize.ShloMosaic

theorem c128_eq : c128 = ((128 : ℝ) : EReal) := by
  simp [Ideal.ofBits, Ideal.ieee, -EReal.coe_mul]
  try norm_num

theorem cTwo_eq : cTwo = ((2 : ℝ) : EReal) := by
  simp [Ideal.ofBits, Ideal.ieee, -EReal.coe_mul]
  try norm_num

theorem cHalf_eq : cHalf = ((1 / 2 : ℝ) : EReal) := by
  simp [Ideal.ofBits, Ideal.ieee, -EReal.coe_mul]
  try norm_num

theorem cLow_eq : cLow = ⊥ := by
  simp [Ideal.ofBits, Ideal.ieee, -EReal.coe_mul]
  try norm_num

/-- The norm's small constant is a positive real. -/
theorem cEps_pos : ∃ ε : ℝ, 0 < ε ∧ cEps = (ε : EReal) := by
  refine ⟨(8388608 + 2606508) * (2 : ℝ) ^ (-40 : ℤ), by positivity, ?_⟩
  simp [Ideal.ofBits, Ideal.ieee, -EReal.coe_mul]
  try norm_num

theorem c128_pos : 0 < c128 := by
  rw [c128_eq]
  exact_mod_cast (by norm_num : (0 : ℝ) < 128)

end Cert.Proof.Moe

end
-- ==== Proof.Norm.lean ====
/-
  The layer norm over the extended reals: the two spellings agree on every row, and the norm of any row is real where its
  scale and shift are; the activation's two spellings; the scores' and the softmax's values where they are real.
-/
module

public import proofs.«01_k».proof.Proof.Consts

@[expose] public section

noncomputable section

namespace Cert.Proof.Moe

open Idealize.ShloMosaic

/-- Neither infinity. -/
def Real' (x : EReal) : Prop := ∃ r : ℝ, x = (r : EReal)

theorem real_iff (x : EReal) : Real' x ↔ x ≠ ⊤ ∧ x ≠ ⊥ := by
  constructor
  · rintro ⟨r, rfl⟩; exact ⟨EReal.coe_ne_top _, EReal.coe_ne_bot _⟩
  · rintro ⟨h1, h2⟩; exact ⟨x.toReal, (EReal.coe_toReal h1 h2).symm⟩

theorem Real'.add {x y : EReal} (hx : Real' x) (hy : Real' y) : Real' (x + y) := by
  obtain ⟨a, rfl⟩ := hx; obtain ⟨b, rfl⟩ := hy; exact ⟨a + b, (EReal.coe_add a b).symm⟩
theorem Real'.mul {x y : EReal} (hx : Real' x) (hy : Real' y) : Real' (x * y) := by
  obtain ⟨a, rfl⟩ := hx; obtain ⟨b, rfl⟩ := hy; exact ⟨a * b, (EReal.coe_mul a b).symm⟩
theorem Real'.sub {x y : EReal} (hx : Real' x) (hy : Real' y) : Real' (x - y) := by
  obtain ⟨a, rfl⟩ := hx; obtain ⟨b, rfl⟩ := hy; exact ⟨a - b, (EReal.coe_sub a b).symm⟩
theorem real_sum {n : ℕ} (f : Fin n → EReal) (h : ∀ k, Real' (f k)) : Real' (∑ k, f k) := by
  choose g hg using h
  refine ⟨∑ k, g k, ?_⟩
  rw [Finset.sum_congr rfl fun k _ => hg k]
  exact (map_sum (⟨⟨Real.toEReal, EReal.coe_zero⟩, EReal.coe_add⟩ : ℝ →+ EReal) g Finset.univ).symm

/-- A square is not negative. -/
theorem sq_nonneg' (x : EReal) : 0 ≤ x * x := by
  rcases le_total 0 x with h | h
  · exact mul_nonneg h h
  · exact EReal.mul_nonneg_iff.2 (Or.inr ⟨h, h⟩)

theorem div128 (x : EReal) : Ideal.div x c128 = x * ((1 / 128 : ℝ) : EReal) := by
  rw [c128_eq, Ideal.div_coe (by norm_num)]

theorem sum_sq_nonneg (x : Fin 128 → EReal) : 0 ≤ ∑ k, dev x k * dev x k := Finset.sum_nonneg fun _ _ => sq_nonneg' _

/-- The variance is not negative, -/
theorem var_nonneg (x : Fin 128 → EReal) : 0 ≤ var x := by
  unfold var mean
  rw [div128]
  exact mul_nonneg (sum_sq_nonneg x) (by exact_mod_cast (by norm_num : (0 : ℝ) ≤ 1 / 128))

/-- so what the root is taken of is positive. -/
theorem var_pos (x : Fin 128 → EReal) : 0 < var x + cEps := by
  obtain ⟨ε, h, e⟩ := cEps_pos
  rw [e]
  have h' : (0 : EReal) < (ε : EReal) := by exact_mod_cast h
  calc (0 : EReal) < (ε : EReal) := h'
    _ = 0 + (ε : EReal) := (zero_add _).symm
    _ ≤ var x + (ε : EReal) := add_le_add (var_nonneg x) le_rfl

/-- A quotient by the root of a positive value is a product with its reciprocal root. -/
theorem div_sqrt (x v : EReal) (hv : 0 < v) : Ideal.div x (Ideal.sqrt v) = x * Ideal.rsqrt v := by
  induction v using EReal.rec with
  | bot => exact absurd hv (by simp)
  | top => simp [Ideal.div]
  | coe r =>
    have hr : 0 < r := by exact_mod_cast hv
    have hs : Real.sqrt r ≠ 0 := (Real.sqrt_pos.2 hr).ne'
    rw [Ideal.sqrt_coe, if_neg (not_lt.2 hr.le), Ideal.div_coe hs, Ideal.rsqrt_coe, if_neg (not_lt.2 hr.le), if_neg hr.ne', one_div]

/-- The norm of any row is real where its scale and shift are. -/
theorem norm_real (x g b : Fin 128 → EReal) (hg : ∀ k, Real' (g k)) (hb : ∀ k, Real' (b k)) (k : Fin 128) : Real' (norm x g b k) := by
  unfold norm
  refine Real'.add (Real'.mul ?_ (hg k)) (hb k)
  have hp := var_pos x
  by_cases ht : var x = ⊤
  · have : var x + cEps = ⊤ := by
      obtain ⟨ε, -, e⟩ := cEps_pos
      rw [ht, e, EReal.top_add_coe]
    rw [this, Ideal.rsqrt_top, mul_zero]
    exact ⟨0, rfl⟩
  · have hS : (∑ k, dev x k * dev x k) ≠ ⊤ := by
      intro h
      apply ht
      unfold var mean
      rw [div128, h]
      exact EReal.top_mul_coe_of_pos (by norm_num)
    have hk : dev x k * dev x k ≠ ⊤ := fun h => hS (top_le_iff.1 (h ▸
      Finset.single_le_sum (f := fun k => dev x k * dev x k) (fun i _ => sq_nonneg' _) (Finset.mem_univ k)))
    refine Real'.mul ((real_iff _).2 ⟨fun h => hk (by rw [h]; rfl), fun h => hk (by rw [h]; rfl)⟩) ?_
    have hv : Real' (var x + cEps) := by
      obtain ⟨ε, -, e⟩ := cEps_pos
      exact ((real_iff _).2 ⟨ht, fun h => absurd (var_nonneg x) (by rw [h]; simp)⟩).add ⟨ε, e⟩
    obtain ⟨r, hr⟩ := hv
    rw [hr] at hp ⊢
    have hr : 0 < r := by exact_mod_cast hp
    rw [Ideal.rsqrt_coe, if_neg (not_lt.2 hr.le), if_neg hr.ne']
    exact ⟨_, rfl⟩

/-- The scores over the temperature, by quotient, are the scores by product. -/
theorem div_half (x : EReal) : Ideal.div x cHalf = x * cTwo := by
  rw [cHalf_eq, Ideal.div_coe (by norm_num), cTwo_eq]
  norm_num

/-- The scores of a real row are real where the router's parameters are. -/
theorem score_real (h : Fin 128 → EReal) (rw : Fin 128 → Fin 8 → EReal) (rb : Fin 8 → EReal) (hh : ∀ k, Real' (h k))
    (hw : ∀ k e, Real' (rw k e)) (hb : ∀ e, Real' (rb e)) (e : Fin 8) : Real' (score h rw rb e) :=
  Real'.mul (Real'.add (real_sum _ fun k => (hh k).mul (hw k e)) (hb e)) ⟨2, cTwo_eq⟩

/-! ## The greatest of eight -/

theorem le_top' (s : Fin 8 → EReal) (e : Fin 8) : s e ≤ top s := (Finset.le_fold_max _).2 (Or.inr ⟨e, Finset.mem_univ e, le_rfl⟩)

theorem top_le' (s : Fin 8 → EReal) (c : EReal) (h : ∀ e, s e ≤ c) : top s ≤ c :=
  (Finset.fold_max_le _).2 ⟨by rw [cLow_eq]; exact bot_le, fun e _ => h e⟩

/-- It is one of the eight. -/
theorem top_mem (s : Fin 8 → EReal) : ∃ e, s e = top s := by
  rcases (Finset.le_fold_max (top s)).1 (le_refl (top s)) with h | ⟨e, -, h⟩
  · rw [cLow_eq] at h
    exact ⟨0, le_antisymm (le_top' s 0) (h.trans bot_le)⟩
  · exact ⟨e, le_antisymm (le_top' s e) h⟩

/-- The greater of the least value and the greatest of eight is the latter. -/
theorem max_low (x : EReal) : max cLow x = x := by rw [cLow_eq]; exact max_eq_right bot_le

/-- The softmax of real scores: positive reals. -/
theorem soft_real (s : Fin 8 → EReal) (hs : ∀ e, Real' (s e)) : ∃ p : Fin 8 → ℝ, (∀ e, 0 < p e) ∧ ∀ e, soft s e = (p e : EReal) := by
  obtain ⟨e0, h0⟩ := top_mem s
  choose q hq using hs
  have hexp : ∀ e, expo s e = ((Real.exp (q e - q e0) : ℝ) : EReal) := fun e => by
    unfold expo
    rw [← h0, hq e, hq e0, ← EReal.coe_sub, Ideal.exp_coe]
  have hsum : (∑ e, expo s e) = ((∑ e, Real.exp (q e - q e0) : ℝ) : EReal) := by
    rw [Finset.sum_congr rfl fun e _ => hexp e]
    exact (map_sum (⟨⟨Real.toEReal, EReal.coe_zero⟩, EReal.coe_add⟩ : ℝ →+ EReal) (fun e => Real.exp (q e - q e0)) Finset.univ).symm
  have hpos : 0 < ∑ e, Real.exp (q e - q e0) := Finset.sum_pos (fun e _ => Real.exp_pos _) ⟨0, Finset.mem_univ 0⟩
  refine ⟨fun e => Real.exp (q e - q e0) * (1 / ∑ e, Real.exp (q e - q e0)), fun e => mul_pos (Real.exp_pos _) (one_div_pos.2 hpos), fun e => ?_⟩
  unfold soft
  rw [hsum, Ideal.div_coe hpos.ne', hexp, ← EReal.coe_mul]

end Cert.Proof.Moe

end
-- ==== Proof.RealRouter.lean ====
/-
  What the value claim's precondition says: every id names a row of the table, and the first norm's scale and shift and the
  router's matrix and bias are real at every entry. The two frames under it.
-/
module

public import proofs.«01_k».proof.Proof.Frames
public import proofs.«01_k».proof.Proof.RefFrame
public import proofs.«01_k».proof.Proof.Norm

@[expose] public section

set_option maxRecDepth 16384

noncomputable section

namespace Cert.Proof.Moe

open Idealize.ShloMosaic Idealize.SL.Sem

/-- The shapes' relations the predicate's operations ask for. -/
instance realRouterFacts : Cert.Pre_real_router.Facts where
  bcast_S_S1x2048 := by decide
  reducesTo_S1x2048_S_d0_1 := by decide
  h_S_ := by decide
  bcast_S_S128 := by decide
  reducesTo_S128_S_d0 := by decide
  bcast_S_S128x8 := by decide
  reducesTo_S128x8_S_d0_1 := by decide
  bcast_S_S8 := by decide
  reducesTo_S8_S_d0 := by decide

theorem top_word : Ideal.ofBits .f32 0x7F800000#32 = ⊤ := by
  simp [Ideal.ofBits, Ideal.ieee, -EReal.coe_mul]

/-- A value whose magnitude is below infinity is real. -/
theorem real_of_abs (x : Ideal .f32)
    (h : FloatOps.cmpf (F := Ideal) (φ := .f32) .olt (FloatOps.hostAbsf (F := Ideal) (φ := .f32) x) (FloatOps.ofBits (F := Ideal) .f32 0x7F800000#32) = 1#1) :
    Real' x := by
  have h' : BitVec.ofBool (decide (max (x : EReal) (-x) < Ideal.ofBits .f32 0x7F800000#32)) = 1#1 := h
  rw [top_word] at h'
  have lt : max (x : EReal) (-x) < ⊤ := by
    by_contra n
    rw [decide_eq_false n] at h'
    exact absurd h' (by decide)
  refine (real_iff x).2 ⟨fun e => ?_, fun e => ?_⟩
  · exact absurd (lt_of_le_of_lt (le_max_left (x : EReal) (-x)) lt) (by rw [show (x : EReal) = ⊤ from e]; exact lt_irrefl _)
  · exact absurd (lt_of_le_of_lt (le_max_right (x : EReal) (-x)) lt) (by rw [show (x : EReal) = ⊥ from e, EReal.neg_bot]; exact lt_irrefl _)

section
variable (a0 : IVec Cert.Pre_real_router.S1x2048 32) (a1 : FVec Ideal Cert.Pre_real_router.S32000x128 .f32) (a2 : FVec Ideal Cert.Pre_real_router.S2048x128 .f32)
  (a3 a4 : FVec Ideal Cert.Pre_real_router.S128 .f32) (a5 : FVec Ideal Cert.Pre_real_router.S128x8 .f32) (a6 : FVec Ideal Cert.Pre_real_router.S8 .f32)
  (a7 : FVec Ideal Cert.Pre_real_router.S8x128x512 .f32) (a8 : FVec Ideal Cert.Pre_real_router.S8x512 .f32) (a9 : FVec Ideal Cert.Pre_real_router.S8x512x128 .f32)
  (a10 : FVec Ideal Cert.Pre_real_router.S8x128 .f32) (a11 a12 : FVec Ideal Cert.Pre_real_router.S128 .f32) (a13 : FVec Ideal Cert.Pre_real_router.S128x32000 .f32)
  (a14 : FVec Ideal Cert.Pre_real_router.S32000 .f32)

/-- The precondition, taken apart: ids in the table, four arrays real. -/
theorem real_router (h : Cert.Pre_real_router.fn a0 a1 a2 a3 a4 a5 a6 a7 a8 a9 a10 a11 a12 a13 a14 = fun _ => 1#1) :
    (∀ j, (a0 j).toNat < 32000) ∧ (∀ j, Real' (a3 j)) ∧ (∀ j, Real' (a4 j)) ∧ (∀ j, Real' (a5 j)) ∧ ∀ j, Real' (a6 j) := by
  obtain ⟨eIds, eR⟩ := and_one _ _ (congrFun h (fun a => Fin.elim0 a))
  obtain ⟨e0, e1⟩ := and_one _ _ eIds
  obtain ⟨e34, e56⟩ := and_one _ _ eR
  obtain ⟨e3, e4⟩ := and_one _ _ e34
  obtain ⟨e5, e6⟩ := and_one _ _ e56
  exact ⟨fun j => below _ (Host.reduce_andi_all _ _ _ _ _ e0 j) (Host.reduce_andi_all _ _ _ _ _ e1 j),
    fun j => real_of_abs _ (Host.reduce_andi_all _ _ _ _ _ e3 j), fun j => real_of_abs _ (Host.reduce_andi_all _ _ _ _ _ e4 j),
    fun j => real_of_abs _ (Host.reduce_andi_all _ _ _ _ _ e5 j), fun j => real_of_abs _ (Host.reduce_andi_all _ _ _ _ _ e6 j)⟩

end

/-- `KernelIdeal`'s frame under the value claim's precondition. -/
theorem frame_ideal_real : Cert.quiescent_KernelIdeal_pre_real_router := fun m ρ hp =>
  frame_any (F := Ideal) m ρ fun d j => (real_router _ _ _ _ _ _ _ _ _ _ _ _ _ _ _ (hp d)).1 j

/-- `ReferenceIdeal`'s. -/
theorem frame_reference_real : Cert.quiescent_ReferenceIdeal_pre_real_router := fun m ρ _ =>
  (θ_run Cert.ReferenceIdeal.defs _ _).mono (fun r h => ⟨fun c => (h c).2.2.2, sem_eq_zero_of_no_sems rfl r.2⟩)
    (Cert.ReferenceIdeal.Value.run m ρ)

end Cert.Proof.Moe

end
-- ==== Proof.Operands.lean ====
/-
  The region's operands at an entry: each is the part of an array that its window's block covers.
-/
module

public import Idealize.ShloMosaic.Lib.Pipeline.ValueKit
public import Idealize.ShloMosaic.Lib.Pointwise
public import proofs.«01_k».proof.Proof.Vals

@[expose] public section

set_option maxRecDepth 16384

noncomputable section

namespace Cert.Proof.Moe

open Cert.KernelIdeal Cert.KernelIdeal.Gen
open Idealize.ShloMosaic Idealize.ShloMosaic.TcCoe

/-! The windows' blocks: their indices on the windows' arrays. -/

theorem idx01 : (cfg1.win 0).index pt0 = ![0, 0] ∧ (cfg1.win 1).index pt0 = ![1, 0] ∧ (cfg1.win 2).index pt0 = ![0, 0] ∧ (cfg1.win 3).index pt0 = ![1, 0] := by
  decide +kernel
theorem idxWhole : (cfg1.win 4).index pt0 = ![0] ∧ (cfg1.win 5).index pt0 = ![0] ∧ (cfg1.win 6).index pt0 = ![0, 0] ∧ (cfg1.win 7).index pt0 = ![0]
    ∧ (cfg1.win 8).index pt0 = ![0, 0, 0] ∧ (cfg1.win 9).index pt0 = ![0, 0] ∧ (cfg1.win 10).index pt0 = ![0, 0, 0] ∧ (cfg1.win 11).index pt0 = ![0, 0]
    ∧ (cfg1.win 12).index pt0 = ![0] ∧ (cfg1.win 13).index pt0 = ![0] := by
  decide +kernel
theorem idx14 : ∀ v : Fin 10, (cfg1.win 14).index (ptv v) = ![0, v.val] := by decide +kernel
theorem idx15 : ∀ t : Fin cfg1.N, (cfg1.win 15).index t = ![0, t.val % 10] := by decide +kernel
theorem idx16 : ∀ t : Fin cfg1.N, (cfg1.win 16).index t = ![t.val / 10, t.val % 10] := by decide +kernel
theorem idx17 : ∀ t : Fin cfg1.N, (cfg1.win 17).index t = ![t.val / 10, 0] := by decide +kernel
theorem idx18 : ∀ t : Fin cfg1.N, (cfg1.win 18).index t = ![t.val / 10, 0] := by decide +kernel

variable (V : Entry Ideal) (c : Dev nD)

/-- Row `i` of row block `r`. -/
def rowAt (r : Fin 2) (i : Fin 1024) : Fin 2048 := ⟨1024 * r.val + i.val, by omega⟩
/-- Column `j` of column block `v`. -/
def colAt (v : Fin 10) (j : Fin 3200) : Fin 32000 := ⟨3200 * v.val + j.val, by omega⟩

theorem tokIn_at (r : Fin 2) (i : Fin 1024) (k : Fin 128) :
    tokIn V c r (ix2 i k) = (V c main_v1 : FVec Ideal S2048x128 .f32) (ix2 (rowAt r i) k) := by
  fin_cases r
  · show blkAt V c 0 pt0 (ix2 i k) = _
    blk_ext [blkAt, rowAt, idx01.1]
  · show blkAt V c 1 pt0 (ix2 i k) = _
    blk_ext [blkAt, rowAt, idx01.2.1]

theorem posIn_at (r : Fin 2) (i : Fin 1024) (k : Fin 128) :
    posIn V c r (ix2 i k) = (V c main_arg2 : FVec Ideal S2048x128 .f32) (ix2 (rowAt r i) k) := by
  fin_cases r
  · show blkAt V c 2 pt0 (ix2 i k) = _
    blk_ext [blkAt, rowAt, idx01.2.2.1]
  · show blkAt V c 3 pt0 (ix2 i k) = _
    blk_ext [blkAt, rowAt, idx01.2.2.2]

theorem gIn_at (k : Fin 128) : gIn V c (ix1 k) = (V c main_arg3 : FVec Ideal S128 .f32) (ix1 k) := by
  blk_ext [gIn, blkAt, idxWhole.1]
theorem bIn_at (k : Fin 128) : bIn V c (ix1 k) = (V c main_arg4 : FVec Ideal S128 .f32) (ix1 k) := by
  blk_ext [bIn, blkAt, idxWhole.2.1]
theorem rwIn_at (k : Fin 128) (e : Fin 8) : rwIn V c (ix2 k e) = (V c main_arg5 : FVec Ideal S128x8 .f32) (ix2 k e) := by
  blk_ext [rwIn, blkAt, idxWhole.2.2.1]
theorem rbIn_at (e : Fin 8) : rbIn V c (ix1 e) = (V c main_arg6 : FVec Ideal S8 .f32) (ix1 e) := by
  blk_ext [rbIn, blkAt, idxWhole.2.2.2.1]
theorem w1In_at (e : Fin 8) (k : Fin 128) (f : Fin 512) : w1In V c (ix3 e k f) = (V c main_arg7 : FVec Ideal S8x128x512 .f32) (ix3 e k f) := by
  blk_ext [w1In, blkAt, idxWhole.2.2.2.2.1]
theorem b1In_at (e : Fin 8) (f : Fin 512) : b1In V c (ix2 e f) = (V c main_arg8 : FVec Ideal S8x512 .f32) (ix2 e f) := by
  blk_ext [b1In, blkAt, idxWhole.2.2.2.2.2.1]
theorem w2In_at (e : Fin 8) (f : Fin 512) (d : Fin 128) : w2In V c (ix3 e f d) = (V c main_arg9 : FVec Ideal S8x512x128 .f32) (ix3 e f d) := by
  blk_ext [w2In, blkAt, idxWhole.2.2.2.2.2.2.1]
theorem b2In_at (e : Fin 8) (d : Fin 128) : b2In V c (ix2 e d) = (V c main_arg10 : FVec Ideal S8x128 .f32) (ix2 e d) := by
  blk_ext [b2In, blkAt, idxWhole.2.2.2.2.2.2.2.1]
theorem gOut_at (k : Fin 128) : gOut V c (ix1 k) = (V c main_arg11 : FVec Ideal S128 .f32) (ix1 k) := by
  blk_ext [gOut, blkAt, idxWhole.2.2.2.2.2.2.2.2.1]
theorem bOut_at (k : Fin 128) : bOut V c (ix1 k) = (V c main_arg12 : FVec Ideal S128 .f32) (ix1 k) := by
  blk_ext [bOut, blkAt, idxWhole.2.2.2.2.2.2.2.2.2]

theorem pwIn_at (v : Fin 10) (k : Fin 128) (j : Fin 3200) : pwIn V c v (ix2 k j) = (V c main_arg13 : FVec Ideal S128x32000 .f32) (ix2 k (colAt v j)) := by
  show blkAt V c 14 (ptv v) (ix2 k j) = _
  blk_ext [blkAt, colAt, idx14 v]

theorem pbIn_at (t : Fin cfg1.N) (j : Fin 3200) : pbIn V c t (ix2 0 j) = (V c main_v2 : FVec Ideal S1x32000 .f32) (ix2 0 (colAt (colOf t) j)) := by
  blk_ext [pbIn, blkAt, colAt, colOf, idx15 t]

end Cert.Proof.Moe

end
-- ==== Proof.KRow.lean ====
/-
  The kernel's functions of a block of rows, read at an entry: each is the row function of Spec.lean of its row.
-/
module

public import Idealize.ShloMosaic.Lib.Pointwise
public import proofs.«01_k».proof.Proof.Rows
public import proofs.«01_k».proof.Proof.Spec

@[expose] public section

set_option maxRecDepth 16384

noncomputable section

namespace Cert.Proof.Moe

open Cert.KernelIdeal Cert.KernelIdeal.Gen
open Idealize.ShloMosaic Idealize.ShloMosaic.TcCoe

/-- The layer norm of a block, at an entry. -/
theorem lnorm_at (x : FVec Ideal S1024x128 .f32) (g b : Vec Ideal S128 .f32) (r : Fin 1024) (k : Fin 128) :
    lnorm x g b (ix2 r k) = norm (fun k => x (ix2 r k)) (fun k => g (ix1 k)) (fun k => b (ix1 k)) k := by
  unfold norm var dev mean
  pointwise [lnorm, centred, rowMean]

/-- The scores, at an entry. -/
theorem scores_at (h : FVec Ideal S1024x128 .f32) (rw : Vec Ideal S128x8 .f32) (rb : Vec Ideal S8 .f32) (r : Fin 1024) (e : Fin 8) :
    scores h rw rb (ix2 r e) = score (fun k => h (ix2 r k)) (fun k e => rw (ix2 k e)) (fun e => rb (ix1 e)) e := by
  unfold score
  pointwise [scores]

/-- A row's greatest. -/
theorem rowMax_at (s : FVec Ideal S1024x8 .f32) (r : Fin 1024) : rowMax s (ix2 r 0) = top fun e => s (ix2 r e) := by
  unfold top
  pointwise [rowMax]

/-- The softmax, at an entry. -/
theorem weights_at (s : FVec Ideal S1024x8 .f32) (r : Fin 1024) (e : Fin 8) :
    weights s (ix2 r e) = soft (fun e => s (ix2 r e)) e := by
  unfold soft expo
  pointwise [weights, exps, rowMax_at]

/-- The first pick of a row. -/
theorem firstMax_at (w : FVec Ideal S1024x8 .f32) (r : Fin 1024) : firstMax w (ix2 r 0) = firstOf fun e => w (ix2 r e) := by
  unfold firstOf
  pointwise [firstMax, rowMax_at]

/-- The weights less the first pick's. -/
theorem struck_at (w : FVec Ideal S1024x8 .f32) (r : Fin 1024) (e : Fin 8) :
    struck w (ix2 r e) = strike (fun e => w (ix2 r e)) (firstOf fun e => w (ix2 r e)) e := by
  unfold strike
  pointwise [struck, firstMax_at]
  by_cases h : BitVec.ofNat 32 e.val = firstOf fun e => w (ix2 r e)
  · rw [if_pos h, IntOp.cmpi_eq.2 h]; rfl
  · rw [if_neg h]; exact if_neg (fun h' => h (IntOp.cmpi_eq.1 h'))

/-- The two picks of a row. -/
theorem picks_0 (w : FVec Ideal S1024x8 .f32) (r : Fin 1024) : picks w (ix2 r 0) = firstOf fun e => w (ix2 r e) := by
  pointwise [picks, firstMax_at]
theorem picks_1 (w : FVec Ideal S1024x8 .f32) (r : Fin 1024) :
    picks w (ix2 r 1) = firstOf (strike (fun e => w (ix2 r e)) (firstOf fun e => w (ix2 r e))) := by
  pointwise [picks, firstMax_at, struck_at]

/-- Half of an expert's output, at an entry. -/
theorem half_at (hb : FVec Ideal S1024x128 .bf16) (w1 : Vec Ideal S1x128x256 .f32) (b1 : Vec Ideal S1x256 .f32) (w2 : Vec Ideal S1x256x128 .f32)
    (r : Fin 1024) (d : Fin 128) :
    halfOut hb w1 b1 w2 (ix2 r d)
      = ∑ f : Fin 256, gelu (unit (fun k => hb (ix2 r k)) (fun k => w1 (ix3 0 k f)) (b1 (ix2 0 f))) * w2 (ix3 0 f d) := by
  unfold gelu unit
  pointwise [halfOut, act, preact]

theorem biased_at (o : FVec Ideal S1024x128 .f32) (b2 : Vec Ideal S1x128 .f32) (r : Fin 1024) (d : Fin 128) :
    biased o b2 (ix2 r d) = o (ix2 r d) + b2 (ix2 0 d) := by
  pointwise [biased]

theorem weightOf_at (e : Fin 8) (w : FVec Ideal S1024x8 .f32) (r : Fin 1024) (d : Fin 128) :
    weightOf e w (ix2 r d) = w (ix2 r e) := by
  fin_cases e <;> pointwise [weightOf]

theorem project_at (h2 : FVec Ideal S1024x128 .bf16) (pw : FVec Ideal S128x3200 .bf16) (pb : Vec Ideal S1x3200 .f32) (r : Fin 1024) (v : Fin 3200) :
    project h2 pw pb (ix2 r v) = ∑ k, h2 (ix2 r k) * pw (ix2 k v) + pb (ix2 0 v) := by
  pointwise [project]

end Cert.Proof.Moe

end
-- ==== Proof.Net.lean ====
/-
  The whole computation over the extended reals, a row at a time: what each of the two programs is shown to leave.
-/
module

public import proofs.«01_k».proof.Proof.Spec

@[expose] public section

noncomputable section

namespace Cert.Proof.Moe

open Idealize.ShloMosaic

/-- The embedded rows and the layer's parameters. -/
structure Net where
  /-- The rows the first norm is taken of. -/
  row : Fin 2048 → Fin 128 → EReal
  /-- The first norm's scale and shift. -/
  g : Fin 128 → EReal
  b : Fin 128 → EReal
  /-- The router's weights and bias. -/
  rw : Fin 128 → Fin 8 → EReal
  rb : Fin 8 → EReal
  /-- The experts' weights and biases. -/
  w1 : Fin 8 → Fin 128 → Fin 512 → EReal
  b1 : Fin 8 → Fin 512 → EReal
  w2 : Fin 8 → Fin 512 → Fin 128 → EReal
  b2 : Fin 8 → Fin 128 → EReal
  /-- The last norm's scale and shift. -/
  go : Fin 128 → EReal
  bo : Fin 128 → EReal
  /-- The projection's weights and bias. -/
  pw : Fin 128 → Fin 32000 → EReal
  pb : Fin 32000 → EReal

namespace Net

variable (N : Net) (r : Fin 2048)

/-- A row after the first norm. -/
def hid : Fin 128 → EReal := norm (N.row r) N.g N.b
/-- The router's weights of it. -/
def wts : Fin 8 → EReal := soft (score (N.hid r) N.rw N.rb)
/-- An expert's output on it. -/
def out (e : Fin 8) (d : Fin 128) : EReal := expert (N.hid r) (N.w1 e) (N.b1 e) (fun f => N.w2 e f d) (N.b2 e d)
/-- The experts' weighted sum. -/
def mix (d : Fin 128) : EReal := ∑ e, N.wts r e * N.out r e d
/-- The logits. -/
def logit (v : Fin 32000) : EReal := ∑ k, norm (N.mix r) N.go N.bo k * N.pw k v + N.pb v

end Net

/-- The computation on arrays: ids past the table are counted round it. -/
def netOf (ids : IVec ⟨2, ![1, 2048]⟩ 32) (tab : FVec Ideal ⟨2, ![32000, 128]⟩ .f32) (pos : FVec Ideal ⟨2, ![2048, 128]⟩ .f32)
    (g b : FVec Ideal ⟨1, ![128]⟩ .f32) (rw : FVec Ideal ⟨2, ![128, 8]⟩ .f32) (rb : FVec Ideal ⟨1, ![8]⟩ .f32)
    (w1 : FVec Ideal ⟨3, ![8, 128, 512]⟩ .f32) (b1 : FVec Ideal ⟨2, ![8, 512]⟩ .f32) (w2 : FVec Ideal ⟨3, ![8, 512, 128]⟩ .f32)
    (b2 : FVec Ideal ⟨2, ![8, 128]⟩ .f32) (go bo : FVec Ideal ⟨1, ![128]⟩ .f32) (pw : FVec Ideal ⟨2, ![128, 32000]⟩ .f32)
    (pb : FVec Ideal ⟨1, ![32000]⟩ .f32) : Net where
  row r k := tab (ix2 ⟨(ids (ix2 0 r)).toNat % 32000, Nat.mod_lt _ (by decide)⟩ k) + pos (ix2 r k)
  g k := g (ix1 k)
  b k := b (ix1 k)
  rw k e := rw (ix2 k e)
  rb e := rb (ix1 e)
  w1 e k f := w1 (ix3 e k f)
  b1 e f := b1 (ix2 e f)
  w2 e f d := w2 (ix3 e f d)
  b2 e d := b2 (ix2 e d)
  go k := go (ix1 k)
  bo k := bo (ix1 k)
  pw k v := pw (ix2 k v)
  pb v := pb (ix1 v)

end Cert.Proof.Moe

end
-- ==== Proof.KNet.lean ====
/-
  The region's values at an entry: those of the computation of Net.lean on the arrays the region is entered at.
-/
module

public import proofs.«01_k».proof.Proof.Operands
public import proofs.«01_k».proof.Proof.KRow
public import proofs.«01_k».proof.Proof.Norm
public import proofs.«01_k».proof.Proof.Net

@[expose] public section

set_option maxRecDepth 16384

noncomputable section

namespace Cert.Proof.Moe

open Cert.KernelIdeal Cert.KernelIdeal.Gen
open Idealize.ShloMosaic Idealize.ShloMosaic.TcCoe

/-- A router's weights are positive reals where the norm's and the router's parameters are real. -/
theorem Net.wts_real (N : Net) (hg : ∀ k, Real' (N.g k)) (hb : ∀ k, Real' (N.b k)) (hw : ∀ k e, Real' (N.rw k e)) (hr : ∀ e, Real' (N.rb e))
    (r : Fin 2048) : ∃ p : Fin 8 → ℝ, (∀ e, 0 < p e) ∧ ∀ e, N.wts r e = (p e : EReal) :=
  soft_real _ fun e => score_real _ _ _ (fun k => norm_real _ _ _ hg hb k) hw hr e

/-! ## One expert, in two halves -/

/-- Place `f` of half `k` of an expert's hidden units. -/
def unitAt (k : Fin 2) (f : Fin 256) : Fin 512 := ⟨256 * k.val + f.val, by omega⟩

theorem part_w1 (x : Vec Ideal S8x128x512 .f32) (e : Fin 8) (k : Fin 2) (i : Fin 128) (f : Fin 256) :
    part x (w1At e k) (ix3 0 i f) = x (ix3 e i (unitAt k f)) := by
  refine congrArg x (funext fun a => Fin.ext ?_)
  fin_cases a <;> simp [w1At, unitAt]
theorem part_b1 (x : Vec Ideal S8x512 .f32) (e : Fin 8) (k : Fin 2) (f : Fin 256) : part x (b1At e k) (ix2 0 f) = x (ix2 e (unitAt k f)) := by
  refine congrArg x (funext fun a => Fin.ext ?_)
  fin_cases a <;> simp [b1At, unitAt]
theorem part_w2 (x : Vec Ideal S8x512x128 .f32) (e : Fin 8) (k : Fin 2) (f : Fin 256) (d : Fin 128) :
    part x (w2At e k) (ix3 0 f d) = x (ix3 e (unitAt k f) d) := by
  refine congrArg x (funext fun a => Fin.ext ?_)
  fin_cases a <;> simp [w2At, unitAt]
theorem part_b2 (x : Vec Ideal S8x128 .f32) (e : Fin 8) (d : Fin 128) : part x (b2At e) (ix2 0 d) = x (ix2 e d) := by
  refine congrArg x (funext fun a => Fin.ext ?_)
  fin_cases a <;> simp [b2At]

/-- A sum over an expert's hidden units is the sum of its two halves. -/
theorem sum_halves (f : Fin 512 → EReal) : ∑ i, f i = ∑ i, f (unitAt 0 i) + ∑ i, f (unitAt 1 i) :=
  (Fin.sum_univ_add (a := 256) (b := 256) f).trans
    (congrArg₂ (· + ·) (Finset.sum_congr rfl fun i _ => congrArg f (Fin.ext (by simp [unitAt])))
      (Finset.sum_congr rfl fun i _ => congrArg f (Fin.ext (by simp [unitAt, add_comm]))))

/-- A half of an expert at an entry. -/
theorem half_entry (X : Experts Ideal) (hb : FVec Ideal S1024x128 .bf16) (e : Fin 8) (k : Fin 2) (i : Fin 1024) (d : Fin 128) :
    X.half hb e k (ix2 i d) = ∑ f : Fin 256, gelu (unit (fun k => hb (ix2 i k)) (fun i => X.w1 (ix3 e i (unitAt k f))) (X.b1 (ix2 e (unitAt k f))))
      * X.w2 (ix3 e (unitAt k f) d) := by
  refine (half_at hb (part X.w1 (w1At e k)) (part X.b1 (b1At e k)) (part X.w2 (w2At e k)) i d).trans (Finset.sum_congr rfl fun f _ => ?_)
  refine congrArg₂ (· * ·) (congrArg gelu (congrArg₂ (unit _) (funext fun i => ?_) ?_)) ?_
  · exact part_w1 X.w1 e k i f
  · exact part_b1 X.b1 e k f
  · exact part_w2 X.w2 e k f d

/-- The experts' running sum at an entry, the row's weights positive reals: the weighted sum of the experts' outputs. -/
theorem sum_at (X : Experts Ideal) (hb : FVec Ideal S1024x128 .bf16) (w : FVec Ideal S1024x8 .f32) (i : Fin 1024) (d : Fin 128)
    (p : Fin 8 → ℝ) (hp : ∀ e, 0 < p e) (hw : ∀ e, w (ix2 i e) = (p e : EReal)) : ∀ (n : ℕ) (hn : n ≤ 8),
    X.sum hb w n hn (ix2 i d) = ∑ e : Fin n, w (ix2 i (e.castLE hn))
      * expert (fun k => hb (ix2 i k)) (fun k f => X.w1 (ix3 (e.castLE hn) k f)) (fun f => X.b1 (ix2 (e.castLE hn) f))
          (fun f => X.w2 (ix3 (e.castLE hn) f d)) (X.b2 (ix2 (e.castLE hn) d))
  | 0, _ => by
    unfold Experts.sum
    pointwise
    exact (Finset.sum_empty).symm
  | n + 1, hn => by
    rw [Fin.sum_univ_castSucc]
    have ih := sum_at X hb w i d p hp hw n (by omega)
    have e1 : X.sum hb w (n + 1) hn (ix2 i d)
        = X.sum hb w n (by omega) (ix2 i d) + w (ix2 i ⟨n, hn⟩) * (X.half hb ⟨n, hn⟩ 0 (ix2 i d) + X.b2 (ix2 ⟨n, hn⟩ d))
          + w (ix2 i ⟨n, hn⟩) * X.half hb ⟨n, hn⟩ 1 (ix2 i d) := by
      show X.sum hb w n _ (ix2 i d) + weightOf ⟨n, hn⟩ w (ix2 i d) * biased (X.half hb ⟨n, hn⟩ 0) (part X.b2 (b2At ⟨n, hn⟩)) (ix2 i d)
          + weightOf ⟨n, hn⟩ w (ix2 i d) * X.half hb ⟨n, hn⟩ 1 (ix2 i d) = _
      have hb2 : biased (X.half hb ⟨n, hn⟩ 0) (part X.b2 (b2At ⟨n, hn⟩)) (ix2 i d) = X.half hb ⟨n, hn⟩ 0 (ix2 i d) + X.b2 (ix2 ⟨n, hn⟩ d) :=
        (biased_at _ _ i d).trans (congrArg (X.half hb ⟨n, hn⟩ 0 (ix2 i d) + ·) (part_b2 X.b2 ⟨n, hn⟩ d))
      rw [weightOf_at]
      exact congrArg (fun y => X.sum hb w n _ (ix2 i d) + w (ix2 i ⟨n, hn⟩) * y + w (ix2 i ⟨n, hn⟩) * X.half hb ⟨n, hn⟩ 1 (ix2 i d)) hb2
    rw [e1, ih, add_assoc]
    refine congrArg₂ (· + ·) rfl ?_
    show _ = w (ix2 i ⟨n, hn⟩) * expert (fun k => hb (ix2 i k)) (fun k f => X.w1 (ix3 ⟨n, hn⟩ k f)) (fun f => X.b1 (ix2 ⟨n, hn⟩ f))
          (fun f => X.w2 (ix3 ⟨n, hn⟩ f d)) (X.b2 (ix2 ⟨n, hn⟩ d))
    have h0 : (0 : EReal) ≤ w (ix2 i ⟨n, hn⟩) := by rw [hw]; exact_mod_cast (hp _).le
    have ht : w (ix2 i ⟨n, hn⟩) ≠ ⊤ := by rw [hw]; exact EReal.coe_ne_top _
    rw [← EReal.left_distrib_of_nonneg_of_ne_top h0 ht]
    congr 1
    unfold expert
    rw [half_entry, half_entry, sum_halves, add_right_comm]

/-- Both picks of a row. -/
theorem picks_at (w : FVec Ideal S1024x8 .f32) (i : Fin 1024) (j : Fin 2) :
    picks w (ix2 i j) = (![firstOf fun e => w (ix2 i e),
      firstOf (strike (fun e => w (ix2 i e)) (firstOf fun e => w (ix2 i e)))] : Fin 2 → BitVec 32) j := by
  have h : j = 0 ∨ j = 1 := by omega
  rcases h with rfl | rfl
  · rw [picks_0, Matrix.cons_val_zero]
  · rw [picks_1, Matrix.cons_val_one, Matrix.cons_val_fin_one]

/-! ## The region's values -/

variable (V : Entry Ideal) (c : Dev nD)

/-- The sum of two arrays' rows. -/
def rowSum (a b : FVec Ideal S2048x128 .f32) (r : Fin 2048) (k : Fin 128) : EReal := a (ix2 r k) + b (ix2 r k)

/-- The computation on the arrays the region is entered at. -/
def kNet : Net where
  row := rowSum (V c main_v1) (V c main_arg2)
  g k := (V c main_arg3 : FVec Ideal S128 .f32) (ix1 k)
  b k := (V c main_arg4 : FVec Ideal S128 .f32) (ix1 k)
  rw k e := (V c main_arg5 : FVec Ideal S128x8 .f32) (ix2 k e)
  rb e := (V c main_arg6 : FVec Ideal S8 .f32) (ix1 e)
  w1 e k f := (V c main_arg7 : FVec Ideal S8x128x512 .f32) (ix3 e k f)
  b1 e f := (V c main_arg8 : FVec Ideal S8x512 .f32) (ix2 e f)
  w2 e f d := (V c main_arg9 : FVec Ideal S8x512x128 .f32) (ix3 e f d)
  b2 e d := (V c main_arg10 : FVec Ideal S8x128 .f32) (ix2 e d)
  go k := (V c main_arg11 : FVec Ideal S128 .f32) (ix1 k)
  bo k := (V c main_arg12 : FVec Ideal S128 .f32) (ix1 k)
  pw k v := (V c main_arg13 : FVec Ideal S128x32000 .f32) (ix2 k v)
  pb v := (V c main_v2 : FVec Ideal S1x32000 .f32) (ix2 0 v)

theorem hid_at (r : Fin 2) (i : Fin 1024) (k : Fin 128) : hid V c r (ix2 i k) = (kNet V c).hid (rowAt r i) k := by
  unfold hid hidden
  rw [lnorm_at]
  have e : ∀ k, addf (shapeCast S1024x128 (tokIn V c r) shapeCasts_S1024x128_S1024x128) (posIn V c r) (ix2 i k) = tokIn V c r (ix2 i k) + posIn V c r (ix2 i k) := by
    intro k; pointwise
  simp only [e, tokIn_at, posIn_at, gIn_at, bIn_at]
  rfl

theorem wts_at (r : Fin 2) (i : Fin 1024) (e : Fin 8) : wts V c r (ix2 i e) = (kNet V c).wts (rowAt r i) e := by
  unfold wts
  rw [weights_at]
  simp only [scores_at, hid_at, rwIn_at, rbIn_at]
  rfl

/-- The selected experts: the first place of the greatest weight, and that of the rest's. -/
theorem sel_at (r : Fin 2) (i : Fin 1024) (j : Fin 2) :
    sel V c r (ix2 i j) = (![firstOf ((kNet V c).wts (rowAt r i)),
      firstOf (strike ((kNet V c).wts (rowAt r i)) (firstOf ((kNet V c).wts (rowAt r i))))] : Fin 2 → BitVec 32) j := by
  have e : (fun e => wts V c r (ix2 i e)) = (kNet V c).wts (rowAt r i) := funext fun e => wts_at V c r i e
  unfold sel
  rw [← e]
  exact picks_at _ i j

variable (hN : ∀ r, ∃ p : Fin 8 → ℝ, (∀ e, 0 < p e) ∧ ∀ e, (kNet V c).wts r e = (p e : EReal))
include hN

theorem mix_at (r : Fin 2) (i : Fin 1024) (d : Fin 128) : mix V c r 8 le_rfl (ix2 i d) = (kNet V c).mix (rowAt r i) d := by
  obtain ⟨p, hp, hw⟩ := hN (rowAt r i)
  unfold mix
  rw [sum_at _ _ _ i d p hp fun e => (wts_at V c r i e).trans (hw e)]
  unfold Net.mix
  refine Finset.sum_congr rfl fun e _ => ?_
  show wts V c r (ix2 i e) * expert (fun k => hid V c r (ix2 i k)) (fun k f => w1In V c (ix3 e k f)) (fun f => b1In V c (ix2 e f))
    (fun f => w2In V c (ix3 e f d)) (b2In V c (ix2 e d)) = _
  simp only [wts_at, hid_at, w1In_at, b1In_at, w2In_at, b2In_at]
  rfl

/-- The logits stored at a point. -/
theorem logit_at (t : Fin cfg1.N) (i : Fin 1024) (j : Fin 3200) :
    logit V c t (ix2 i j) = (kNet V c).logit (rowAt (rowOf t) i) (colAt (colOf t) j) := by
  unfold logit
  rw [project_at]
  have e : ∀ k, outN V c (rowOf t) (ix2 i k) = lnorm (mix V c (rowOf t) 8 le_rfl) (gOut V c) (bOut V c) (ix2 i k) := fun k => rfl
  simp only [e, lnorm_at, mix_at V c hN, gOut_at, bOut_at, pwIn_at, pbIn_at]
  rfl

end Cert.Proof.Moe

end
-- ==== Proof.Final.lean ====
/-
  The region's three arrays at the end: the logits, the router's weights and the selected experts of every row.
-/
module

public import proofs.«01_k».proof.Proof.KNet
public import proofs.«01_k».proof.Proof.Region

@[expose] public section

set_option maxRecDepth 16384

noncomputable section

namespace Cert.Proof.Moe

open Cert.KernelIdeal Cert.KernelIdeal.Gen
open Idealize.ShloMosaic Idealize.ShloMosaic.TcCoe
open Idealize.ShloMosaic.Pipeline (Dat)

variable (X : Vals Ideal) (c : Dev nD)

/-- An index of a matrix by its two coordinates. -/
theorem at2 {a b : ℕ} (y : (⟨2, ![a, b]⟩ : Shape).Idx) : y = Idealize.ShloMosaic.ix2 (y 0) (y 1) := by
  funext i; fin_cases i <;> rfl

theorem row_block (t : Fin cfg1.N) : (rowOf t).val = t.val / 10 := by
  have h : t.val < 20 := t.isLt
  unfold rowOf
  split <;> simp <;> omega

/-- The router's weights after the run. -/
theorem finWts_eq : finWts X c = fun i : S2048x8.Idx => (kNet (ent X) c).wts (i 0) (i 1) := by
  refine (dat (ent X) c).arrAt_eq_of_covers 17 _ (by decide +kernel) fun t hf y => ?_
  have hx : (rowAt (rowOf t) (y 0)).val = 1024 * (t.val / 10) + (y 0).val := by rw [← row_block t]; rfl
  have e : wts (ent X) c (rowOf t) y = (kNet (ent X) c).wts (rowAt (rowOf t) (y 0)) (y 1) :=
    (congrArg (wts (ent X) c (rowOf t)) (at2 y)).trans (wts_at (ent X) c (rowOf t) (y 0) (y 1))
  blk_simp
  rw [after_17]
  refine e.trans (congrArg₂ (kNet (ent X) c).wts (Fin.ext ?_) (Fin.ext ?_))
  · refine hx.trans ?_
    blk_simp [idx17 t]
    omega
  · blk_simp [idx17 t]

/-- The two places a row's experts are selected at. -/
def Net.picks (N : Net) (r : Fin 2048) : Fin 2 → BitVec 32 := ![firstOf (N.wts r), firstOf (strike (N.wts r) (firstOf (N.wts r)))]

/-- The selected experts after the run. -/
theorem finSel_eq : finSel X c = fun i : S2048x2.Idx => (kNet (ent X) c).picks (i 0) (i 1) := by
  refine (dat (ent X) c).arrAt_eq_of_covers 18 _ (by decide +kernel) fun t hf y => ?_
  have hx : (rowAt (rowOf t) (y 0)).val = 1024 * (t.val / 10) + (y 0).val := by rw [← row_block t]; rfl
  have e : sel (ent X) c (rowOf t) y = (kNet (ent X) c).picks (rowAt (rowOf t) (y 0)) (y 1) :=
    (congrArg (sel (ent X) c (rowOf t)) (at2 y)).trans (sel_at (ent X) c (rowOf t) (y 0) (y 1))
  blk_simp
  rw [after_18]
  refine e.trans (congrArg₂ (kNet (ent X) c).picks (Fin.ext ?_) (Fin.ext ?_))
  · refine hx.trans ?_
    blk_simp [idx18 t]
    omega
  · blk_simp [idx18 t]

/-- The logits after the run, every row's weights positive reals. -/
theorem finLogits_eq (hN : ∀ r, ∃ p : Fin 8 → ℝ, (∀ e, 0 < p e) ∧ ∀ e, (kNet (ent X) c).wts r e = (p e : EReal)) :
    finLogits X c = fun i : S2048x32000.Idx => (kNet (ent X) c).logit (i 0) (i 1) := by
  refine (dat (ent X) c).arrAt_eq_of_covers 16 _ (by decide +kernel) fun t hf y => ?_
  have hx : (rowAt (rowOf t) (y 0)).val = 1024 * (t.val / 10) + (y 0).val := by rw [← row_block t]; rfl
  have hz : (colAt (colOf t) (y 1)).val = 3200 * (t.val % 10) + (y 1).val := rfl
  have e : logit (ent X) c t y = (kNet (ent X) c).logit (rowAt (rowOf t) (y 0)) (colAt (colOf t) (y 1)) :=
    (congrArg (logit (ent X) c t) (at2 y)).trans (logit_at (ent X) c hN t (y 0) (y 1))
  blk_simp
  rw [after_16]
  refine e.trans (congrArg₂ (kNet (ent X) c).logit (Fin.ext ?_) (Fin.ext ?_))
  · refine hx.trans ?_
    blk_simp [idx16 t]
    omega
  · refine hz.trans ?_
    blk_simp [idx16 t]
    omega

end Cert.Proof.Moe

end
-- ==== Proof.RRow.lean ====
/-
  The reference's operations, cut into functions of whole arrays, and read at an entry: each is a row function of
  Spec.lean, up to the spelling of the norm's quotient, the scores' and the variance's.
-/
module

public import Idealize.ShloMosaic.Lib.Pointwise
public import Idealize.ShloMosaic.Lib.KernelVsHost
public import proofs.«01_k».proof.Proof.Gen.ReferenceIdeal.Run
public import proofs.«01_k».proof.Proof.Norm

@[expose] public section

set_option maxRecDepth 16384

noncomputable section

namespace Cert.Proof.Moe.Ref

open Cert.ReferenceIdeal Cert.ReferenceIdeal.Gen
open Idealize.ShloMosaic Idealize.ShloMosaic.TcCoe

/-- The mean of every row, as a column. -/
def rowMean (x : FVec Ideal S1x2048x128 .f32) : FVec Ideal S1x2048x1 .f32 :=
  Host.divf (broadcastInDim S1x2048x1 ![0, 1] bcast_S1x2048_S1x2048x1_0_1 (Host.reduceAdd x (constant S_ .f32 0x00000000#32) reducesTo_S1x2048x128_S1x2048_d2 h_S_)) (broadcastInDim S1x2048x1 ![] bcast_S_S1x2048x1 (constant S_ .f32 0x43000000#32))

/-- The rows less their means. -/
def centred (x : FVec Ideal S1x2048x128 .f32) : FVec Ideal S1x2048x128 .f32 :=
  subf x (broadcastInDim S1x2048x128 ![0, 1, 2] bcast_S1x2048x1_S1x2048x128_0_1_2 (rowMean x))

/-- The divisor of the variance. -/
def count : FVec Ideal S_ .f32 := subf (constant S_ .f32 0x43000000#32) (sitofp .f32 (constantI S_ 32 0#32))

/-- The variance of every row, as a column. -/
def rowVar (x : FVec Ideal S1x2048x128 .f32) : FVec Ideal S1x2048x1 .f32 :=
  select (broadcastInDim S1x2048x1 ![] bcast_S_S1x2048x1 (cmpf .ogt count (constant S_ .f32 0x00000000#32))) (Host.divf (broadcastInDim S1x2048x1 ![0, 1] bcast_S1x2048_S1x2048x1_0_1 (Host.reduceAdd (mulf (centred x) (centred x)) (constant S_ .f32 0x00000000#32) reducesTo_S1x2048x128_S1x2048_d2 h_S_)) (broadcastInDim S1x2048x1 ![] bcast_S_S1x2048x1 count)) (broadcastInDim S1x2048x1 ![] bcast_S_S1x2048x1 (id (constant S_ .f32 0x7FC00000#32)))

/-- The layer norm. -/
def lnorm (x : FVec Ideal S1x2048x128 .f32) (g b : FVec Ideal S128 .f32) : FVec Ideal S1x2048x128 .f32 :=
  addf (mulf (Host.divf (centred x) (broadcastInDim S1x2048x128 ![0, 1, 2] bcast_S1x2048x1_S1x2048x128_0_1_2 (Host.sqrt (addf (rowVar x) (broadcastInDim S1x2048x1 ![] bcast_S_S1x2048x1 (constant S_ .f32 0x3727C5AC#32)))))) (broadcastInDim S1x2048x128 ![0, 1, 2] bcast_S1x1x128_S1x2048x128_0_1_2 (broadcastInDim S1x1x128 ![2] bcast_S128_S1x1x128_2 g))) (broadcastInDim S1x2048x128 ![0, 1, 2] bcast_S1x1x128_S1x2048x128_0_1_2 (broadcastInDim S1x1x128 ![2] bcast_S128_S1x1x128_2 b))

/-- The router's scores. -/
def scores (h : FVec Ideal S1x2048x128 .f32) (rw : FVec Ideal S128x8 .f32) (rb : FVec Ideal S8 .f32) : FVec Ideal S1x2048x8 .f32 :=
  Host.divf (addf (Host.dotGeneral dot_S1x2048x128_S128x8_S1x2048x8_2_0_01_1_n_n none h rw) (broadcastInDim S1x2048x8 ![0, 1, 2] bcast_S1x1x8_S1x2048x8_0_1_2 (broadcastInDim S1x1x8 ![2] bcast_S8_S1x1x8_2 rb))) (broadcastInDim S1x2048x8 ![] bcast_S_S1x2048x8 (constant S_ .f32 0x3F000000#32))

/-- Their exponentials, less the row's greatest. -/
def exps (s : FVec Ideal S1x2048x8 .f32) : FVec Ideal S1x2048x8 .f32 :=
  Host.exp (subf s (broadcastInDim S1x2048x8 ![0, 1, 2] bcast_S1x2048x1_S1x2048x8_0_1_2 (broadcastInDim S1x2048x1 ![0, 1] bcast_S1x2048_S1x2048x1_0_1 (maximumf (broadcastInDim S1x2048 ![] bcast_S_S1x2048 (constant S_ .f32 0xFF800000#32)) (Host.reduce FloatOps.maximumf s (constant S_ .f32 0xFF800000#32) reducesTo_S1x2048x8_S1x2048_d2 h_S_)))))

/-- The softmax. -/
def weights (s : FVec Ideal S1x2048x8 .f32) : FVec Ideal S1x2048x8 .f32 :=
  Host.divf (exps s) (broadcastInDim S1x2048x8 ![0, 1, 2] bcast_S1x2048x1_S1x2048x8_0_1_2 (broadcastInDim S1x2048x1 ![0, 1] bcast_S1x2048_S1x2048x1_0_1 (Host.reduceAdd (exps s) (constant S_ .f32 0x00000000#32) reducesTo_S1x2048x8_S1x2048_d2 h_S_)))

/-- The experts' hidden units before the activation. -/
def preact (h : FVec Ideal S1x2048x128 .f32) (w1 : FVec Ideal S8x128x512 .f32) (b1 : FVec Ideal S8x512 .f32) : FVec Ideal S1x2048x8x512 .f32 :=
  addf (Host.dotGeneral dot_S1x2048x128_S8x128x512_S1x2048x8x512_2_1_01_02_n_n none h w1) (broadcastInDim S1x2048x8x512 ![0, 1, 2, 3] bcast_S1x1x8x512_S1x2048x8x512_0_1_2_3 (broadcastInDim S1x1x8x512 ![2, 3] bcast_S8x512_S1x1x8x512_2_3 b1))

/-- The activation. -/
def act (p : FVec Ideal S1x2048x8x512 .f32) : FVec Ideal S1x2048x8x512 .f32 :=
  mulf p (mulf (broadcastInDim S1x2048x8x512 ![] bcast_S_S1x2048x8x512 (constant S_ .f32 0x3F000000#32)) (addf (broadcastInDim S1x2048x8x512 ![] bcast_S_S1x2048x8x512 (constant S_ .f32 0x3F800000#32)) (Host.tanh (mulf (broadcastInDim S1x2048x8x512 ![] bcast_S_S1x2048x8x512 (constant S_ .f32 0x3F4C422A#32)) (addf p (mulf (broadcastInDim S1x2048x8x512 ![] bcast_S_S1x2048x8x512 (constant S_ .f32 0x3D372713#32)) (mulf (mulf p p) p)))))))

/-- The experts' outputs. -/
def outs (a : FVec Ideal S1x2048x8x512 .f32) (w2 : FVec Ideal S8x512x128 .f32) (b2 : FVec Ideal S8x128 .f32) : FVec Ideal S1x2048x8x128 .f32 :=
  addf (transpose S1x2048x8x128 [2, 3, 0, 1] (Host.dotGeneral dot_S8x512x128_S1x2048x8x512_S8x128x1x2048_1_3_2_01_0_2 none w2 a) transposes_S8x128x1x2048_S1x2048x8x128_2_3_0_1) (broadcastInDim S1x2048x8x128 ![0, 1, 2, 3] bcast_S1x1x8x128_S1x2048x8x128_0_1_2_3 (broadcastInDim S1x1x8x128 ![2, 3] bcast_S8x128_S1x1x8x128_2_3 b2))

/-- Their weighted sum. -/
def mix (w : FVec Ideal S1x2048x8 .f32) (o : FVec Ideal S1x2048x8x128 .f32) : FVec Ideal S1x2048x128 .f32 :=
  Host.dotGeneral dot_S1x2048x8_S1x2048x8x128_S1x2048x128_2_2_n_3_01_01 none w o

/-- The projection. -/
def project (h : FVec Ideal S1x2048x128 .f32) (pw : FVec Ideal S128x32000 .f32) (pb : FVec Ideal S32000 .f32) : FVec Ideal S1x2048x32000 .f32 :=
  addf (Host.dotGeneral dot_S1x2048x128_S128x32000_S1x2048x32000_2_0_01_1_n_n none h pw) (broadcastInDim S1x2048x32000 ![0, 1, 2] bcast_S1x1x32000_S1x2048x32000_0_1_2 (broadcastInDim S1x1x32000 ![2] bcast_S32000_S1x1x32000_2 pb))

/-- The ids, those below zero counted from the table's end, as a column. -/
def wrapped (ids : IVec S1x2048 32) : IVec S1x2048x1 32 :=
  broadcastInDim S1x2048x1 ![0, 1] bcast_S1x2048_S1x2048x1_0_1 (select (cmpi .slt ids (broadcastInDim S1x2048 ![] bcast_S_S1x2048 (constantI S_ 32 0#32))) (addi ids (broadcastInDim S1x2048 ![] bcast_S_S1x2048 (constantI S_ 32 32000#32))) ids)

/-- The token rows: those of ids in the table gathered, the others not numbers. -/
def tokens (ids : IVec S1x2048x1 32) (tab : FVec Ideal S32000x128 .f32) : FVec Ideal S1x2048x128 .f32 :=
  select (broadcastInDim S1x2048x128 ![0, 1] bcast_S1x2048_S1x2048x128_0_1 (Host.reduce IntOp.andi (andi (cmpi .sge ids (broadcastInDim S1x2048x1 ![] bcast_S_S1x2048x1 (constantI S_ 32 0#32))) (cmpi .sle ids (broadcastInDim S1x2048x1 ![0, 1, 2] bcast_S1x1x1_S1x2048x1_0_1_2 (broadcastInDim S1x1x1 ![2] bcast_S1_S1x1x1_2 (constantI S1 32 31999#32))))) (constantI S_ 1 1#1) reducesTo_S1x2048x1_S1x2048_d2 h_S_)) (Host.gather gather_S32000x128_S1x2048x1_S1x2048x128_2_0_n_n_0_2_1128 tab ids) (broadcastInDim S1x2048x128 ![] bcast_S_S1x2048x128 (constant S_ .f32 0x7FC00000#32))

/-- The position rows, gathered at their own numbers. -/
def positions (pos : FVec Ideal S2048x128 .f32) : FVec Ideal S2048x128 .f32 :=
  Host.gather gather_S2048x128_S2048x1_S2048x128_1_0_n_n_0_1_1128 pos (broadcastInDim S2048x1 ![0] bcast_S2048_S2048x1_0 (select (cmpi .slt (iotaInDim S2048 32 0) (broadcastInDim S2048 ![] bcast_S_S2048 (constantI S_ 32 0#32))) (addi (iotaInDim S2048 32 0) (broadcastInDim S2048 ![] bcast_S_S2048 (constantI S_ 32 2048#32))) (iotaInDim S2048 32 0)))

/-- The rows the first norm is taken of. -/
def rows (ids : IVec S1x2048 32) (tab : FVec Ideal S32000x128 .f32) (pos : FVec Ideal S2048x128 .f32) : FVec Ideal S1x2048x128 .f32 :=
  addf (tokens (wrapped ids) tab) (broadcastInDim S1x2048x128 ![1, 2] bcast_S2048x128_S1x2048x128_1_2 (positions pos))

/-! ## At an entry -/

theorem count_at : count ix0 = c128 := by
  pointwise [count]
  show c128 - (Scalar.sitofp .f32 0#32 : Ideal .f32) = c128
  rw [sitofp_zero, sub_zero]

theorem rowMean_at (x : FVec Ideal S1x2048x128 .f32) (r : Fin 2048) : rowMean x (ix3 0 r 0) = mean fun k => x (ix3 0 r k) := by
  unfold mean
  pointwise [rowMean]

theorem centred_at (x : FVec Ideal S1x2048x128 .f32) (r : Fin 2048) (k : Fin 128) : centred x (ix3 0 r k) = dev (fun k => x (ix3 0 r k)) k := by
  unfold dev
  pointwise [centred, rowMean_at]

theorem rowVar_at (x : FVec Ideal S1x2048x128 .f32) (r : Fin 2048) : rowVar x (ix3 0 r 0) = var fun k => x (ix3 0 r k) := by
  unfold var mean
  pointwise [rowVar, count_at, centred_at]
  rw [if_pos c128_pos]

/-- The reference's layer norm of a row. -/
def normR (x g b : Fin 128 → EReal) (k : Fin 128) : EReal := Ideal.div (dev x k) (Ideal.sqrt (var x + cEps)) * g k + b k

theorem lnorm_at (x : FVec Ideal S1x2048x128 .f32) (g b : FVec Ideal S128 .f32) (r : Fin 2048) (k : Fin 128) :
    lnorm x g b (ix3 0 r k) = normR (fun k => x (ix3 0 r k)) (fun k => g (ix1 k)) (fun k => b (ix1 k)) k := by
  unfold normR
  pointwise [lnorm, centred_at, rowVar_at]

/-- It is the layer norm. -/
theorem normR_eq (x g b : Fin 128 → EReal) : normR x g b = norm x g b := by
  funext k
  unfold normR norm
  rw [div_sqrt _ _ (var_pos x)]

theorem scores_at (h : FVec Ideal S1x2048x128 .f32) (rw : FVec Ideal S128x8 .f32) (rb : FVec Ideal S8 .f32) (r : Fin 2048) (e : Fin 8) :
    scores h rw rb (ix3 0 r e) = Ideal.div (∑ k, h (ix3 0 r k) * rw (ix2 k e) + rb (ix1 e)) cHalf := by
  pointwise [scores]

theorem exps_at (s : FVec Ideal S1x2048x8 .f32) (r : Fin 2048) (e : Fin 8) : exps s (ix3 0 r e) = expo (fun e => s (ix3 0 r e)) e := by
  unfold expo top
  pointwise [exps]
  rw [max_low]

theorem weights_at (s : FVec Ideal S1x2048x8 .f32) (r : Fin 2048) (e : Fin 8) : weights s (ix3 0 r e) = soft (fun e => s (ix3 0 r e)) e := by
  unfold soft
  pointwise [weights, exps_at]

theorem preact_at (h : FVec Ideal S1x2048x128 .f32) (w1 : FVec Ideal S8x128x512 .f32) (b1 : FVec Ideal S8x512 .f32) (r : Fin 2048) (e : Fin 8) (f : Fin 512) :
    preact h w1 b1 (ix4 0 r e f) = unit (fun k => h (ix3 0 r k)) (fun k => w1 (ix3 e k f)) (b1 (ix2 e f)) := by
  unfold unit
  pointwise [preact]

theorem act_at (p : FVec Ideal S1x2048x8x512 .f32) (r : Fin 2048) (e : Fin 8) (f : Fin 512) : act p (ix4 0 r e f) = gelu (p (ix4 0 r e f)) := by
  unfold gelu
  pointwise [act]
  rw [mul_assoc (p _) (p _) (p _)]

theorem outs_at (a : FVec Ideal S1x2048x8x512 .f32) (w2 : FVec Ideal S8x512x128 .f32) (b2 : FVec Ideal S8x128 .f32) (r : Fin 2048) (e : Fin 8) (d : Fin 128) :
    outs a w2 b2 (ix4 0 r e d) = ∑ f, a (ix4 0 r e f) * w2 (ix3 e f d) + b2 (ix2 e d) := by
  pointwise [outs]
  rw [Finset.sum_congr rfl fun f _ => mul_comm (a (ix4 0 r e f)) (w2 (ix3 e f d))]

theorem mix_at (w : FVec Ideal S1x2048x8 .f32) (o : FVec Ideal S1x2048x8x128 .f32) (r : Fin 2048) (d : Fin 128) :
    mix w o (ix3 0 r d) = ∑ e, w (ix3 0 r e) * o (ix4 0 r e d) := by
  pointwise [mix]

theorem project_at (h : FVec Ideal S1x2048x128 .f32) (pw : FVec Ideal S128x32000 .f32) (pb : FVec Ideal S32000 .f32) (r : Fin 2048) (v : Fin 32000) :
    project h pw pb (ix3 0 r v) = ∑ k, h (ix3 0 r k) * pw (ix2 k v) + pb (ix1 v) := by
  pointwise [project]

end Cert.Proof.Moe.Ref

end
-- ==== Proof.RTok.lean ====
/-
  The rows the reference's first norm is taken of, at an entry: the table's row at the id plus the position's own row,
  where every id is below the table's rows.
-/
module

public import proofs.«01_k».proof.Proof.RRow

@[expose] public section

set_option maxRecDepth 16384

noncomputable section

namespace Cert.Proof.Moe.Ref

open Cert.ReferenceIdeal Cert.ReferenceIdeal.Gen
open Idealize.ShloMosaic Idealize.ShloMosaic.TcCoe

/-- An id below the table's rows is not negative and at most the last row, signed. -/
theorem signed (v : BitVec 32) (h : v.toNat < 32000) : v.toInt = (v.toNat : ℤ) := by
  rw [BitVec.toInt_eq_toNat_cond, if_pos (by omega)]

theorem not_neg (v : BitVec 32) (h : v.toNat < 32000) : IntOp.cmpi .slt v 0#32 ≠ 1#1 := fun h' => by
  have := IntOp.cmpi_slt.1 h'
  rw [signed v h] at this
  exact absurd this (not_lt.2 (Int.natCast_nonneg _))

theorem in_bounds (v : BitVec 32) (h : v.toNat < 32000) :
    IntOp.andi (IntOp.cmpi .sge v 0#32) (IntOp.cmpi .sle v 31999#32) = 1#1 := by
  have h1 : IntOp.cmpi .sge v 0#32 = 1#1 := IntOp.cmpi_sge.2 (by rw [signed v h]; exact Int.natCast_nonneg _)
  have h2 : IntOp.cmpi .sle v 31999#32 = 1#1 := IntOp.cmpi_sle.2 (by
    rw [signed v h]
    show (v.toNat : ℤ) ≤ 31999
    omega)
  rw [h1, h2]; rfl

/-- An id in the table is not wrapped. -/
theorem wrapped_at (ids : IVec S1x2048 32) (r : Fin 2048) (h : (ids (ix2 0 r)).toNat < 32000) : wrapped ids (ix3 0 r 0) = ids (ix2 0 r) := by
  pointwise [wrapped]
  exact if_neg (not_neg _ h)

theorem gather_tab (ids : IVec S1x2048x1 32) (tab : FVec Ideal S32000x128 .f32) (r : Fin 2048) (k : Fin 128) (h : (ids (ix3 0 r 0)).toNat < 32000) :
    Host.gather gather_S32000x128_S1x2048x1_S1x2048x128_2_0_n_n_0_2_1128 tab ids (ix3 0 r k) = tab (ix2 ⟨(ids (ix3 0 r 0)).toNat, h⟩ k) := by
  have hs : gather_S32000x128_S1x2048x1_S1x2048x128_2_0_n_n_0_2_1128.start (ix3 0 r k) ids 0 = (ids (ix3 0 r 0)).toNat := by
    unfold GatherDims.start
    rw [dif_pos (by decide)]
    have e : gather_S32000x128_S1x2048x1_S1x2048x128_2_0_n_n_0_2_1128.siIdx (ix3 0 r k) ⟨0, by decide⟩ = (ix3 0 r 0 : S1x2048x1.Idx) := by
      funext a; fin_cases a <;> rfl
    show min (ids (gather_S32000x128_S1x2048x1_S1x2048x128_2_0_n_n_0_2_1128.siIdx (ix3 0 r k) ⟨0, _⟩)).toInt.toNat 31999 = _
    rw [e, signed _ h]
    exact min_eq_left (by rw [Int.toNat_natCast]; omega)
  unfold Host.gather
  refine congrArg tab (funext fun a => Fin.ext ?_)
  fin_cases a
  · exact hs
  · exact Nat.zero_add _

/-- The token row of an id in the table is the table's row. -/
theorem tokens_at (ids : IVec S1x2048x1 32) (tab : FVec Ideal S32000x128 .f32) (r : Fin 2048) (k : Fin 128) (h : (ids (ix3 0 r 0)).toNat < 32000) :
    tokens ids tab (ix3 0 r k) = tab (ix2 ⟨(ids (ix3 0 r 0)).toNat, h⟩ k) := by
  pointwise [tokens]
  rw [gather_tab _ _ _ _ h]
  refine if_pos ?_
  rw [Finset.univ_unique, Finset.fold_singleton]
  show IntOp.andi (IntOp.andi (IntOp.cmpi .sge (ids (ix3 0 r 0)) 0#32) (IntOp.cmpi .sle (ids (ix3 0 r 0)) 31999#32)) 1#1 = 1#1
  rw [in_bounds _ h]; rfl

theorem gather_pos (idx : IVec S2048x1 32) (pos : FVec Ideal S2048x128 .f32) (r : Fin 2048) (k : Fin 128) (h : idx (ix2 r 0) = BitVec.ofNat 32 r.val) :
    Host.gather gather_S2048x128_S2048x1_S2048x128_1_0_n_n_0_1_1128 pos idx (ix2 r k) = pos (ix2 r k) := by
  have hr := r.isLt
  have hn : (BitVec.ofNat 32 r.val).toNat = r.val := by rw [BitVec.toNat_ofNat]; omega
  have hs : gather_S2048x128_S2048x1_S2048x128_1_0_n_n_0_1_1128.start (ix2 r k) idx 0 = r.val := by
    unfold GatherDims.start
    rw [dif_pos (by decide)]
    have e : gather_S2048x128_S2048x1_S2048x128_1_0_n_n_0_1_1128.siIdx (ix2 r k) ⟨0, by decide⟩ = (ix2 r 0 : S2048x1.Idx) := by
      funext a; fin_cases a <;> rfl
    show min (idx (gather_S2048x128_S2048x1_S2048x128_1_0_n_n_0_1_1128.siIdx (ix2 r k) ⟨0, _⟩)).toInt.toNat 2047 = _
    rw [e, h, signed _ (by omega), hn]
    exact min_eq_left (by rw [Int.toNat_natCast]; omega)
  unfold Host.gather
  refine congrArg pos (funext fun a => Fin.ext ?_)
  fin_cases a
  · exact hs
  · exact Nat.zero_add _

/-- Position `r`'s row is the table of positions' row `r`. -/
theorem positions_at (pos : FVec Ideal S2048x128 .f32) (r : Fin 2048) (k : Fin 128) : positions pos (ix2 r k) = pos (ix2 r k) := by
  refine gather_pos _ pos r k ?_
  have hr := r.isLt
  have hn : (BitVec.ofNat 32 r.val).toNat = r.val := by rw [BitVec.toNat_ofNat]; omega
  pointwise
  exact if_neg (not_neg _ (by omega))

/-- The rows the first norm is taken of, at an entry. -/
theorem rows_at (ids : IVec S1x2048 32) (tab : FVec Ideal S32000x128 .f32) (pos : FVec Ideal S2048x128 .f32) (r : Fin 2048) (k : Fin 128)
    (h : (ids (ix2 0 r)).toNat < 32000) : rows ids tab pos (ix3 0 r k) = tab (ix2 ⟨(ids (ix2 0 r)).toNat, h⟩ k) + pos (ix2 r k) := by
  have hw := wrapped_at ids r h
  pointwise [rows]
  rw [positions_at, tokens_at _ _ _ _ (by rw [hw]; exact h)]
  congr 4
  exact congrArg BitVec.toNat hw

end Cert.Proof.Moe.Ref

end
-- ==== Proof.Picks.lean ====
/-
  The two greatest of eight. The kernel takes the first place of the greatest, strikes that place out and takes the
  first place of the greatest again; the reference sorts the eight and keeps the first two places. On reals they agree.
-/
module

public import Idealize.ShloMosaic.Lib.SortPrefix
public import proofs.«01_k».proof.Proof.Norm

@[expose] public section

noncomputable section

namespace Cert.Proof.Moe

open Idealize.ShloMosaic

/-- `i` is the first place of the greatest of eight. -/
def First (w : Fin 8 → EReal) (i : Fin 8) : Prop := w i = top w ∧ ∀ j, j < i → w j ≠ top w

theorem exists_first (w : Fin 8 → EReal) : ∃ i, First w i := by
  classical
  obtain ⟨e, he⟩ := top_mem w
  have hne : (Finset.univ.filter fun e => w e = top w).Nonempty := ⟨e, by simp [he]⟩
  refine ⟨(Finset.univ.filter fun e => w e = top w).min' hne, (Finset.mem_filter.1 (Finset.min'_mem _ hne)).2, fun j hj h => ?_⟩
  exact absurd (Finset.min'_le _ j (by simp [h])) (not_le.2 hj)

theorem minsi_toInt (x y : BitVec 32) : (IntOp.minsi x y).toInt = min x.toInt y.toInt := by
  unfold IntOp.minsi
  by_cases h : x.toInt < y.toInt
  · rw [if_pos (BitVec.slt_iff_toInt_lt.2 h), min_eq_left h.le]
  · rw [if_neg (fun h' => h (BitVec.slt_iff_toInt_lt.1 h')), min_eq_right (not_lt.1 h)]

theorem toInt_place (e : Fin 8) : (BitVec.ofNat 32 e.val).toInt = (e.val : ℤ) := by fin_cases e <;> rfl

/-- The least of the places of the greatest is the first. -/
theorem firstOf_eq (w : Fin 8 → EReal) (i : Fin 8) (h : First w i) : firstOf w = BitVec.ofNat 32 i.val := by
  apply BitVec.eq_of_toInt_eq
  unfold firstOf
  rw [← Finset.fold_hom (op' := min) (m := BitVec.toInt) minsi_toInt, toInt_place]
  refine le_antisymm ?_ ?_
  · refine (Finset.fold_min_le _).2 (Or.inr ⟨i, Finset.mem_univ i, ?_⟩)
    rw [if_pos h.1, toInt_place]
  · refine (Finset.le_fold_min _).2 ⟨?_, fun e _ => ?_⟩
    · have := i.isLt
      show (i.val : ℤ) ≤ 2147483647
      omega
    · by_cases he : w e = top w
      · rw [if_pos he, toInt_place]
        exact_mod_cast (not_lt.1 fun hl => h.2 e hl he : i ≤ e)
      · rw [if_neg he]
        have := i.isLt
        show (i.val : ℤ) ≤ 8
        omega

theorem place_inj (e i : Fin 8) (h : BitVec.ofNat 32 e.val = BitVec.ofNat 32 i.val) : e = i := by
  have := congrArg BitVec.toInt h
  rw [toInt_place, toInt_place] at this
  exact Fin.ext (by exact_mod_cast this)

/-- Eight values with place `i` struck out, at `i`, -/
theorem strike_self (w : Fin 8 → EReal) (i : Fin 8) : strike w (BitVec.ofNat 32 i.val) i = ⊥ := by
  unfold strike; rw [if_pos rfl, cLow_eq]
/-- and elsewhere. -/
theorem strike_ne (w : Fin 8 → EReal) (i e : Fin 8) (h : e ≠ i) : strike w (BitVec.ofNat 32 i.val) e = w e := by
  unfold strike; rw [if_neg fun h' => h (place_inj e i h')]

/-! ## The stable sort by "greater" -/

/-- "Greater, and of equals the earlier": the order a stable sort by "greater" leaves. -/
def ahead (w : Fin 8 → EReal) (k k' : Fin 8) : Bool := decide (w k' < w k) || (decide (w k = w k') && decide (k < k'))

theorem ahead_total (w : Fin 8 → EReal) : StrictTotalBefore (ahead w) :=
  StrictTotalBefore.of_key_then_position (fun a b : EReal => decide (b < a)) w (fun _ => by simp)
    (fun a b c h h' => by
      rw [decide_eq_true_eq] at *
      exact h'.trans h)
    fun a b => by
      rcases lt_trichotomy a b with h | h | h
      · exact Or.inr (Or.inr (decide_eq_true h))
      · exact Or.inr (Or.inl h)
      · exact Or.inl (decide_eq_true h)

/-- On a list in order a stable sort by "greater" is the sort by that order. -/
theorem stableSort_ahead (w : Fin 8 → EReal) (l : List (Fin 8)) (hl : l.Pairwise (· < ·)) :
    stableSort (fun k k' => decide (w k' < w k)) l = stableSort (ahead w) l := by
  induction l with
  | nil => rfl
  | cons a l ih =>
    unfold stableSort
    rw [ih (List.pairwise_cons.1 hl).2]
    refine insertBefore_congr _ _ a _ fun b hb => ?_
    have hab : a < b := (List.pairwise_cons.1 hl).1 b ((perm_stableSort _ l).mem_iff.1 hb)
    have : decide (b < a) = false := decide_eq_false (not_lt.2 hab.le)
    unfold ahead
    rw [this, Bool.and_false, Bool.or_false]

theorem sortedFrom_ahead (w : Fin 8 → EReal) (k : Fin 8) : sortedFrom (fun k k' => decide (w k' < w k)) k = sortedFrom (ahead w) k := by
  unfold sortedFrom
  rw [List.get_eq_getElem, List.get_eq_getElem]
  exact List.getElem_of_eq (stableSort_ahead w _ (List.pairwise_lt_finRange 8)) _

/-- The first place of the greatest, then the first place of the greatest of the rest, are the sort's first two. -/
theorem sorted_two (w : Fin 8 → EReal) (hw : ∀ e, w e ≠ ⊥) (i i' : Fin 8) (h : First w i)
    (h' : First (strike w (BitVec.ofNat 32 i.val)) i') :
    sortedFrom (fun k k' => decide (w k' < w k)) 0 = i ∧ sortedFrom (fun k k' => decide (w k' < w k)) 1 = i' := by
  have hne : i' ≠ i := by
    rintro rfl
    obtain ⟨e, he⟩ : ∃ e : Fin 8, e ≠ i' := exists_ne i'
    have h1 := le_top' (strike w (BitVec.ofNat 32 i'.val)) e
    rw [strike_ne w i' e he, ← h'.1, strike_self] at h1
    exact hw e (le_bot_iff.1 h1)
  have htop : ∀ e, e ≠ i → w e ≤ w i' := fun e he => by
    have h1 := le_top' (strike w (BitVec.ofNat 32 i.val)) e
    rwa [strike_ne w i e he, ← h'.1, strike_ne w i i' hne] at h1
  have hfst : ∀ e, w e = w i → i ≤ e := fun e he => not_lt.1 fun hl => h.2 e hl (he.trans h.1)
  have hsnd : ∀ e, e ≠ i → w e = w i' → i' ≤ e := fun e hi he => not_lt.1 fun hl => h'.2 e hl (by
    rw [← h'.1, strike_ne w i e hi, strike_ne w i i' hne, he])
  have hle : ∀ e, w e ≤ w i := fun e => h.1 ▸ le_top' w e
  have not_ahead : ∀ a b, w a ≤ w b → (w a = w b → b ≤ a) → ahead w a b = false := fun a b h1 h2 => by
    unfold ahead
    rw [decide_eq_false (not_lt.2 h1), Bool.false_or, Bool.and_eq_false_iff]
    by_cases e : w a = w b
    · exact Or.inr (decide_eq_false (not_lt.2 (h2 e)))
    · exact Or.inl (decide_eq_false e)
  have key := (ahead_total w).sortedFrom_eq_of_prefix (k := 2) (by decide) ![i, i'] ?_ ?_ ?_
  · exact ⟨(sortedFrom_ahead w 0).trans (key 0), (sortedFrom_ahead w 1).trans (key 1)⟩
  · intro a b hab
    fin_cases a <;> fin_cases b <;> first | rfl | exact absurd hab hne | exact absurd hab.symm hne
  · intro a b hab
    fin_cases a <;> fin_cases b <;> first | exact absurd hab (by decide) | exact not_ahead _ _ (hle _) (hfst _)
  · intro a p hp
    have hp0 : p ≠ i := fun e => hp 0 e.symm
    fin_cases a
    · exact not_ahead _ _ (hle _) (hfst _)
    · exact not_ahead _ _ (htop p hp0) (hsnd p hp0)

end Cert.Proof.Moe

end
-- ==== Proof.RRes.lean ====
/-
  The reference's results as the row functions' arrays, and each at an entry.
-/
module

public import proofs.«01_k».proof.Proof.RTok
public import proofs.«01_k».proof.Proof.Picks
public import proofs.«01_k».proof.Proof.Net

@[expose] public section

set_option maxRecDepth 16384

noncomputable section

namespace Cert.Proof.Moe.Ref

open Cert.ReferenceIdeal Cert.ReferenceIdeal.Gen Cert.ReferenceIdeal.Value
open Idealize.ShloMosaic Idealize.ShloMosaic.TcCoe

variable (V0 : Valuation τ sig (Elt Ideal))

/-- The rows after the first norm. -/
def rHid : FVec Ideal S1x2048x128 .f32 :=
  lnorm (rows (V0 (Proc.devRef .tc main_arg0)) (V0 (Proc.devRef .tc main_arg1)) (V0 (Proc.devRef .tc main_arg2))) (V0 (Proc.devRef .tc main_arg3)) (V0 (Proc.devRef .tc main_arg4))
/-- The router's weights. -/
def rWts : FVec Ideal S1x2048x8 .f32 := weights (scores (rHid V0) (V0 (Proc.devRef .tc main_arg5)) (V0 (Proc.devRef .tc main_arg6)))
/-- The experts' weighted sum. -/
def rMix : FVec Ideal S1x2048x128 .f32 :=
  mix (rWts V0) (outs (act (preact (rHid V0) (V0 (Proc.devRef .tc main_arg7)) (V0 (Proc.devRef .tc main_arg8)))) (V0 (Proc.devRef .tc main_arg9)) (V0 (Proc.devRef .tc main_arg10)))
/-- The logits. -/
def rLogits : FVec Ideal S1x2048x32000 .f32 :=
  project (lnorm (rMix V0) (V0 (Proc.devRef .tc main_arg11)) (V0 (Proc.devRef .tc main_arg12))) (V0 (Proc.devRef .tc main_arg13)) (V0 (Proc.devRef .tc main_arg14))

theorem res_v28 : res_main_v28 (F := Ideal) V0 = rHid V0 := rfl
theorem res_v45 : res_main_v45 (F := Ideal) V0 = rWts V0 := rfl
theorem res_v68 : res_main_v68 (F := Ideal) V0 = rMix V0 := rfl

/-- The computation on the arguments. -/
def rNet : Net :=
  netOf (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))
    (V0 (Proc.devRef .tc main_arg8)) (V0 (Proc.devRef .tc main_arg9)) (V0 (Proc.devRef .tc main_arg10)) (V0 (Proc.devRef .tc main_arg11))
    (V0 (Proc.devRef .tc main_arg12)) (V0 (Proc.devRef .tc main_arg13)) (V0 (Proc.devRef .tc main_arg14))

/-- Every id names a row of the table. -/
def InTable : Prop := ∀ r : Fin 2048, ((V0 (Proc.devRef .tc main_arg0) : IVec S1x2048 32) (ix2 0 r)).toNat < 32000

variable {V0} (hV : InTable V0)
include hV

theorem rHid_at (r : Fin 2048) (k : Fin 128) : rHid V0 (ix3 0 r k) = (rNet V0).hid r k := by
  unfold rHid
  rw [lnorm_at, normR_eq]
  unfold Net.hid
  congr 1
  funext k
  rw [rows_at _ _ _ _ _ (hV r)]
  have e : ∀ n (h : n < 32000), (⟨n, h⟩ : Fin 32000) = ⟨n % 32000, Nat.mod_lt _ (by decide)⟩ := fun n h => Fin.ext (Nat.mod_eq_of_lt h).symm
  rw [e]
  rfl

theorem rWts_at (r : Fin 2048) (e : Fin 8) : rWts V0 (ix3 0 r e) = (rNet V0).wts r e := by
  unfold rWts
  rw [weights_at]
  unfold Net.wts
  congr 1
  funext e
  rw [scores_at, div_half]
  simp only [rHid_at hV]
  rfl

theorem rMix_at (r : Fin 2048) (d : Fin 128) : rMix V0 (ix3 0 r d) = (rNet V0).mix r d := by
  unfold rMix
  rw [mix_at]
  unfold Net.mix
  refine Finset.sum_congr rfl fun e _ => ?_
  rw [rWts_at hV, outs_at]
  simp only [act_at, preact_at, rHid_at hV]
  rfl

/-- The reference's logits. -/
theorem rLogits_at (r : Fin 2048) (v : Fin 32000) : rLogits V0 (ix3 0 r v) = (rNet V0).logit r v := by
  unfold rLogits
  rw [project_at]
  unfold Net.logit
  simp only [lnorm_at, normR_eq, rMix_at hV]
  rfl

omit hV in
/-- A row's `j`-th selected place is the place a sort of the row by "greater" puts at `j`. -/
theorem pick_at (w : FVec Ideal S1x2048x8 .f32) (r : Fin 2048) (j : Fin 2) :
    (Host.topK S1x2048x2 2 (FloatOps.cmpfTotal (F := Ideal) (φ := .f32) .gt) w sliceFits_S1x2048x8_S1x2048x2).2 (ix3 0 r j)
      = BitVec.ofNat 32 (sortedFrom (fun k k' : Fin 8 =>
          FloatOps.cmpfTotal (F := Ideal) (φ := .f32) .gt (w (ix3 0 r k)) (w (ix3 0 r k')) == 1#1) (j.castLE (by decide))).val := by
  have hal : ∀ (q : S1x2048x8.Idx) (k : Fin 8), q 0 = (0 : Fin 1) → q 1 = r → q.along 2 k = ix3 0 r k := fun q k h0 h1 => by
    funext a; fin_cases a
    · exact h0
    · exact h1
    · rfl
  let q : S1x2048x8.Idx := fun a => ⟨0 + (ix3 (0 : Fin 1) r j (a.cast sliceFits_S1x2048x8_S1x2048x2.1.symm)).val,
    Nat.lt_of_lt_of_le (Nat.add_lt_add_left (Fin.isLt _) _) (sliceFits_S1x2048x8_S1x2048x2.2 a)⟩
  have h0 : q 0 = (0 : Fin 1) := rfl
  have h1 : q 1 = r := Fin.ext (Nat.zero_add _)
  have h2 : q 2 = (j.castLE (by decide) : Fin 8) := Fin.ext (Nat.zero_add _)
  have key : (Host.topK S1x2048x2 2 (FloatOps.cmpfTotal (F := Ideal) (φ := .f32) .gt) w sliceFits_S1x2048x8_S1x2048x2).2 (ix3 0 r j)
      = BitVec.ofNat 32 ((q.along 2 (sortedFrom (fun k k' : Fin 8 =>
          FloatOps.cmpfTotal (F := Ideal) (φ := .f32) .gt (w (q.along 2 k)) (w (q.along 2 k')) == 1#1) (q 2))) 2).val := rfl
  rw [key, h2]
  simp only [hal q _ h0 h1]
  rfl

/-- The reference's selected experts: the places of the two greatest weights of a row. -/
theorem rSel_at (r : Fin 2048) (hw : ∀ e, (rNet V0).wts r e ≠ ⊥) (j : Fin 2) :
    (Host.topK S1x2048x2 2 (FloatOps.cmpfTotal .gt) (rWts V0) sliceFits_S1x2048x8_S1x2048x2).2 (ix3 0 r j)
      = (![firstOf ((rNet V0).wts r), firstOf (strike ((rNet V0).wts r) (firstOf ((rNet V0).wts r)))] : Fin 2 → BitVec 32) j := by
  obtain ⟨i, hi⟩ := exists_first ((rNet V0).wts r)
  obtain ⟨i', hi'⟩ := exists_first (strike ((rNet V0).wts r) (BitVec.ofNat 32 i.val))
  obtain ⟨h0, h1⟩ := sorted_two _ hw i i' hi hi'
  have hB : (fun k k' : Fin 8 => FloatOps.cmpfTotal (F := Ideal) (φ := .f32) .gt (rWts V0 (ix3 0 r k)) (rWts V0 (ix3 0 r k')) == 1#1)
      = fun k k' => decide ((rNet V0).wts r k' < (rNet V0).wts r k) := by
    funext k k'
    rw [rWts_at hV, rWts_at hV]
    show (BitVec.ofBool (decide ((rNet V0).wts r k' < (rNet V0).wts r k)) == 1#1) = _
    cases decide ((rNet V0).wts r k' < (rNet V0).wts r k) <;> rfl
  rw [firstOf_eq _ _ hi, firstOf_eq _ _ hi']
  fin_cases j
  · rw [← h0, ← hB]; exact pick_at _ r 0
  · rw [← h1, ← hB]; exact pick_at _ r 1

end Cert.Proof.Moe.Ref

end
-- ==== Proof.Agree.lean ====
/-
  The two programs' results agree: both are the same computation on the arguments, read at every entry.
-/
module

public import proofs.«01_k».proof.Proof.Final
public import proofs.«01_k».proof.Proof.RealRouter
public import proofs.«01_k».proof.Proof.RRes

@[expose] public section

set_option maxRecDepth 16384

noncomputable section

namespace Cert.Proof.Moe

open Cert.KernelIdeal Cert.KernelIdeal.Gen
open Idealize.ShloMosaic Idealize.ShloMosaic.TcCoe
open Idealize.SL Idealize.SL.Sem

variable (m : (ℓ : Loc nD τ sig) → Buf (Elt Ideal) ℓ)

/-- The computation on the kernel's arguments. -/
def argNet (c : Dev nD) : Net :=
  netOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))

/-- The rows the SparseCore call leaves, at an entry. -/
theorem X3_rows (c : Dev nD) (r : Fin 2048) (k : Fin 128) :
    (X3 m c (Proc.devRef .tc main_v1) : FVec Ideal S2048x128 .f32) (Idealize.ShloMosaic.ix2 r k)
      = (m ((c : Thread nD τ).loc main_arg1) : FVec Ideal S32000x128 .f32)
          (Idealize.ShloMosaic.ix2 ⟨((m ((c : Thread nD τ).loc main_arg0) : IVec S1x2048 32) (Idealize.ShloMosaic.ix2 0 r)).toNat % 32000, Nat.mod_lt _ (by decide)⟩ k) := by
  have e0 : X3 m c (Proc.devRef .tc main_v1) = gathered (F := Ideal) (tabA m c) (idsA m c) :=
    (StableHlo.reshape_result_ne _ _ _ _ _ _ (X2 m c) (show main_v1 ≠ main_v2 by decide)).trans (X2_rows m c)
  rw [tabA_eq, idsA_eq] at e0
  refine (congrFun e0 (Idealize.ShloMosaic.ix2 r k)).trans ?_
  unfold gathered
  have e1 : (ix1 r : S2048.Idx) = Idealize.ShloMosaic.ix1 r := by
    funext i; fin_cases i; rfl
  have ei : shapeCast S2048 (m ((c : Thread nD τ).loc main_arg0) : IVec S1x2048 32) shapeCasts_S1x2048_S2048 (ix1 r)
      = (m ((c : Thread nD τ).loc main_arg0) : IVec S1x2048 32) (Idealize.ShloMosaic.ix2 0 r) := by
    rw [e1]
    pointwise
  refine (congrArg (m ((c : Thread nD τ).loc main_arg1) : FVec Ideal S32000x128 .f32) (at2 (a := 32000) (b := 128) _)).trans ?_
  exact congrArg (fun n : BitVec 32 => (m ((c : Thread nD τ).loc main_arg1) : FVec Ideal S32000x128 .f32)
    (Idealize.ShloMosaic.ix2 ⟨n.toNat % 32000, Nat.mod_lt _ (by decide)⟩ k)) ei

/-- The reshaped bias, at an entry. -/
theorem X3_bias (c : Dev nD) (v : Fin 32000) :
    (X3 m c (Proc.devRef .tc main_v2) : FVec Ideal S1x32000 .f32) (Idealize.ShloMosaic.ix2 0 v)
      = (m ((c : Thread nD τ).loc main_arg14) : FVec Ideal S32000 .f32) (Idealize.ShloMosaic.ix1 v) := by
  have e0 : X3 m c (Proc.devRef .tc main_v2) = shapeCast S1x32000 (X2 m c (Proc.devRef .tc main_arg14)) shapeCasts_S32000_S1x32000 :=
    StableHlo.reshape_result _ _ _ _ _ _ (X2 m c)
  have e1 : X2 m c (Proc.devRef .tc main_arg14) = m ((c : Thread nD τ).loc main_arg14) :=
    (X2_ne m c main_arg14 (by decide)).trans (StableHlo.reshape_result_ne _ _ _ _ _ _ (X0 m c) (show main_arg14 ≠ main_v0 by decide))
  rw [e1] at e0
  refine (congrFun e0 (Idealize.ShloMosaic.ix2 0 v)).trans ?_
  pointwise

/-- The region runs the computation on the kernel's arguments. -/
theorem kNet_eq (c : Dev nD) : kNet (ent (X3 m)) c = argNet m c := by
  have k : ∀ b : Ref sig .tc, b ∉ written → ent (X3 m) c b = m ((c : Thread nD τ).loc b) := fun b hb => X3_kept m c b hb
  have eRow : rowSum (ent (X3 m) c main_v1) (ent (X3 m) c main_arg2) = (argNet m c).row := by
    funext r q
    unfold rowSum
    rw [k main_arg2 (by decide)]
    exact congrArg (· + _) (X3_rows m c r q)
  have ePb : (fun v => (ent (X3 m) c main_v2 : FVec Ideal S1x32000 .f32) (Idealize.ShloMosaic.ix2 0 v)) = (argNet m c).pb := funext (X3_bias m c)
  unfold kNet
  rw [eRow, ePb, k main_arg3 (by decide), k main_arg4 (by decide), k main_arg5 (by decide), k main_arg6 (by decide), k main_arg7 (by decide),
    k main_arg8 (by decide), k main_arg9 (by decide), k main_arg10 (by decide), k main_arg11 (by decide), k main_arg12 (by decide), k main_arg13 (by decide)]
  rfl

/-! ## The kernel's results -/

section
variable {e : Type} (r : Fin 2048)

/-- A matrix under a leading extent of one, at an entry. -/
theorem lead_wide (x : S2048x32000.Idx → e) (v : Fin 32000) :
    shapeCast S1x2048x32000 x shapeCasts_S2048x32000_S1x2048x32000 (Idealize.ShloMosaic.ix3 0 r v) = x (Idealize.ShloMosaic.ix2 r v) := by
  pointwise
theorem lead_eight (x : S2048x8.Idx → e) (v : Fin 8) :
    shapeCast S1x2048x8 x shapeCasts_S2048x8_S1x2048x8 (Idealize.ShloMosaic.ix3 0 r v) = x (Idealize.ShloMosaic.ix2 r v) := by
  pointwise
theorem lead_two (x : S2048x2.Idx → e) (v : Fin 2) :
    shapeCast S1x2048x2 x shapeCasts_S2048x2_S1x2048x2 (Idealize.ShloMosaic.ix3 0 r v) = x (Idealize.ShloMosaic.ix2 r v) := by
  pointwise

end

theorem X7_logits (c : Dev nD) : X7 m c (Proc.devRef .tc main_v4) = shapeCast S1x2048x32000 (finLogits (X3 m) c) shapeCasts_S2048x32000_S1x2048x32000 := by
  refine (StableHlo.reshape_result_ne _ _ _ _ _ _ (X6 m c) (show main_v4 ≠ main_v6 by decide)).trans ?_
  refine (StableHlo.reshape_result_ne _ _ _ _ _ _ (X5 m c) (show main_v4 ≠ main_v5 by decide)).trans ?_
  refine (StableHlo.reshape_result _ _ _ _ _ _ (X4 m c)).trans ?_
  exact congrArg (fun x => shapeCast S1x2048x32000 x shapeCasts_S2048x32000_S1x2048x32000) (left_0 (X3 m) c)

theorem X7_wts (c : Dev nD) : X7 m c (Proc.devRef .tc main_v5) = shapeCast S1x2048x8 (finWts (X3 m) c) shapeCasts_S2048x8_S1x2048x8 := by
  refine (StableHlo.reshape_result_ne _ _ _ _ _ _ (X6 m c) (show main_v5 ≠ main_v6 by decide)).trans ?_
  refine (StableHlo.reshape_result _ _ _ _ _ _ (X5 m c)).trans ?_
  refine congrArg (fun x => shapeCast S1x2048x8 x shapeCasts_S2048x8_S1x2048x8) ?_
  exact (StableHlo.reshape_result_ne _ _ _ _ _ _ (X4 m c) (show main_v3_1 ≠ main_v4 by decide)).trans (left_1 (X3 m) c)

theorem X7_sel (c : Dev nD) : X7 m c (Proc.devRef .tc main_v6) = shapeCast S1x2048x2 (finSel (X3 m) c) shapeCasts_S2048x2_S1x2048x2 := by
  refine (StableHlo.reshape_result _ _ _ _ _ _ (X6 m c)).trans ?_
  refine congrArg (fun x => shapeCast S1x2048x2 x shapeCasts_S2048x2_S1x2048x2) ?_
  refine (StableHlo.reshape_result_ne _ _ _ _ _ _ (X5 m c) (show main_v3_2 ≠ main_v5 by decide)).trans ?_
  exact (StableHlo.reshape_result_ne _ _ _ _ _ _ (X4 m c) (show main_v3_2 ≠ main_v4 by decide)).trans (left_2 (X3 m) c)

variable {m}

/-- The kernel's logits at an entry. -/
theorem kLogits_at (c : Dev nD) (hN : ∀ r, ∃ p : Fin 8 → ℝ, (∀ e, 0 < p e) ∧ ∀ e, (argNet m c).wts r e = (p e : EReal)) (r : Fin 2048) (v : Fin 32000) :
    (X7 m c (Proc.devRef .tc main_v4) : FVec Ideal S1x2048x32000 .f32) (Idealize.ShloMosaic.ix3 0 r v) = (argNet m c).logit r v := by
  refine (congrFun (X7_logits m c) _).trans ?_
  refine (lead_wide r _ v).trans ?_
  rw [finLogits_eq (X3 m) c (by rw [kNet_eq]; exact hN), kNet_eq]
  rfl

/-- The kernel's weights at an entry. -/
theorem kWts_at (c : Dev nD) (r : Fin 2048) (e : Fin 8) :
    (X7 m c (Proc.devRef .tc main_v5) : FVec Ideal S1x2048x8 .f32) (Idealize.ShloMosaic.ix3 0 r e) = (argNet m c).wts r e := by
  refine (congrFun (X7_wts m c) _).trans ?_
  refine (lead_eight r _ e).trans ?_
  rw [finWts_eq, kNet_eq]
  rfl

/-- The kernel's selected experts at an entry. -/
theorem kSel_at (c : Dev nD) (r : Fin 2048) (j : Fin 2) :
    (X7 m c (Proc.devRef .tc main_v6) : IVec S1x2048x2 32) (Idealize.ShloMosaic.ix3 0 r j) = (argNet m c).picks r j := by
  refine (congrFun (X7_sel m c) _).trans ?_
  refine (lead_two r _ j).trans ?_
  rw [finSel_eq, kNet_eq]
  rfl

/-- An index of an array of rows whose first extent is one. -/
theorem at3 {n p : ℕ} (y : (⟨3, ![1, n, p]⟩ : Shape).Idx) : y = Idealize.ShloMosaic.ix3 0 (y 1) (y 2) := by
  funext i; fin_cases i
  · exact Subsingleton.elim (α := Fin 1) _ _
  · rfl
  · rfl

/-! ## The claim -/

section
variable {V0 : Valuation Cert.ReferenceIdeal.τ Cert.ReferenceIdeal.sig (Elt Ideal)} (hV : Ref.InTable V0) {c : Dev nD} (hnet : Ref.rNet V0 = argNet m c)
include hV hnet

/-- The reference's logits are the kernel's. -/
theorem logits_agree (hN : ∀ r, ∃ p : Fin 8 → ℝ, (∀ e, 0 < p e) ∧ ∀ e, (argNet m c).wts r e = (p e : EReal)) :
    Ref.rLogits V0 = (X7 m c (Proc.devRef .tc main_v4) : FVec Ideal S1x2048x32000 .f32) := by
  funext y
  rw [at3 y]
  refine (Ref.rLogits_at hV (y 1) (y 2)).trans ?_
  rw [hnet]
  exact (kLogits_at c hN (y 1) (y 2)).symm

/-- The reference's weights are the kernel's. -/
theorem wts_agree : Ref.rWts V0 = (X7 m c (Proc.devRef .tc main_v5) : FVec Ideal S1x2048x8 .f32) := by
  funext y
  rw [at3 y]
  refine (Ref.rWts_at hV (y 1) (y 2)).trans ?_
  rw [hnet]
  exact (kWts_at c (y 1) (y 2)).symm

/-- The reference's selected experts are the kernel's. -/
theorem sel_agree (hN : ∀ r, ∃ p : Fin 8 → ℝ, (∀ e, 0 < p e) ∧ ∀ e, (argNet m c).wts r e = (p e : EReal)) :
    (Host.topK Cert.ReferenceIdeal.S1x2048x2 2 (FloatOps.cmpfTotal .gt) (Ref.rWts V0) Cert.ReferenceIdeal.Gen.sliceFits_S1x2048x8_S1x2048x2).2
      = (X7 m c (Proc.devRef .tc main_v6) : IVec S1x2048x2 32) := by
  funext y
  rw [at3 y]
  refine (Ref.rSel_at hV (y 1) (fun e => ?_) (y 2)).trans ?_
  · obtain ⟨p, -, h⟩ := hN (y 1)
    rw [hnet, h e]
    exact EReal.coe_ne_bot _
  · rw [hnet]
    exact (kSel_at c (y 1) (y 2)).symm

end

/-- The two programs' arguments equal, so are the computations on them. -/
theorem net_agree (V0 : Valuation Cert.ReferenceIdeal.τ Cert.ReferenceIdeal.sig (Elt Ideal)) (c : Dev nD)
    (h0 : V0 (Proc.devRef .tc Cert.ReferenceIdeal.main_arg0) = m ((c : Thread nD τ).loc main_arg0))
    (h1 : V0 (Proc.devRef .tc Cert.ReferenceIdeal.main_arg1) = m ((c : Thread nD τ).loc main_arg1))
    (h2 : V0 (Proc.devRef .tc Cert.ReferenceIdeal.main_arg2) = m ((c : Thread nD τ).loc main_arg2))
    (h3 : V0 (Proc.devRef .tc Cert.ReferenceIdeal.main_arg3) = m ((c : Thread nD τ).loc main_arg3))
    (h4 : V0 (Proc.devRef .tc Cert.ReferenceIdeal.main_arg4) = m ((c : Thread nD τ).loc main_arg4))
    (h5 : V0 (Proc.devRef .tc Cert.ReferenceIdeal.main_arg5) = m ((c : Thread nD τ).loc main_arg5))
    (h6 : V0 (Proc.devRef .tc Cert.ReferenceIdeal.main_arg6) = m ((c : Thread nD τ).loc main_arg6))
    (h7 : V0 (Proc.devRef .tc Cert.ReferenceIdeal.main_arg7) = m ((c : Thread nD τ).loc main_arg7))
    (h8 : V0 (Proc.devRef .tc Cert.ReferenceIdeal.main_arg8) = m ((c : Thread nD τ).loc main_arg8))
    (h9 : V0 (Proc.devRef .tc Cert.ReferenceIdeal.main_arg9) = m ((c : Thread nD τ).loc main_arg9))
    (h10 : V0 (Proc.devRef .tc Cert.ReferenceIdeal.main_arg10) = m ((c : Thread nD τ).loc main_arg10))
    (h11 : V0 (Proc.devRef .tc Cert.ReferenceIdeal.main_arg11) = m ((c : Thread nD τ).loc main_arg11))
    (h12 : V0 (Proc.devRef .tc Cert.ReferenceIdeal.main_arg12) = m ((c : Thread nD τ).loc main_arg12))
    (h13 : V0 (Proc.devRef .tc Cert.ReferenceIdeal.main_arg13) = m ((c : Thread nD τ).loc main_arg13))
    (h14 : V0 (Proc.devRef .tc Cert.ReferenceIdeal.main_arg14) = m ((c : Thread nD τ).loc main_arg14)) :
    Ref.rNet V0 = argNet m c := by
  unfold Ref.rNet argNet
  rw [h0, h1, h2, h3, h4, h5, h6, h7, h8, h9, h10, h11, h12, h13, h14]

set_option maxHeartbeats 4000000 in
/-- Kernel and reference, over the extended reals, leave the same logits, the same weights and the same selected experts. -/
theorem algebraic : Cert.algebraic_KernelIdeal_ReferenceIdeal_pre_real_router := by
  intro m ρ m' ρ' hp harg
  have hpre := fun d => real_router _ _ _ _ _ _ _ _ _ _ _ _ _ _ _ (hp d)
  have hN : ∀ c r, ∃ p : Fin 8 → ℝ, (∀ e, 0 < p e) ∧ ∀ e, (argNet m c).wts r e = (p e : EReal) := fun c =>
    Net.wts_real (argNet m c) (fun k => (hpre c).2.1 _) (fun k => (hpre c).2.2.1 _) (fun k e => (hpre c).2.2.2.1 _) (fun e => (hpre c).2.2.2.2 _)
  have hnet : ∀ c : Dev nD, Ref.rNet (StableHlo.launchContents m' c) = argNet m c := fun c => by
    obtain ⟨h0, h1, h2, h3, h4, h5, h6, h7, h8, h9, h10, h11, h12, h13, h14⟩ := harg c
    exact net_agree _ c h0 h1 h2 h3 h4 h5 h6 h7 h8 h9 h10 h11 h12 h13 h14
  have hV : ∀ c : Dev nD, Ref.InTable (StableHlo.launchContents m' c) := fun c r => by
    have e := congrFun (harg c).1 (Idealize.ShloMosaic.ix2 0 r)
    exact (congrArg BitVec.toNat e).trans_lt ((hpre c).1 _)
  refine ⟨fun c => X7 m c (Proc.devRef .tc main_v4), fun c => X7 m c (Proc.devRef .tc main_v5), fun c => X7 m c (Proc.devRef .tc main_v6), ?_, ?_⟩
  · exact (θ_run Cert.KernelIdeal.defs _ _).mono
      (fun r h c => ⟨h.1 c main_v4 (by decide), h.1 c main_v5 (by decide), h.1 c main_v6 (by decide), args_kept m r h c⟩)
      (run_main m ρ (ids_ok m fun d j => (hpre d).1 j))
  · exact (θ_run Cert.ReferenceIdeal.defs _ _).mono
      (fun r h c => ⟨(h c).1.trans (logits_agree (hV c) (hnet c) (hN c)), (h c).2.1.trans (wts_agree (hV c) (hnet c)),
        (h c).2.2.1.trans (sel_agree (hV c) (hnet c) (hN c)), (h c).2.2.2⟩)
      (Cert.ReferenceIdeal.Value.run m' ρ')

end Cert.Proof.Moe

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Frames
public import proofs.«01_k».proof.Proof.RefFrame
public import proofs.«01_k».proof.Proof.RealRouter
public import proofs.«01_k».proof.Proof.Agree

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_in_range.Gen.facts, Moe.realRouterFacts,
    Moe.frame_bits, Moe.frame_ideal, Moe.frame_ideal_real, Moe.frame_reference, Moe.frame_reference_real, trivial, Moe.algebraic⟩

end Cert.Proof

end
